-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_pool [hPre_finite_pool : Cert.Pre_finite_pool.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pool [hPre_finite_pool : Cert.Pre_finite_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_sgu [hPre_finite_sgu : Cert.Pre_finite_sgu.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_sgu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_sgu [hPre_finite_sgu : Cert.Pre_finite_sgu.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_sgu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_pool_step [hPre_finite_pool_step : Cert.Pre_finite_pool_step.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_pool_step.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_pool_step [hPre_finite_pool_step : Cert.Pre_finite_pool_step.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_pool_step.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_sgu_step [hPre_finite_sgu_step : Cert.Pre_finite_sgu_step.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_sgu_step.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_sgu_step [hPre_finite_sgu_step : Cert.Pre_finite_sgu_step.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_sgu_step.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_pool [hKernelIdeal : Cert.KernelIdeal.Facts] [hPre_finite_pool : Cert.Pre_finite_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pool m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_pool [hReferenceIdeal : Cert.ReferenceIdeal.Facts] [hPre_finite_pool : Cert.Pre_finite_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_sgu [hKernel2Ideal : Cert.Kernel2Ideal.Facts] [hPre_finite_sgu : Cert.Pre_finite_sgu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_sgu m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_sgu [hReference2Ideal : Cert.Reference2Ideal.Facts] [hPre_finite_sgu : Cert.Pre_finite_sgu.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_sgu m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_pool_step [hKernel3Ideal : Cert.Kernel3Ideal.Facts] [hPre_finite_pool_step : Cert.Pre_finite_pool_step.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_pool_step m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_pool_step [hReference3Ideal : Cert.Reference3Ideal.Facts] [hPre_finite_pool_step : Cert.Pre_finite_pool_step.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_pool_step m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_sgu_step [hKernel4Ideal : Cert.Kernel4Ideal.Facts] [hPre_finite_sgu_step : Cert.Pre_finite_sgu_step.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_sgu_step m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_sgu_step [hReference4Ideal : Cert.Reference4Ideal.Facts] [hPre_finite_sgu_step : Cert.Pre_finite_sgu_step.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_sgu_step m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_finite_pool [hKernelIdeal : Cert.KernelIdeal.Facts] [hReferenceIdeal : Cert.ReferenceIdeal.Facts] [hPre_finite_pool : Cert.Pre_finite_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pool m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_sgu [hKernel2Ideal : Cert.Kernel2Ideal.Facts] [hReference2Ideal : Cert.Reference2Ideal.Facts] [hPre_finite_sgu : Cert.Pre_finite_sgu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_sgu m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_pool_step [hKernel3Ideal : Cert.Kernel3Ideal.Facts] [hReference3Ideal : Cert.Reference3Ideal.Facts] [hPre_finite_pool_step : Cert.Pre_finite_pool_step.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_pool_step m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_sgu_step [hKernel4Ideal : Cert.Kernel4Ideal.Facts] [hReference4Ideal : Cert.Reference4Ideal.Facts] [hPre_finite_sgu_step : Cert.Pre_finite_sgu_step.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_sgu_step m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_pool : Cert.Pre_finite_pool.Facts) (hPre_finite_sgu : Cert.Pre_finite_sgu.Facts) (hPre_finite_pool_step : Cert.Pre_finite_pool_step.Facts) (hPre_finite_sgu_step : Cert.Pre_finite_sgu_step.Facts),
    quiescent_Kernel (hKernel := hKernel)
    ∧ quiescent_KernelIdeal (hKernelIdeal := hKernelIdeal)
    ∧ quiescent_KernelIdeal_pre_finite_pool (hKernelIdeal := hKernelIdeal) (hPre_finite_pool := hPre_finite_pool)
    ∧ quiescent_ReferenceIdeal (hReferenceIdeal := hReferenceIdeal)
    ∧ quiescent_ReferenceIdeal_pre_finite_pool (hReferenceIdeal := hReferenceIdeal) (hPre_finite_pool := hPre_finite_pool)
    ∧ quiescent_Kernel2 (hKernel2 := hKernel2)
    ∧ quiescent_Kernel2Ideal (hKernel2Ideal := hKernel2Ideal)
    ∧ quiescent_Kernel2Ideal_pre_finite_sgu (hKernel2Ideal := hKernel2Ideal) (hPre_finite_sgu := hPre_finite_sgu)
    ∧ quiescent_Reference2Ideal (hReference2Ideal := hReference2Ideal)
    ∧ quiescent_Reference2Ideal_pre_finite_sgu (hReference2Ideal := hReference2Ideal) (hPre_finite_sgu := hPre_finite_sgu)
    ∧ quiescent_Kernel3 (hKernel3 := hKernel3)
    ∧ quiescent_Kernel3Ideal (hKernel3Ideal := hKernel3Ideal)
    ∧ quiescent_Kernel3Ideal_pre_finite_pool_step (hKernel3Ideal := hKernel3Ideal) (hPre_finite_pool_step := hPre_finite_pool_step)
    ∧ quiescent_Reference3Ideal (hReference3Ideal := hReference3Ideal)
    ∧ quiescent_Reference3Ideal_pre_finite_pool_step (hReference3Ideal := hReference3Ideal) (hPre_finite_pool_step := hPre_finite_pool_step)
    ∧ quiescent_Kernel4 (hKernel4 := hKernel4)
    ∧ quiescent_Kernel4Ideal (hKernel4Ideal := hKernel4Ideal)
    ∧ quiescent_Kernel4Ideal_pre_finite_sgu_step (hKernel4Ideal := hKernel4Ideal) (hPre_finite_sgu_step := hPre_finite_sgu_step)
    ∧ quiescent_Reference4Ideal (hReference4Ideal := hReference4Ideal)
    ∧ quiescent_Reference4Ideal_pre_finite_sgu_step (hReference4Ideal := hReference4Ideal) (hPre_finite_sgu_step := hPre_finite_sgu_step)
    ∧ preserves_Kernel_KernelIdeal
    ∧ algebraic_KernelIdeal_ReferenceIdeal_pre_finite_pool (hKernelIdeal := hKernelIdeal) (hReferenceIdeal := hReferenceIdeal) (hPre_finite_pool := hPre_finite_pool)
    ∧ preserves_Kernel2_Kernel2Ideal
    ∧ algebraic_Kernel2Ideal_Reference2Ideal_pre_finite_sgu (hKernel2Ideal := hKernel2Ideal) (hReference2Ideal := hReference2Ideal) (hPre_finite_sgu := hPre_finite_sgu)
    ∧ preserves_Kernel3_Kernel3Ideal
    ∧ algebraic_Kernel3Ideal_Reference3Ideal_pre_finite_pool_step (hKernel3Ideal := hKernel3Ideal) (hReference3Ideal := hReference3Ideal) (hPre_finite_pool_step := hPre_finite_pool_step)
    ∧ preserves_Kernel4_Kernel4Ideal
    ∧ algebraic_Kernel4Ideal_Reference4Ideal_pre_finite_sgu_step (hKernel4Ideal := hKernel4Ideal) (hReference4Ideal := hReference4Ideal) (hPre_finite_sgu_step := hPre_finite_sgu_step)
-- ==== Pre_finite_pool.lean ====
abbrev S8x2048x1024 : Shape := ⟨3, ![8, 2048, 1024]⟩
abbrev S1024 : Shape := ⟨1, ![1024]⟩
abbrev S2048 : Shape := ⟨1, ![2048]⟩
abbrev S1024x4096 : Shape := ⟨2, ![1024, 4096]⟩
abbrev S4x512x512 : Shape := ⟨3, ![4, 512, 512]⟩
abbrev S2048x1024 : Shape := ⟨2, ![2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S8x2048x1024 .f32) (main_arg1 : FVec F S1024 .f32) (main_arg2 : FVec F S2048 .f32) (main_arg3 : FVec F S1024 .f32) (main_arg4 : FVec F S1024x4096 .f32) (main_arg5 : FVec F S4x512x512 .f32) (main_arg6 : FVec F S2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg4
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Pre_finite_pool_step.lean ====
abbrev S128x1024 : Shape := ⟨2, ![128, 1024]⟩
abbrev S128x15x2048 : Shape := ⟨3, ![128, 15, 2048]⟩
abbrev S1024 : Shape := ⟨1, ![1024]⟩
abbrev S2048 : Shape := ⟨1, ![2048]⟩
abbrev S1024x4096 : Shape := ⟨2, ![1024, 4096]⟩
abbrev S4x512x512 : Shape := ⟨3, ![4, 512, 512]⟩
abbrev S2048x1024 : Shape := ⟨2, ![2048, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S128x1024 .f32) (main_arg1 : FVec F S128x15x2048 .f32) (main_arg2 : FVec F S1024 .f32) (main_arg3 : FVec F S2048 .f32) (main_arg4 : FVec F S1024 .f32) (main_arg5 : FVec F S1024x4096 .f32) (main_arg6 : FVec F S4x512x512 .f32) (main_arg7 : FVec F S2048x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg5
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Pre_finite_sgu.lean ====
abbrev S8x2048x1024 : Shape := ⟨3, ![8, 2048, 1024]⟩
abbrev S1024 : Shape := ⟨1, ![1024]⟩
abbrev S2048 : Shape := ⟨1, ![2048]⟩
abbrev S4x128x128 : Shape := ⟨3, ![4, 128, 128]⟩
abbrev S4x128 : Shape := ⟨2, ![4, 128]⟩
abbrev S1024x6144 : Shape := ⟨2, ![1024, 6144]⟩
abbrev S2048x1024 : Shape := ⟨2, ![2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S8x2048x1024 .f32) (main_arg1 : FVec F S1024 .f32) (main_arg2 : FVec F S2048 .f32) (main_arg3 : FVec F S2048 .f32) (main_arg4 : FVec F S4x128x128 .f32) (main_arg5 : FVec F S4x128 .f32) (main_arg6 : FVec F S1024x6144 .f32) (main_arg7 : FVec F S2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg6
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Pre_finite_sgu_step.lean ====
abbrev S128x1024 : Shape := ⟨2, ![128, 1024]⟩
abbrev S1024 : Shape := ⟨1, ![1024]⟩
abbrev S2048 : Shape := ⟨1, ![2048]⟩
abbrev S4x128x128 : Shape := ⟨3, ![4, 128, 128]⟩
abbrev S4x128 : Shape := ⟨2, ![4, 128]⟩
abbrev S1024x6144 : Shape := ⟨2, ![1024, 6144]⟩
abbrev S2048x1024 : Shape := ⟨2, ![2048, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S128x1024 .f32) (main_arg1 : FVec F S1024 .f32) (main_arg2 : FVec F S2048 .f32) (main_arg3 : FVec F S2048 .f32) (main_arg4 : FVec F S4x128x128 .f32) (main_arg5 : FVec F S4x128 .f32) (main_arg6 : FVec F S1024x6144 .f32) (main_arg7 : FVec F S2048x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg6
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Kernel.lean ====
abbrev S8x2048x1024 : Shape := ⟨3, ![8, 2048, 1024]⟩
abbrev S1024 : Shape := ⟨1, ![1024]⟩
abbrev S2048 : Shape := ⟨1, ![2048]⟩
abbrev S1024x4096 : Shape := ⟨2, ![1024, 4096]⟩
abbrev S4x512x512 : Shape := ⟨3, ![4, 512, 512]⟩
abbrev S2048x1024 : Shape := ⟨2, ![2048, 1024]⟩
abbrev S1x1024 : Shape := ⟨2, ![1, 1024]⟩
abbrev S1x2048 : Shape := ⟨2, ![1, 2048]⟩
abbrev S2048x512 : Shape := ⟨2, ![2048, 512]⟩
abbrev S8x16x2048 : Shape := ⟨3, ![8, 16, 2048]⟩
abbrev S1x1024x1024 : Shape := ⟨3, ![1, 1024, 1024]⟩
abbrev S128x4096 : Shape := ⟨2, ![128, 4096]⟩
abbrev S256x512 : Shape := ⟨2, ![256, 512]⟩
abbrev S256x1024 : Shape := ⟨2, ![256, 1024]⟩
abbrev S1x16x2048 : Shape := ⟨3, ![1, 16, 2048]⟩
abbrev S16x2048 : Shape := ⟨2, ![16, 2048]⟩
abbrev S1024x1024 : Shape := ⟨2, ![1024, 1024]⟩
abbrev S1024x1 : Shape := ⟨2, ![1024, 1]⟩
abbrev S1024x2048 : Shape := ⟨2, ![1024, 2048]⟩
abbrev S1040x2048 : Shape := ⟨2, ![1040, 2048]⟩
abbrev S1024x128 : Shape := ⟨2, ![1024, 128]⟩
abbrev S1040x512 : Shape := ⟨2, ![1040, 512]⟩
abbrev S1024x512 : Shape := ⟨2, ![1024, 512]⟩
abbrev S512x512 : Shape := ⟨2, ![512, 512]⟩

abbrev nBuf : Space → Nat
  | .hbm => 16
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S2048, .f32⟩
  | .hbm, ⟨3, _⟩ => ⟨S1024, .f32⟩
  | .hbm, ⟨4, _⟩ => ⟨S1024x4096, .f32⟩
  | .hbm, ⟨5, _⟩ => ⟨S4x512x512, .f32⟩
  | .hbm, ⟨6, _⟩ => ⟨S2048x1024, .f32⟩
  | .hbm, ⟨7, _⟩ => ⟨S1x1024, .f32⟩
  | .hbm, ⟨8, _⟩ => ⟨S1x2048, .f32⟩
  | .hbm, ⟨9, _⟩ => ⟨S1x1024, .f32⟩
  | .hbm, ⟨10, _⟩ => ⟨S2048x512, .f32⟩
  | .hbm, ⟨11, _⟩ => ⟨S8x2048x1024, .f32⟩
  | .hbm, ⟨12, _⟩ => ⟨S8x16x2048, .f32⟩
  | .hbm, ⟨13, _⟩ => ⟨S1024x4096, .bf16⟩
  | .hbm, ⟨14, _⟩ => ⟨S2048x512, .bf16⟩
  | .hbm, ⟨15, _⟩ => ⟨S2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x2048, .f32⟩
  | .local _ .vmem, ⟨4, _⟩ => ⟨S1x1024, .f32⟩
  | .local _ .vmem, ⟨5, _⟩ => ⟨S128x4096, .f32⟩
  | .local _ .vmem, ⟨6, _⟩ => ⟨S128x4096, .f32⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x16x2048, .f32⟩
  | .local _ .vmem, ⟨14, _⟩ => ⟨S1x16x2048, .f32⟩
  | .local _ .vmem, ⟨15, _⟩ => ⟨S128x4096, .bf16⟩
  | .local _ .vmem, ⟨16, _⟩ => ⟨S128x4096, .bf16⟩
  | .local _ .vmem, ⟨17, _⟩ => ⟨S256x512, .bf16⟩
  | .local _ .vmem, ⟨18, _⟩ => ⟨S256x512, .bf16⟩
  | .local _ .vmem, ⟨19, _⟩ => ⟨S256x1024, .bf16⟩
  | .local _ .vmem, ⟨20, _⟩ => ⟨S256x1024, .bf16⟩
  | .local _ .vmem, ⟨21, _⟩ => ⟨S1024x4096, .bf16⟩
  | .local _ .vmem, ⟨22, _⟩ => ⟨S2048x512, .bf16⟩
  | .local _ .vmem, ⟨23, _⟩ => ⟨S2048x1024, .bf16⟩
  | .local _ .vmem, ⟨24, _⟩ => ⟨S16x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_5 : Index := 0#32
  ![v11.toNat, 0]
def k0_mult2 (i : grid0.Coords) : BitVec 32 :=
  let arg0 : BitVec 32 := BitVec.ofNat 32 (i 0).val
  let c256_i32 : BitVec 32 := 256#32
  let v19 : BitVec 32 := Scalar.muli arg0 c256_i32
  v19
def k0_off2 (i : grid0.Coords) : Fin 2 → Nat :=
  let arg0 : BitVec 32 := BitVec.ofNat 32 (i 0).val
  let c256_i32 : BitVec 32 := 256#32
  let v19 : BitVec 32 := Scalar.muli arg0 c256_i32
  let v20 : BitVec 32 := v19
  let v21 : Index := Scalar.indexCast v20
  let c0_10 : Index := 0#32
  ![v21.toNat, 0]
def k0_mult3 (i : grid0.Coords) : BitVec 32 :=
  let arg0 : BitVec 32 := BitVec.ofNat 32 (i 0).val
  let c256_i32_15 : BitVec 32 := 256#32
  let v28 : BitVec 32 := Scalar.muli arg0 c256_i32_15
  v28
def k0_off3 (i : grid0.Coords) : Fin 2 → Nat :=
  let arg0 : BitVec 32 := BitVec.ofNat 32 (i 0).val
  let c256_i32_15 : BitVec 32 := 256#32
  let v28 : BitVec 32 := Scalar.muli arg0 c256_i32_15
  let v29 : BitVec 32 := v28
  let v30 : Index := Scalar.indexCast v29
  let c0_16 : Index := 0#32
  ![v30.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c8_i32_2 : BitVec 32 := 8#32
  let v6 : BitVec 32 := Scalar.subi arg0 c8_i32_2
  let c0_i32_3 : BitVec 32 := 0#32
  let v7 : BitVec 32 := Scalar.maxsi v6 c0_i32_3
  let c2_i32 : BitVec 32 := 2#32
  let c0_i32_4 : BitVec 32 := 0#32
  let v8 : BitVec 1 := Scalar.cmpi .eq c2_i32 c0_i32_4
  let c1_i32 : BitVec 32 := 1#32
  let v9 : BitVec 32 := Scalar.select v8 c1_i32 c2_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c1_i32_63 : BitVec 32 := 1#32
  let v161 : BitVec 1 := Scalar.cmpi .eq v17 c1_i32_63
  let v162 : BitVec 32 := Scalar.extui v161
  let c0_i32_64 : BitVec 32 := 0#32
  let v163 : BitVec 1 := Scalar.cmpi .ne v162 c0_i32_64
  v163

def cc0_transform_0 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_8 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v18.toNat, c0_i32_11.toNat, c0_i32_12.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x2048x1024 : Shape := ⟨3, ![8, 2048, 1024]⟩
abbrev S1024 : Shape := ⟨1, ![1024]⟩
abbrev S2048 : Shape := ⟨1, ![2048]⟩
abbrev S1024x4096 : Shape := ⟨2, ![1024, 4096]⟩
abbrev S4x512x512 : Shape := ⟨3, ![4, 512, 512]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x15x2048 : Shape := ⟨3, ![8, 15, 2048]⟩
abbrev S8x2048x4096 : Shape := ⟨3, ![8, 2048, 4096]⟩
abbrev S8x2048x2048 : Shape := ⟨3, ![8, 2048, 2048]⟩
abbrev S8x2063x2048 : Shape := ⟨3, ![8, 2063, 2048]⟩
abbrev S8x2064x2048 : Shape := ⟨3, ![8, 2064, 2048]⟩
abbrev S8x2048x512 : Shape := ⟨3, ![8, 2048, 512]⟩
abbrev S1x2048x1 : Shape := ⟨3, ![1, 2048, 1]⟩
abbrev S8x2048x4x512 : Shape := ⟨4, ![8, 2048, 4, 512]⟩
abbrev S4x512x8x2048 : Shape := ⟨4, ![4, 512, 8, 2048]⟩
abbrev S1x1x2048 : Shape := ⟨3, ![1, 1, 2048]⟩
abbrev S8x16x2048 : Shape := ⟨3, ![8, 16, 2048]⟩

abbrev nBuf : Space → Nat
  | .hbm => 129
  | .vmem => 0
  | .smem => 0
  | _ => 0

abbrev hbmTy0_0 (i : Nat) : BufTy := match i % 128 with
  | 0 => ⟨S8x2048x1024, .f32⟩
  | 1 => ⟨S1024, .f32⟩
  | 2 => ⟨S2048, .f32⟩
  | 3 => ⟨S1024, .f32⟩
  | 4 => ⟨S1024x4096, .f32⟩
  | 5 => ⟨S4x512x512, .f32⟩
  | 6 => ⟨S2048x1024, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S_, .f32⟩
  | 24 => ⟨S8x15x2048, .f32⟩
  | 25 => ⟨S8x2048x4096, .f32⟩
  | 26 => ⟨S8x2048x2048, .f32⟩
  | 27 => ⟨S8x2048x2048, .f32⟩
  | 28 => ⟨S8x2063x2048, .f32⟩
  | 29 => ⟨S_, .i32⟩
  | 30 => ⟨S_, .f32⟩
  | 31 => ⟨S8x2064x2048, .f32⟩
  | 32 => ⟨S_, .f32⟩
  | 33 => ⟨S_, .f32⟩
  | 34 => ⟨S8x2064x2048, .f32⟩
  | 35 => ⟨S2048, .i32⟩
  | 36 => ⟨S_, .i32⟩
  | 37 => ⟨S2048, .i32⟩
  | 38 => ⟨S2048, .i32⟩
  | 39 => ⟨S8x2048x512, .f32⟩
  | 40 => ⟨S8x2048x512, .f32⟩
  | 41 => ⟨S8x2048x512, .f32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S2048, .f32⟩
  | 49 => ⟨S1x2048x1, .f32⟩
  | 50 => ⟨S8x2048x512, .f32⟩
  | 51 => ⟨S8x2048x512, .f32⟩
  | 52 => ⟨S8x2048x512, .f32⟩
  | 53 => ⟨S8x2048x512, .f32⟩
  | 54 => ⟨S8x2048x512, .f32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S2048, .f32⟩
  | 62 => ⟨S1x2048x1, .f32⟩
  | 63 => ⟨S8x2048x512, .f32⟩
  | 64 => ⟨S8x2048x512, .f32⟩
  | 65 => ⟨S8x2048x512, .f32⟩
  | 66 => ⟨S8x2048x512, .f32⟩
  | 67 => ⟨S8x2048x512, .f32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S1x2048x1, .f32⟩
  | 76 => ⟨S8x2048x512, .f32⟩
  | 77 => ⟨S8x2048x512, .f32⟩
  | 78 => ⟨S8x2048x512, .f32⟩
  | 79 => ⟨S8x2048x512, .f32⟩
  | 80 => ⟨S8x2048x512, .f32⟩
  | 81 => ⟨S_, .i32⟩
  | 82 => ⟨S2048, .i32⟩
  | 83 => ⟨S2048, .i32⟩
  | 84 => ⟨S_, .i32⟩
  | 85 => ⟨S2048, .i32⟩
  | 86 => ⟨S2048, .i32⟩
  | 87 => ⟨S2048, .f32⟩
  | 88 => ⟨S1x2048x1, .f32⟩
  | 89 => ⟨S8x2048x512, .f32⟩
  | 90 => ⟨S8x2048x512, .f32⟩
  | 91 => ⟨S8x2048x2048, .f32⟩
  | 92 => ⟨S8x2048x2048, .f32⟩
  | 93 => ⟨S8x2048x4x512, .f32⟩
  | 94 => ⟨S4x512x8x2048, .f32⟩
  | 95 => ⟨S8x2048x4x512, .f32⟩
  | 96 => ⟨S8x2048x2048, .f32⟩
  | 97 => ⟨S1x1x2048, .f32⟩
  | 98 => ⟨S8x2048x2048, .f32⟩
  | 99 => ⟨S8x2048x2048, .f32⟩
  | 100 => ⟨S8x2048x2048, .f32⟩
  | 101 => ⟨S8x2048x2048, .f32⟩
  | 102 => ⟨S_, .f32⟩
  | 103 => ⟨S8x2048x2048, .f32⟩
  | 104 => ⟨S8x2048x2048, .f32⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S8x2048x1024, .f32⟩
  | 111 => ⟨S8x16x2048, .f32⟩
  | 112 => ⟨S8x2048x1024, .f32⟩
  | 113 => ⟨S8x2048x1024, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S_, .f32⟩
  | 121 => ⟨S8x2048x1, .f32⟩
  | 122 => ⟨S8x2048x1, .f32⟩
  | 123 => ⟨S8x2048x1, .f32⟩
  | 124 => ⟨S8x2048x1024, .f32⟩
  | 125 => ⟨S8x2048x1024, .f32⟩
  | 126 => ⟨S1x1x1024, .f32⟩
  | 127 => ⟨S8x2048x1024, .f32⟩
  | _ => ⟨S8x2048x1024, .f32⟩

abbrev hbmTy0_1 (i : Nat) : BufTy := match i % 128 with
  | 0 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_v18 : Ref sig .tc := ⟨.hbm, 31, rfl⟩
abbrev main_call1_call0_cst : Ref sig .tc := ⟨.hbm, 32, rfl⟩
abbrev main_call1_call0_v0 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_12 : Ref sig .tc := ⟨.hbm, 114, rfl⟩
abbrev main_v82 : Ref sig .tc := ⟨.hbm, 115, rfl⟩
abbrev main_v83 : Ref sig .tc := ⟨.hbm, 116, rfl⟩
abbrev main_cst_13 : Ref sig .tc := ⟨.hbm, 117, rfl⟩
abbrev main_v84 : Ref sig .tc := ⟨.hbm, 118, rfl⟩
abbrev main_v85 : Ref sig .tc := ⟨.hbm, 119, rfl⟩
abbrev main_cst_14 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S2048 : Shape := ⟨1, ![2048]⟩
abbrev S4x128x128 : Shape := ⟨3, ![4, 128, 128]⟩
abbrev S4x128 : Shape := ⟨2, ![4, 128]⟩
abbrev S1024x6144 : Shape := ⟨2, ![1024, 6144]⟩
abbrev S2048x1024 : Shape := ⟨2, ![2048, 1024]⟩
abbrev S128x4 : Shape := ⟨2, ![128, 4]⟩
abbrev S128x4x512 : Shape := ⟨3, ![128, 4, 512]⟩
abbrev S128x2048 : Shape := ⟨2, ![128, 2048]⟩
abbrev S16384x1024 : Shape := ⟨2, ![16384, 1024]⟩
abbrev S1x1024 : Shape := ⟨2, ![1, 1024]⟩
abbrev S1x2048 : Shape := ⟨2, ![1, 2048]⟩
abbrev S512x1024 : Shape := ⟨2, ![512, 1024]⟩
abbrev S128x6144 : Shape := ⟨2, ![128, 6144]⟩
abbrev S256x1024 : Shape := ⟨2, ![256, 1024]⟩
abbrev S512 : Shape := ⟨1, ![512]⟩
abbrev S512x1 : Shape := ⟨2, ![512, 1]⟩
abbrev S512x6144 : Shape := ⟨2, ![512, 6144]⟩
abbrev S512x2048 : Shape := ⟨2, ![512, 2048]⟩
abbrev S128x128 : Shape := ⟨2, ![128, 128]⟩
abbrev S1x128x128 : Shape := ⟨3, ![1, 128, 128]⟩
abbrev S128x512 : Shape := ⟨2, ![128, 512]⟩

abbrev nBuf : Space → Nat
  | .hbm => 18
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S2048, .f32⟩
  | .hbm, ⟨3, _⟩ => ⟨S2048, .f32⟩
  | .hbm, ⟨4, _⟩ => ⟨S4x128x128, .f32⟩
  | .hbm, ⟨5, _⟩ => ⟨S4x128, .f32⟩
  | .hbm, ⟨6, _⟩ => ⟨S1024x6144, .f32⟩
  | .hbm, ⟨7, _⟩ => ⟨S2048x1024, .f32⟩
  | .hbm, ⟨8, _⟩ => ⟨S128x4, .f32⟩
  | .hbm, ⟨9, _⟩ => ⟨S128x4x512, .f32⟩
  | .hbm, ⟨10, _⟩ => ⟨S128x2048, .f32⟩
  | .hbm, ⟨11, _⟩ => ⟨S16384x1024, .f32⟩
  | .hbm, ⟨12, _⟩ => ⟨S1x1024, .f32⟩
  | .hbm, ⟨13, _⟩ => ⟨S1x2048, .f32⟩
  | .hbm, ⟨14, _⟩ => ⟨S1x2048, .f32⟩
  | .hbm, ⟨15, _⟩ => ⟨S16384x1024, .f32⟩
  | .hbm, ⟨16, _⟩ => ⟨S1024x6144, .bf16⟩
  | .hbm, ⟨17, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x2048, .f32⟩
  | .local _ .vmem, ⟨4, _⟩ => ⟨S1x2048, .f32⟩
  | .local _ .vmem, ⟨5, _⟩ => ⟨S4x128x128, .f32⟩
  | .local _ .vmem, ⟨6, _⟩ => ⟨S128x2048, .f32⟩
  | .local _ .vmem, ⟨7, _⟩ => ⟨S128x6144, .f32⟩
  | .local _ .vmem, ⟨8, _⟩ => ⟨S128x6144, .f32⟩
  | .local _ .vmem, ⟨9, _⟩ => ⟨S256x1024, .f32⟩
  | .local _ .vmem, ⟨10, _⟩ => ⟨S256x1024, .f32⟩
  | .local _ .vmem, ⟨11, _⟩ => ⟨S512x1024, .f32⟩
  | .local _ .vmem, ⟨12, _⟩ => ⟨S512x1024, .f32⟩
  | .local _ .vmem, ⟨13, _⟩ => ⟨S128x6144, .bf16⟩
  | .local _ .vmem, ⟨14, _⟩ => ⟨S128x6144, .bf16⟩
  | .local _ .vmem, ⟨15, _⟩ => ⟨S256x1024, .bf16⟩
  | .local _ .vmem, ⟨16, _⟩ => ⟨S256x1024, .bf16⟩
  | .local _ .vmem, ⟨17, _⟩ => ⟨S1024x6144, .bf16⟩
  | .local _ .vmem, ⟨18, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_5 : Index := 0#32
  ![v11.toNat, 0]
def k0_mult2 (i : grid0.Coords) : BitVec 32 :=
  let arg0 : BitVec 32 := BitVec.ofNat 32 (i 0).val
  let c256_i32 : BitVec 32 := 256#32
  let v18 : BitVec 32 := Scalar.muli arg0 c256_i32
  v18
def k0_off2 (i : grid0.Coords) : Fin 2 → Nat :=
  let arg0 : BitVec 32 := BitVec.ofNat 32 (i 0).val
  let c256_i32 : BitVec 32 := 256#32
  let v18 : BitVec 32 := Scalar.muli arg0 c256_i32
  let v19 : BitVec 32 := v18
  let v20 : Index := Scalar.indexCast v19
  let c0_10 : Index := 0#32
  ![v20.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x2048x1024 : Shape := ⟨3, ![8, 2048, 1024]⟩
abbrev S1024 : Shape := ⟨1, ![1024]⟩
abbrev S2048 : Shape := ⟨1, ![2048]⟩
abbrev S4x128x128 : Shape := ⟨3, ![4, 128, 128]⟩
abbrev S4x128 : Shape := ⟨2, ![4, 128]⟩
abbrev S1024x6144 : Shape := ⟨2, ![1024, 6144]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6144 : Shape := ⟨3, ![8, 2048, 6144]⟩
abbrev S8x2048x2048 : Shape := ⟨3, ![8, 2048, 2048]⟩
abbrev S1x1x2048 : Shape := ⟨3, ![1, 1, 2048]⟩
abbrev S8x16x128x4x512 : Shape := ⟨5, ![8, 16, 128, 4, 512]⟩
abbrev S128x128 : Shape := ⟨2, ![128, 128]⟩
abbrev S4x8x16x512x128 : Shape := ⟨5, ![4, 8, 16, 512, 128]⟩
abbrev S128x4 : Shape := ⟨2, ![128, 4]⟩
abbrev S1x1x128x4x1 : Shape := ⟨5, ![1, 1, 128, 4, 1]⟩
abbrev S16384x1024 : Shape := ⟨2, ![16384, 1024]⟩

abbrev nBuf : Space → Nat
  | .hbm => 113
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S2048, .f32⟩
  | .hbm, ⟨3, _⟩ => ⟨S2048, .f32⟩
  | .hbm, ⟨4, _⟩ => ⟨S4x128x128, .f32⟩
  | .hbm, ⟨5, _⟩ => ⟨S4x128, .f32⟩
  | .hbm, ⟨6, _⟩ => ⟨S1024x6144, .f32⟩
  | .hbm, ⟨7, _⟩ => ⟨S2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x6144, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S1x1x2048, .f32⟩
  | .hbm, ⟨70, _⟩ => ⟨S8x2048x2048, .f32⟩
  | .hbm, ⟨71, _⟩ => ⟨S8x2048x2048, .f32⟩
  | .hbm, ⟨72, _⟩ => ⟨S1x1x2048, .f32⟩
  | .hbm, ⟨73, _⟩ => ⟨S8x2048x2048, .f32⟩
  | .hbm, ⟨74, _⟩ => ⟨S8x2048x2048, .f32⟩
  | .hbm, ⟨75, _⟩ => ⟨S8x16x128x4x512, .f32⟩
  | .hbm, ⟨76, _⟩ => ⟨S_, .i1⟩
  | .hbm, ⟨77, _⟩ => ⟨S128x128, .i1⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .i1⟩
  | .hbm, ⟨85, _⟩ => ⟨S128x128, .i1⟩
  | .hbm, ⟨86, _⟩ => ⟨S128x128, .i1⟩
  | .hbm, ⟨87, _⟩ => ⟨S_, .f32⟩
  | .hbm, ⟨88, _⟩ => ⟨S_, .f32⟩
  | .hbm, ⟨89, _⟩ => ⟨S4x128x128, .i1⟩
  | .hbm, ⟨90, _⟩ => ⟨S4x128x128, .f32⟩
  | .hbm, ⟨91, _⟩ => ⟨S4x128x128, .f32⟩
  | .hbm, ⟨92, _⟩ => ⟨S4x8x16x512x128, .f32⟩
  | .hbm, ⟨93, _⟩ => ⟨S8x16x128x4x512, .f32⟩
  | .hbm, ⟨94, _⟩ => ⟨S128x4, .f32⟩
  | .hbm, ⟨95, _⟩ => ⟨S1x1x128x4x1, .f32⟩
  | .hbm, ⟨96, _⟩ => ⟨S8x16x128x4x512, .f32⟩
  | .hbm, ⟨97, _⟩ => ⟨S8x16x128x4x512, .f32⟩
  | .hbm, ⟨98, _⟩ => ⟨S8x2048x2048, .f32⟩
  | .hbm, ⟨99, _⟩ => ⟨S8x2048x2048, .f32⟩
  | .hbm, ⟨100, _⟩ => ⟨S8x2048x2048, .f32⟩
  | .hbm, ⟨101, _⟩ => ⟨S8x2048x2048, .f32⟩
  | .hbm, ⟨102, _⟩ => ⟨S_, .f32⟩
  | .hbm, ⟨103, _⟩ => ⟨S8x2048x2048, .f32⟩
  | .hbm, ⟨104, _⟩ => ⟨S8x2048x2048, .f32⟩
  | .hbm, ⟨105, _⟩ => ⟨S_, .f32⟩
  | .hbm, ⟨106, _⟩ => ⟨S8x2048x2048, .f32⟩
  | .hbm, ⟨107, _⟩ => ⟨S8x2048x2048, .f32⟩
  | .hbm, ⟨108, _⟩ => ⟨S8x2048x2048, .f32⟩
  | .hbm, ⟨109, _⟩ => ⟨S8x2048x2048, .f32⟩
  | .hbm, ⟨110, _⟩ => ⟨S8x2048x1024, .f32⟩
  | .hbm, ⟨111, _⟩ => ⟨S8x2048x1024, .f32⟩
  | .hbm, ⟨112, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c : Ref sig .tc := ⟨.hbm, 76, rfl⟩
abbrev main_v56 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_c_0 : Ref sig .tc := ⟨.hbm, 84, rfl⟩
abbrev main_call0_v5 : Ref sig .tc := ⟨.hbm, 85, rfl⟩
abbrev main_v57 : Ref sig .tc := ⟨.hbm, 86, rfl⟩
abbrev main_cst_11 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩

abbrev nD : Nat := 1
abbrev τ : Topo := Topo.v7x

variable {F : FTy → Type} [FloatOps F]
-- ==== Kernel3.lean ====
abbrev S128x1024 : Shape := ⟨2, ![128, 1024]⟩
abbrev S128x15x2048 : Shape := ⟨3, ![128, 15, 2048]⟩
abbrev S1024 : Shape := ⟨1, ![1024]⟩
abbrev S2048 : Shape := ⟨1, ![2048]⟩
abbrev S1024x4096 : Shape := ⟨2, ![1024, 4096]⟩
abbrev S4x512x512 : Shape := ⟨3, ![4, 512, 512]⟩
abbrev S2048x1024 : Shape := ⟨2, ![2048, 1024]⟩
abbrev S15x128x2048 : Shape := ⟨3, ![15, 128, 2048]⟩
abbrev S1x1024 : Shape := ⟨2, ![1, 1024]⟩
abbrev S2048x512 : Shape := ⟨2, ![2048, 512]⟩
abbrev S1x2048 : Shape := ⟨2, ![1, 2048]⟩
abbrev S128x1x1024 : Shape := ⟨3, ![128, 1, 1024]⟩
abbrev S128 : Shape := ⟨1, ![128]⟩
abbrev S128x1 : Shape := ⟨2, ![128, 1]⟩
abbrev S128x4096 : Shape := ⟨2, ![128, 4096]⟩
abbrev S128x2048 : Shape := ⟨2, ![128, 2048]⟩
abbrev S128x512 : Shape := ⟨2, ![128, 512]⟩
abbrev S1x128x512 : Shape := ⟨3, ![1, 128, 512]⟩
abbrev S512x512 : Shape := ⟨2, ![512, 512]⟩
abbrev S14x128x2048 : Shape := ⟨3, ![14, 128, 2048]⟩
abbrev S1x128x2048 : Shape := ⟨3, ![1, 128, 2048]⟩

abbrev nBuf : Space → Nat
  | .hbm => 18
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x15x2048, .f32⟩
  | .hbm, ⟨2, _⟩ => ⟨S1024, .f32⟩
  | .hbm, ⟨3, _⟩ => ⟨S2048, .f32⟩
  | .hbm, ⟨4, _⟩ => ⟨S1024, .f32⟩
  | .hbm, ⟨5, _⟩ => ⟨S1024x4096, .f32⟩
  | .hbm, ⟨6, _⟩ => ⟨S4x512x512, .f32⟩
  | .hbm, ⟨7, _⟩ => ⟨S2048x1024, .f32⟩
  | .hbm, ⟨8, _⟩ => ⟨S15x128x2048, .f32⟩
  | .hbm, ⟨9, _⟩ => ⟨S1x1024, .f32⟩
  | .hbm, ⟨10, _⟩ => ⟨S1024x4096, .bf16⟩
  | .hbm, ⟨11, _⟩ => ⟨S2048x512, .f32⟩
  | .hbm, ⟨12, _⟩ => ⟨S2048x512, .bf16⟩
  | .hbm, ⟨13, _⟩ => ⟨S1x2048, .f32⟩
  | .hbm, ⟨14, _⟩ => ⟨S2048x1024, .bf16⟩
  | .hbm, ⟨15, _⟩ => ⟨S1x1024, .f32⟩
  | .hbm, ⟨16, _⟩ => ⟨S128x1x1024, .f32⟩
  | .hbm, ⟨17, _⟩ => ⟨S15x128x2048, .f32⟩
  | .local _ .vmem, ⟨0, _⟩ => ⟨S128x1024, .f32⟩
  | .local _ .vmem, ⟨1, _⟩ => ⟨S15x128x2048, .f32⟩
  | .local _ .vmem, ⟨2, _⟩ => ⟨S1x1024, .f32⟩
  | .local _ .vmem, ⟨3, _⟩ => ⟨S1024x4096, .bf16⟩
  | .local _ .vmem, ⟨4, _⟩ => ⟨S2048x512, .bf16⟩
  | .local _ .vmem, ⟨5, _⟩ => ⟨S1x2048, .f32⟩
  | .local _ .vmem, ⟨6, _⟩ => ⟨S2048x1024, .bf16⟩
  | .local _ .vmem, ⟨7, _⟩ => ⟨S1x1024, .f32⟩
  | .local _ .vmem, ⟨8, _⟩ => ⟨S128x1x1024, .f32⟩
  | .local _ .vmem, ⟨9, _⟩ => ⟨S15x128x2048, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S15x128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference3Ideal.lean ====
abbrev S128x1024 : Shape := ⟨2, ![128, 1024]⟩
abbrev S128x15x2048 : Shape := ⟨3, ![128, 15, 2048]⟩
abbrev S1024 : Shape := ⟨1, ![1024]⟩
abbrev S2048 : Shape := ⟨1, ![2048]⟩
abbrev S1024x4096 : Shape := ⟨2, ![1024, 4096]⟩
abbrev S4x512x512 : Shape := ⟨3, ![4, 512, 512]⟩
abbrev S2048x1024 : Shape := ⟨2, ![2048, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩
abbrev S128x2048 : Shape := ⟨2, ![128, 2048]⟩
abbrev S128x1x2048 : Shape := ⟨3, ![128, 1, 2048]⟩
abbrev S128x16x2048 : Shape := ⟨3, ![128, 16, 2048]⟩
abbrev S128x2x512 : Shape := ⟨3, ![128, 2, 512]⟩
abbrev S128x512 : Shape := ⟨2, ![128, 512]⟩
abbrev S128x4x512 : Shape := ⟨3, ![128, 4, 512]⟩
abbrev S128x8x512 : Shape := ⟨3, ![128, 8, 512]⟩
abbrev S128x16x512 : Shape := ⟨3, ![128, 16, 512]⟩
abbrev S4x512x128 : Shape := ⟨3, ![4, 512, 128]⟩
abbrev S1x2048 : Shape := ⟨2, ![1, 2048]⟩
abbrev S128x1x1024 : Shape := ⟨3, ![128, 1, 1024]⟩
abbrev S15x128x2048 : Shape := ⟨3, ![15, 128, 2048]⟩

abbrev nBuf : Space → Nat
  | .hbm => 93
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x15x2048, .f32⟩
  | .hbm, ⟨2, _⟩ => ⟨S1024, .f32⟩
  | .hbm, ⟨3, _⟩ => ⟨S2048, .f32⟩
  | .hbm, ⟨4, _⟩ => ⟨S1024, .f32⟩
  | .hbm, ⟨5, _⟩ => ⟨S1024x4096, .f32⟩
  | .hbm, ⟨6, _⟩ => ⟨S4x512x512, .f32⟩
  | .hbm, ⟨7, _⟩ => ⟨S2048x1024, .f32⟩
  | .hbm, ⟨8, _⟩ => ⟨S128x1024, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S128x1024, .f32⟩
  | .hbm, ⟨23, _⟩ => ⟨S128x1024, .f32⟩
  | .hbm, ⟨24, _⟩ => ⟨S128x4096, .f32⟩
  | .hbm, ⟨25, _⟩ => ⟨S128x2048, .f32⟩
  | .hbm, ⟨26, _⟩ => ⟨S128x2048, .f32⟩
  | .hbm, ⟨27, _⟩ => ⟨S128x1x2048, .f32⟩
  | .hbm, ⟨28, _⟩ => ⟨S128x16x2048, .f32⟩
  | .hbm, ⟨29, _⟩ => ⟨S128x2x512, .f32⟩
  | .hbm, ⟨30, _⟩ => ⟨S_, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S128x4x512, .f32⟩
  | .hbm, ⟨36, _⟩ => ⟨S_, .f32⟩
  | .hbm, ⟨37, _⟩ => ⟨S128x512, .f32⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S128x8x512, .f32⟩
  | .hbm, ⟨42, _⟩ => ⟨S_, .f32⟩
  | .hbm, ⟨43, _⟩ => ⟨S128x512, .f32⟩
  | .hbm, ⟨44, _⟩ => ⟨S_, .f32⟩
  | .hbm, ⟨45, _⟩ => ⟨S128x512, .f32⟩
  | .hbm, ⟨46, _⟩ => ⟨S128x512, .f32⟩
  | .hbm, ⟨47, _⟩ => ⟨S128x16x512, .f32⟩
  | .hbm, ⟨48, _⟩ => ⟨S_, .f32⟩
  | .hbm, ⟨49, _⟩ => ⟨S128x512, .f32⟩
  | .hbm, ⟨50, _⟩ => ⟨S_, .f32⟩
  | .hbm, ⟨51, _⟩ => ⟨S128x512, .f32⟩
  | .hbm, ⟨52, _⟩ => ⟨S128x512, .f32⟩
  | .hbm, ⟨53, _⟩ => ⟨S128x2048, .f32⟩
  | .hbm, ⟨54, _⟩ => ⟨S128x2048, .f32⟩
  | .hbm, ⟨55, _⟩ => ⟨S128x4x512, .f32⟩
  | .hbm, ⟨56, _⟩ => ⟨S4x512x128, .f32⟩
  | .hbm, ⟨57, _⟩ => ⟨S128x4x512, .f32⟩
  | .hbm, ⟨58, _⟩ => ⟨S128x2048, .f32⟩
  | .hbm, ⟨59, _⟩ => ⟨S1x2048, .f32⟩
  | .hbm, ⟨60, _⟩ => ⟨S128x2048, .f32⟩
  | .hbm, ⟨61, _⟩ => ⟨S128x2048, .f32⟩
  | .hbm, ⟨62, _⟩ => ⟨S128x2048, .f32⟩
  | .hbm, ⟨63, _⟩ => ⟨S128x2048, .f32⟩
  | .hbm, ⟨64, _⟩ => ⟨S_, .f32⟩
  | .hbm, ⟨65, _⟩ => ⟨S128x2048, .f32⟩
  | .hbm, ⟨66, _⟩ => ⟨S128x2048, .f32⟩
  | .hbm, ⟨67, _⟩ => ⟨S_, .f32⟩
  | .hbm, ⟨68, _⟩ => ⟨S128x2048, .f32⟩
  | .hbm, ⟨69, _⟩ => ⟨S128x2048, .f32⟩
  | .hbm, ⟨70, _⟩ => ⟨S128x2048, .f32⟩
  | .hbm, ⟨71, _⟩ => ⟨S128x2048, .f32⟩
  | .hbm, ⟨72, _⟩ => ⟨S128x1024, .f32⟩
  | .hbm, ⟨73, _⟩ => ⟨S128x15x2048, .f32⟩
  | .hbm, ⟨74, _⟩ => ⟨S128x1024, .f32⟩
  | .hbm, ⟨75, _⟩ => ⟨S128x1024, .f32⟩
  | .hbm, ⟨76, _⟩ => ⟨S_, .f32⟩
  | .hbm, ⟨77, _⟩ => ⟨S128, .f32⟩
  | .hbm, ⟨78, _⟩ => ⟨S128x1, .f32⟩
  | .hbm, ⟨79, _⟩ => ⟨S_, .f32⟩
  | .hbm, ⟨80, _⟩ => ⟨S128x1, .f32⟩
  | .hbm, ⟨81, _⟩ => ⟨S128x1, .f32⟩
  | .hbm, ⟨82, _⟩ => ⟨S_, .f32⟩
  | .hbm, ⟨83, _⟩ => ⟨S128x1, .f32⟩
  | .hbm, ⟨84, _⟩ => ⟨S128x1, .f32⟩
  | .hbm, ⟨85, _⟩ => ⟨S128x1, .f32⟩
  | .hbm, ⟨86, _⟩ => ⟨S128x1024, .f32⟩
  | .hbm, ⟨87, _⟩ => ⟨S128x1024, .f32⟩
  | .hbm, ⟨88, _⟩ => ⟨S1x1024, .f32⟩
  | .hbm, ⟨89, _⟩ => ⟨S128x1024, .f32⟩
  | .hbm, ⟨90, _⟩ => ⟨S128x1024, .f32⟩
  | .hbm, ⟨91, _⟩ => ⟨S128x1x1024, .f32⟩
  | .hbm, ⟨92, _⟩ => ⟨S15x128x2048, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== Kernel4.lean ====
abbrev S128x1024 : Shape := ⟨2, ![128, 1024]⟩
abbrev S1024 : Shape := ⟨1, ![1024]⟩
abbrev S2048 : Shape := ⟨1, ![2048]⟩
abbrev S4x128x128 : Shape := ⟨3, ![4, 128, 128]⟩
abbrev S4x128 : Shape := ⟨2, ![4, 128]⟩
abbrev S1024x6144 : Shape := ⟨2, ![1024, 6144]⟩
abbrev S2048x1024 : Shape := ⟨2, ![2048, 1024]⟩
abbrev S4x1x1 : Shape := ⟨3, ![4, 1, 1]⟩
abbrev S4 : Shape := ⟨1, ![4]⟩
abbrev S4x512 : Shape := ⟨2, ![4, 512]⟩
abbrev S1x2048 : Shape := ⟨2, ![1, 2048]⟩
abbrev S4x1 : Shape := ⟨2, ![4, 1]⟩
abbrev S1x1024 : Shape := ⟨2, ![1, 1024]⟩
abbrev S128x1x2048 : Shape := ⟨3, ![128, 1, 2048]⟩
abbrev S128 : Shape := ⟨1, ![128]⟩
abbrev S128x1 : Shape := ⟨2, ![128, 1]⟩
abbrev S128x6144 : Shape := ⟨2, ![128, 6144]⟩
abbrev S128x2048 : Shape := ⟨2, ![128, 2048]⟩

abbrev nBuf : Space → Nat
  | .hbm => 25
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S2048, .f32⟩
  | .hbm, ⟨3, _⟩ => ⟨S2048, .f32⟩
  | .hbm, ⟨4, _⟩ => ⟨S4x128x128, .f32⟩
  | .hbm, ⟨5, _⟩ => ⟨S4x128, .f32⟩
  | .hbm, ⟨6, _⟩ => ⟨S1024x6144, .f32⟩
  | .hbm, ⟨7, _⟩ => ⟨S2048x1024, .f32⟩
  | .hbm, ⟨8, _⟩ => ⟨S4x1x1, .f32⟩
  | .hbm, ⟨9, _⟩ => ⟨S4, .f32⟩
  | .hbm, ⟨10, _⟩ => ⟨S4x512, .f32⟩
  | .hbm, ⟨11, _⟩ => ⟨S2048, .f32⟩
  | .hbm, ⟨12, _⟩ => ⟨S1x2048, .f32⟩
  | .hbm, ⟨13, _⟩ => ⟨S4x1, .f32⟩
  | .hbm, ⟨14, _⟩ => ⟨S4, .f32⟩
  | .hbm, ⟨15, _⟩ => ⟨S4x512, .f32⟩
  | .hbm, ⟨16, _⟩ => ⟨S2048, .f32⟩
  | .hbm, ⟨17, _⟩ => ⟨S1x2048, .f32⟩
  | .hbm, ⟨18, _⟩ => ⟨S1x1024, .f32⟩
  | .hbm, ⟨19, _⟩ => ⟨S1024x6144, .bf16⟩
  | .hbm, ⟨20, _⟩ => ⟨S1x2048, .f32⟩
  | .hbm, ⟨21, _⟩ => ⟨S1x2048, .f32⟩
  | .hbm, ⟨22, _⟩ => ⟨S2048x1024, .bf16⟩
  | .hbm, ⟨23, _⟩ => ⟨S128x1024, .f32⟩
  | .hbm, ⟨24, _⟩ => ⟨S128x1x2048, .f32⟩
  | .local _ .vmem, ⟨0, _⟩ => ⟨S128x1024, .f32⟩
  | .local _ .vmem, ⟨1, _⟩ => ⟨S1x1024, .f32⟩
  | .local _ .vmem, ⟨2, _⟩ => ⟨S1024x6144, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x1024, .bf16⟩
  | .local _ .vmem, ⟨8, _⟩ => ⟨S128x1024, .f32⟩
  | .local _ .vmem, ⟨9, _⟩ => ⟨S128x1x2048, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference4Ideal.lean ====
abbrev S128x1024 : Shape := ⟨2, ![128, 1024]⟩
abbrev S1024 : Shape := ⟨1, ![1024]⟩
abbrev S2048 : Shape := ⟨1, ![2048]⟩
abbrev S4x128x128 : Shape := ⟨3, ![4, 128, 128]⟩
abbrev S4x128 : Shape := ⟨2, ![4, 128]⟩
abbrev S1024x6144 : Shape := ⟨2, ![1024, 6144]⟩
abbrev S2048x1024 : Shape := ⟨2, ![2048, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x6144 : Shape := ⟨2, ![128, 6144]⟩
abbrev S128x2048 : Shape := ⟨2, ![128, 2048]⟩
abbrev S1x2048 : Shape := ⟨2, ![1, 2048]⟩
abbrev S128x1x2048 : Shape := ⟨3, ![128, 1, 2048]⟩
abbrev S128x128x2048 : Shape := ⟨3, ![128, 128, 2048]⟩
abbrev S128x128x4x512 : Shape := ⟨4, ![128, 128, 4, 512]⟩
abbrev S128x128 : Shape := ⟨2, ![128, 128]⟩
abbrev S4x128x512x128 : Shape := ⟨4, ![4, 128, 512, 128]⟩
abbrev S128x4 : Shape := ⟨2, ![128, 4]⟩
abbrev S1x128x4x1 : Shape := ⟨4, ![1, 128, 4, 1]⟩

abbrev nBuf : Space → Nat
  | .hbm => 119
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S2048, .f32⟩
  | .hbm, ⟨3, _⟩ => ⟨S2048, .f32⟩
  | .hbm, ⟨4, _⟩ => ⟨S4x128x128, .f32⟩
  | .hbm, ⟨5, _⟩ => ⟨S4x128, .f32⟩
  | .hbm, ⟨6, _⟩ => ⟨S1024x6144, .f32⟩
  | .hbm, ⟨7, _⟩ => ⟨S2048x1024, .f32⟩
  | .hbm, ⟨8, _⟩ => ⟨S128x1024, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S128x1024, .f32⟩
  | .hbm, ⟨23, _⟩ => ⟨S128x1024, .f32⟩
  | .hbm, ⟨24, _⟩ => ⟨S128x6144, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S_, .f32⟩
  | .hbm, ⟨29, _⟩ => ⟨S128x2048, .f32⟩
  | .hbm, ⟨30, _⟩ => ⟨S128x2048, .f32⟩
  | .hbm, ⟨31, _⟩ => ⟨S128x2048, .f32⟩
  | .hbm, ⟨32, _⟩ => ⟨S_, .f32⟩
  | .hbm, ⟨33, _⟩ => ⟨S128x2048, .f32⟩
  | .hbm, ⟨34, _⟩ => ⟨S128x2048, .f32⟩
  | .hbm, ⟨35, _⟩ => ⟨S128x2048, .f32⟩
  | .hbm, ⟨36, _⟩ => ⟨S128x2048, .f32⟩
  | .hbm, ⟨37, _⟩ => ⟨S_, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S_, .f32⟩
  | .hbm, ⟨42, _⟩ => ⟨S128x2048, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x2048, .f32⟩
  | .hbm, ⟨53, _⟩ => ⟨S128x2048, .f32⟩
  | .hbm, ⟨54, _⟩ => ⟨S128x2048, .f32⟩
  | .hbm, ⟨55, _⟩ => ⟨S_, .f32⟩
  | .hbm, ⟨56, _⟩ => ⟨S128, .f32⟩
  | .hbm, ⟨57, _⟩ => ⟨S128x1, .f32⟩
  | .hbm, ⟨58, _⟩ => ⟨S_, .f32⟩
  | .hbm, ⟨59, _⟩ => ⟨S128x1, .f32⟩
  | .hbm, ⟨60, _⟩ => ⟨S128x1, .f32⟩
  | .hbm, ⟨61, _⟩ => ⟨S128x2048, .f32⟩
  | .hbm, ⟨62, _⟩ => ⟨S128x2048, .f32⟩
  | .hbm, ⟨63, _⟩ => ⟨S_, .f32⟩
  | .hbm, ⟨64, _⟩ => ⟨S128x1, .f32⟩
  | .hbm, ⟨65, _⟩ => ⟨S128x1, .f32⟩
  | .hbm, ⟨66, _⟩ => ⟨S128x1, .f32⟩
  | .hbm, ⟨67, _⟩ => ⟨S128x2048, .f32⟩
  | .hbm, ⟨68, _⟩ => ⟨S128x2048, .f32⟩
  | .hbm, ⟨69, _⟩ => ⟨S1x2048, .f32⟩
  | .hbm, ⟨70, _⟩ => ⟨S128x2048, .f32⟩
  | .hbm, ⟨71, _⟩ => ⟨S128x2048, .f32⟩
  | .hbm, ⟨72, _⟩ => ⟨S1x2048, .f32⟩
  | .hbm, ⟨73, _⟩ => ⟨S128x2048, .f32⟩
  | .hbm, ⟨74, _⟩ => ⟨S128x2048, .f32⟩
  | .hbm, ⟨75, _⟩ => ⟨S128x1x2048, .f32⟩
  | .hbm, ⟨76, _⟩ => ⟨S_, .i32⟩
  | .hbm, ⟨77, _⟩ => ⟨S_, .f32⟩
  | .hbm, ⟨78, _⟩ => ⟨S128x128x2048, .f32⟩
  | .hbm, ⟨79, _⟩ => ⟨S128x128x4x512, .f32⟩
  | .hbm, ⟨80, _⟩ => ⟨S_, .i1⟩
  | .hbm, ⟨81, _⟩ => ⟨S128x128, .i1⟩
  | .hbm, ⟨82, _⟩ => ⟨S128x128, .i32⟩
  | .hbm, ⟨83, _⟩ => ⟨S_, .i32⟩
  | .hbm, ⟨84, _⟩ => ⟨S128x128, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S_, .i1⟩
  | .hbm, ⟨89, _⟩ => ⟨S128x128, .i1⟩
  | .hbm, ⟨90, _⟩ => ⟨S128x128, .i1⟩
  | .hbm, ⟨91, _⟩ => ⟨S_, .f32⟩
  | .hbm, ⟨92, _⟩ => ⟨S_, .f32⟩
  | .hbm, ⟨93, _⟩ => ⟨S4x128x128, .i1⟩
  | .hbm, ⟨94, _⟩ => ⟨S4x128x128, .f32⟩
  | .hbm, ⟨95, _⟩ => ⟨S4x128x128, .f32⟩
  | .hbm, ⟨96, _⟩ => ⟨S4x128x512x128, .f32⟩
  | .hbm, ⟨97, _⟩ => ⟨S128x128x4x512, .f32⟩
  | .hbm, ⟨98, _⟩ => ⟨S128x4, .f32⟩
  | .hbm, ⟨99, _⟩ => ⟨S1x128x4x1, .f32⟩
  | .hbm, ⟨100, _⟩ => ⟨S128x128x4x512, .f32⟩
  | .hbm, ⟨101, _⟩ => ⟨S128x128x4x512, .f32⟩
  | .hbm, ⟨102, _⟩ => ⟨S128x128x2048, .f32⟩
  | .hbm, ⟨103, _⟩ => ⟨S128x1x2048, .f32⟩
  | .hbm, ⟨104, _⟩ => ⟨S128x2048, .f32⟩
  | .hbm, ⟨105, _⟩ => ⟨S128x2048, .f32⟩
  | .hbm, ⟨106, _⟩ => ⟨S128x2048, .f32⟩
  | .hbm, ⟨107, _⟩ => ⟨S128x2048, .f32⟩
  | .hbm, ⟨108, _⟩ => ⟨S_, .f32⟩
  | .hbm, ⟨109, _⟩ => ⟨S128x2048, .f32⟩
  | .hbm, ⟨110, _⟩ => ⟨S128x2048, .f32⟩
  | .hbm, ⟨111, _⟩ => ⟨S_, .f32⟩
  | .hbm, ⟨112, _⟩ => ⟨S128x2048, .f32⟩
  | .hbm, ⟨113, _⟩ => ⟨S128x2048, .f32⟩
  | .hbm, ⟨114, _⟩ => ⟨S128x2048, .f32⟩
  | .hbm, ⟨115, _⟩ => ⟨S128x2048, .f32⟩
  | .hbm, ⟨116, _⟩ => ⟨S128x1024, .f32⟩
  | .hbm, ⟨117, _⟩ => ⟨S128x1024, .f32⟩
  | .hbm, ⟨118, _⟩ => ⟨S128x1x2048, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c : Ref sig .tc := ⟨.hbm, 76, rfl⟩
abbrev main_call0_v0 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_call1_v0 : Ref sig .tc := ⟨.hbm, 82, rfl⟩
abbrev main_call1_c : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_c_0 : Ref sig .tc := ⟨.hbm, 88, rfl⟩
abbrev main_call1_v5 : Ref sig .tc := ⟨.hbm, 89, rfl⟩
abbrev main_v59 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call3_v0 : Ref sig .tc := ⟨.hbm, 106, rfl⟩
abbrev main_call3_v1 : Ref sig .tc := ⟨.hbm, 107, rfl⟩
abbrev main_call3_cst : Ref sig .tc := ⟨.hbm, 108, rfl⟩
abbrev main_call3_v2 : Ref sig .tc := ⟨.hbm, 109, rfl⟩
abbrev main_call3_v3 : Ref sig .tc := ⟨.hbm, 110, rfl⟩
abbrev main_call3_cst_0 : Ref sig .tc := ⟨.hbm, 111, rfl⟩
abbrev main_call3_v4 : Ref sig .tc := ⟨.hbm, 112, rfl⟩
abbrev main_call3_v5 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩

abbrev nD : Nat := 1
abbrev τ : Topo := Topo.v7x

variable {F : FTy → Type} [FloatOps F]
-- ==== Proof.PoolDefs.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.VecWindow

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

/-- The tile's position inside its batch, as the body computes it from the grid coordinate. -/
abbrev tw (i : grid0.Coords) : BitVec 32 :=
  let v7 := Scalar.maxsi (Scalar.subi (BitVec.ofNat 32 (i 0).val) 8#32) 0#32
  let v9 := Scalar.select (Scalar.cmpi .eq 2#32 0#32) 1#32 2#32
  let v10 := Scalar.remsi v7 v9
  let v14 := Scalar.xori (Scalar.cmpi .slt v10 0#32) (Scalar.cmpi .slt v9 0#32)
  Scalar.select (Scalar.andi v14 (Scalar.cmpi .ne v10 0#32)) (Scalar.addi v10 v9) v10

/-- The body clears the carried history at this point. -/
abbrev clears (i : grid0.Coords) : Prop :=
  Scalar.cmpi .ne (Scalar.extui (Scalar.cmpi .eq (tw i) 0#32) : BitVec 32) 0#32 = 1#1

/-- The 512 rows of the grouped weight from row `o` on. -/
abbrev grp (w : Vec F S2048x512 .bf16) (o : Nat) (inb : ∀ a, (![o, 0] : Fin 2 → Nat) a + S512x512.size a ≤ S2048x512.size a) : Vec F S512x512 .bf16 :=
  VecWindow.window w ![o, 0] S512x512.size inb

/-- The tile the body writes, from the tile's position, its activations, the row vectors, the three resident weights and the
    history it finds. -/
def yOf (p : BitVec 32) (x : Vec F S1x1024x1024 .f32) (gain : Vec F S1x1024 .f32) (sc : Vec F S1x2048 .f32)
    (fin : Vec F S1x1024 .f32) (w : Vec F S1024x4096 .bf16) (g : Vec F S2048x512 .bf16) (o : Vec F S2048x1024 .bf16)
    (h : Vec F S16x2048 .f32) : Vec F S1x1024x1024 .f32 :=
  k0_pay7 (k0_pay10 x) (k0_pay13 x gain w)
    (k0_pay22 (k0_pay18 p (k0_pay12 x gain w) h) (grp g 0 inb_S2048x512_S512x512_0_0))
    (k0_pay23 (k0_pay19 p (k0_pay12 x gain w) h) (grp g 512 inb_S2048x512_S512x512_512_0))
    (k0_pay24 (k0_pay12 x gain w) (k0_pay17 p) (k0_pay20 (k0_pay12 x gain w) h) (k0_pay21 (k0_pay12 x gain w) h)
      (grp g 1024 inb_S2048x512_S512x512_1024_0))
    (k0_pay25 (k0_pay12 x gain w) (k0_pay14 (k0_pay12 x gain w) h) (k0_pay17 p))
    (grp g 1536 inb_S2048x512_S512x512_1536_0) sc o fin

/-- The history the tile hands on. -/
def histOf (x : Vec F S1x1024x1024 .f32) (gain : Vec F S1x1024 .f32) (w : Vec F S1024x4096 .bf16) : Vec F S16x2048 .f32 :=
  k0_pay16 (k0_pay12 x gain w)

/-- The state block the last tile of a batch writes. -/
def stOf (x : Vec F S1x1024x1024 .f32) (gain : Vec F S1x1024 .f32) (w : Vec F S1024x4096 .bf16) : Vec F S1x16x2048 .f32 :=
  k0_pay8 (k0_pay15 (k0_pay12 x gain w))

/-- A whole load of contents read as `x` gives `x`. -/
theorem ld1 (m : Memref sig Kind.tc Space.vmem S1x1024x1024 .f32) (h : m.IsWhole) (x : Vec F S1x1024x1024 .f32) :
    View.readAt (Elt F) m.view (Rect.unit (s := S1x1024x1024) ![0, 0, 0] ![1, 1024, 1024] inb_S1x1024x1024_S1x1024x1024_0_0_0).toLoadRect (h.unread x) = x :=
  (View.readAt_full _ _ _).trans (h.read_unread _)

/-- A whole load of contents read as `x` gives `x`. -/
theorem ld2 (m : Memref sig Kind.tc Space.vmem S1x1024 .f32) (h : m.IsWhole) (x : Vec F S1x1024 .f32) :
    View.readAt (Elt F) m.view (Rect.unit (s := S1x1024) ![0, 0] ![1, 1024] inb_S1x1024_S1x1024_0_0).toLoadRect (h.unread x) = x :=
  (View.readAt_full _ _ _).trans (h.read_unread _)

/-- A whole load of contents read as `x` gives `x`. -/
theorem ld3 (m : Memref sig Kind.tc Space.vmem S1x2048 .f32) (h : m.IsWhole) (x : Vec F S1x2048 .f32) :
    View.readAt (Elt F) m.view (Rect.unit (s := S1x2048) ![0, 0] ![1, 2048] inb_S1x2048_S1x2048_0_0).toLoadRect (h.unread x) = x :=
  (View.readAt_full _ _ _).trans (h.read_unread _)

/-- A whole load of contents read as `x` gives `x`. -/
theorem ld4 (m : Memref sig Kind.tc Space.vmem S1x1024 .f32) (h : m.IsWhole) (x : Vec F S1x1024 .f32) :
    View.readAt (Elt F) m.view (Rect.unit (s := S1x1024) ![0, 0] ![1, 1024] inb_S1x1024_S1x1024_0_0).toLoadRect (h.unread x) = x :=
  (View.readAt_full _ _ _).trans (h.read_unread _)

/-- A whole load of contents read as `x` gives `x`. -/
theorem ld5 (m : Memref sig Kind.tc Space.vmem S128x4096 .f32) (h : m.IsWhole) (x : Vec F S128x4096 .f32) :
    View.readAt (Elt F) m.view (Rect.unit (s := S128x4096) ![0, 0] ![128, 4096] inb_S128x4096_S128x4096_0_0).toLoadRect (h.unread x) = x :=
  (View.readAt_full _ _ _).trans (h.read_unread _)

/-- A whole load of contents read as `x` gives `x`. -/
theorem ld6 (m : Memref sig Kind.tc Space.vmem S256x512 .f32) (h : m.IsWhole) (x : Vec F S256x512 .f32) :
    View.readAt (Elt F) m.view (Rect.unit (s := S256x512) ![0, 0] ![256, 512] inb_S256x512_S256x512_0_0).toLoadRect (h.unread x) = x :=
  (View.readAt_full _ _ _).trans (h.read_unread _)

/-- A whole load of contents read as `x` gives `x`. -/
theorem ld7 (m : Memref sig Kind.tc Space.vmem S256x1024 .f32) (h : m.IsWhole) (x : Vec F S256x1024 .f32) :
    View.readAt (Elt F) m.view (Rect.unit (s := S256x1024) ![0, 0] ![256, 1024] inb_S256x1024_S256x1024_0_0).toLoadRect (h.unread x) = x :=
  (View.readAt_full _ _ _).trans (h.read_unread _)

/-- A whole load of contents read as `x` gives `x`. -/
theorem ld13 (m : Memref sig Kind.tc Space.vmem S1024x4096 .bf16) (h : m.IsWhole) (x : Vec F S1024x4096 .bf16) :
    View.readAt (Elt F) m.view (Rect.unit (s := S1024x4096) ![0, 0] ![1024, 4096] inb_S1024x4096_S1024x4096_0_0).toLoadRect (h.unread x) = x :=
  (View.readAt_full _ _ _).trans (h.read_unread _)

/-- A whole load of contents read as `x` gives `x`. -/
theorem ld15 (m : Memref sig Kind.tc Space.vmem S2048x1024 .bf16) (h : m.IsWhole) (x : Vec F S2048x1024 .bf16) :
    View.readAt (Elt F) m.view (Rect.unit (s := S2048x1024) ![0, 0] ![2048, 1024] inb_S2048x1024_S2048x1024_0_0).toLoadRect (h.unread x) = x :=
  (View.readAt_full _ _ _).trans (h.read_unread _)

/-- A whole load of contents read as `x` gives `x`. -/
theorem ld16 (m : Memref sig Kind.tc Space.vmem S16x2048 .f32) (h : m.IsWhole) (x : Vec F S16x2048 .f32) :
    View.readAt (Elt F) m.view (Rect.unit (s := S16x2048) ![0, 0] ![16, 2048] inb_S16x2048_S16x2048_0_0).toLoadRect (h.unread x) = x :=
  (View.readAt_full _ _ _).trans (h.read_unread _)

/-- A load of one group's rows. -/
theorem ldg0 (m : Memref sig Kind.tc Space.vmem S2048x512 .bf16) (h : m.IsWhole) (x : Vec F S2048x512 .bf16) :
    View.readAt (Elt F) m.view (Rect.unit (s := S2048x512) ![0, 0] ![512, 512] inb_S2048x512_S512x512_0_0).toLoadRect (h.unread x) = grp x 0 inb_S2048x512_S512x512_0_0 :=
  (View.readAt_unit _ _ _ rfl _).trans (congrArg (fun z => grp z 0 inb_S2048x512_S512x512_0_0) (h.read_unread _))

/-- A load of one group's rows. -/
theorem ldg512 (m : Memref sig Kind.tc Space.vmem S2048x512 .bf16) (h : m.IsWhole) (x : Vec F S2048x512 .bf16) :
    View.readAt (Elt F) m.view (Rect.unit (s := S2048x512) ![512, 0] ![512, 512] inb_S2048x512_S512x512_512_0).toLoadRect (h.unread x) = grp x 512 inb_S2048x512_S512x512_512_0 :=
  (View.readAt_unit _ _ _ rfl _).trans (congrArg (fun z => grp z 512 inb_S2048x512_S512x512_512_0) (h.read_unread _))

/-- A load of one group's rows. -/
theorem ldg1024 (m : Memref sig Kind.tc Space.vmem S2048x512 .bf16) (h : m.IsWhole) (x : Vec F S2048x512 .bf16) :
    View.readAt (Elt F) m.view (Rect.unit (s := S2048x512) ![1024, 0] ![512, 512] inb_S2048x512_S512x512_1024_0).toLoadRect (h.unread x) = grp x 1024 inb_S2048x512_S512x512_1024_0 :=
  (View.readAt_unit _ _ _ rfl _).trans (congrArg (fun z => grp z 1024 inb_S2048x512_S512x512_1024_0) (h.read_unread _))

/-- A load of one group's rows. -/
theorem ldg1536 (m : Memref sig Kind.tc Space.vmem S2048x512 .bf16) (h : m.IsWhole) (x : Vec F S2048x512 .bf16) :
    View.readAt (Elt F) m.view (Rect.unit (s := S2048x512) ![1536, 0] ![512, 512] inb_S2048x512_S512x512_1536_0).toLoadRect (h.unread x) = grp x 1536 inb_S2048x512_S512x512_1536_0 :=
  (View.readAt_unit _ _ _ rfl _).trans (congrArg (fun z => grp z 1536 inb_S2048x512_S512x512_1536_0) (h.read_unread _))

/-- The history just stored, read back. -/
theorem ldh (v : View sig Kind.tc Space.vmem S16x2048 .f32) (f : v.ty.Contents (Elt F))
    (p : (Rect.unit (s := S16x2048) ![0, 0] S16x2048.size inb_S16x2048_S16x2048_0_0).shape.Idx → Elt F .f32) (L : List (View.Piece (Elt F) S16x2048 .f32)) :
    v.readAt (Elt F) (Rect.unit (s := S16x2048) ![0, 0] S16x2048.size inb_S16x2048_S16x2048_0_0).toLoadRect
      (v.writes (Elt F) f (⟨Rect.unit (s := S16x2048) ![0, 0] S16x2048.size inb_S16x2048_S16x2048_0_0, p⟩ :: L)) = p := by
  exact View.readAt_writes_full v f _ _ p L

end Cert.KernelIdeal.Pool

end
-- ==== Proof.PoolPrep.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.VecWindow
public import proofs.«01_k».proof.Proof.PoolDefs

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

set_option maxHeartbeats 8000000 in
/-- A weight-preparation point: each resident weight receives the rounded chunk in its rows, its copy block the same chunk; everything else stays. -/
theorem run_prep (c : Dev nD) (i : grid0.Coords) (arg1 : Memref sig .tc .vmem S1x1024x1024 .f32) (harg1 : arg1.IsWhole) (arg2 : Memref sig .tc .vmem S1x1024 .f32) (harg2 : arg2.IsWhole) (arg3 : Memref sig .tc .vmem S1x2048 .f32) (harg3 : arg3.IsWhole) (arg4 : Memref sig .tc .vmem S1x1024 .f32) (harg4 : arg4.IsWhole) (arg5 : Memref sig .tc .vmem S128x4096 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S1x1024x1024 .f32) (harg8 : arg8.IsWhole) (arg9 : Memref sig .tc .vmem S1x16x2048 .f32) (harg9 : arg9.IsWhole) (arg10 : Memref sig .tc .vmem S128x4096 .bf16) (harg10 : arg10.IsWhole) (arg11 : Memref sig .tc .vmem S256x512 .bf16) (harg11 : arg11.IsWhole) (arg12 : Memref sig .tc .vmem S256x1024 .bf16) (harg12 : arg12.IsWhole) (arg13 : Memref sig .tc .vmem S1024x4096 .bf16) (harg13 : arg13.IsWhole) (arg14 : Memref sig .tc .vmem S2048x512 .bf16) (harg14 : arg14.IsWhole) (arg15 : Memref sig .tc .vmem S2048x1024 .bf16) (harg15 : arg15.IsWhole) (arg16 : Memref sig .tc .vmem S16x2048 .f32) (harg16 : arg16.IsWhole)
    (hc0 : k0_cond1 i = 1#1) (hc1 : ¬ k0_cond2 i = 1#1) (x1 : Vec F S1x1024x1024 .f32) (x2 : Vec F S1x1024 .f32) (x3 : Vec F S1x2048 .f32) (x4 : Vec F S1x1024 .f32) (x5 : Vec F S128x4096 .f32) (x6 : Vec F S256x512 .f32) (x7 : Vec F S256x1024 .f32) (x8 : Vec F S1x1024x1024 .f32) (x9 : Vec F S1x16x2048 .f32) (x10 : Vec F S128x4096 .bf16) (x11 : Vec F S256x512 .bf16) (x12 : Vec F S256x1024 .bf16) (x13 : Vec F S1024x4096 .bf16) (x14 : Vec F S2048x512 .bf16) (x15 : Vec F S2048x1024 .bf16) (x16 : Vec F S16x2048 .f32) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay1 x5) ∗ owns (c : Thread nD τ) arg11 fullShare (k0_pay3 x6) ∗ owns (c : Thread nD τ) arg12 fullShare (k0_pay5 x7) ∗ owns (c : Thread nD τ) arg13 fullShare (VecWindow.put x13 (k0_off1 i) S128x4096.size (k0_pay2 x5)) ∗ owns (c : Thread nD τ) arg14 fullShare (VecWindow.put x14 (k0_off2 i) S256x512.size (k0_pay4 x6)) ∗ owns (c : Thread nD τ) arg15 fullShare (VecWindow.put x15 (k0_off3 i) S256x1024.size (k0_pay6 x7)) ∗ owns (c : Thread nD τ) arg16 fullShare x16) -∗ K ⟨⟩))
      ⊢ wp frame (wpE (defs₀ (F := F)) Variants.none c none) E (cc0_pool_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_pool_prompt_eq_skeleton]; unfold cc0_pool_prompt_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc0 | sl_exact hc1)
  sl_step
  iapply Hk
  isplitl [H1]
  · iexists _; isplitr; swap; iexact H1
    ipureintro; exact harg1.read_unread _
  isplitl [H2]
  · iexists _; isplitr; swap; iexact H2
    ipureintro; exact harg2.read_unread _
  isplitl [H3]
  · iexists _; isplitr; swap; iexact H3
    ipureintro; exact harg3.read_unread _
  isplitl [H4]
  · iexists _; isplitr; swap; iexact H4
    ipureintro; exact harg4.read_unread _
  isplitl [H5]
  · iexists _; isplitr; swap; iexact H5
    ipureintro; exact harg5.read_unread _
  isplitl [H6]
  · iexists _; isplitr; swap; iexact H6
    ipureintro; exact harg6.read_unread _
  isplitl [H7]
  · iexists _; isplitr; swap; iexact H7
    ipureintro; exact harg7.read_unread _
  isplitl [H8]
  · iexists _; isplitr; swap; iexact H8
    ipureintro; exact harg8.read_unread _
  isplitl [H9]
  · iexists _; isplitr; swap; iexact H9
    ipureintro; exact harg9.read_unread _
  isplitl [H10]
  · iexists _; isplitr; swap; iexact H10
    ipureintro; refine (View.read_writes_full _ _ _ _ _).trans ?_; simp only [ld1, ld2, ld3, ld4, ld5, ld6, ld7, ld13, ld15, ld16, ldg0, ldg512, ldg1024, ldg1536, ldh]
  isplitl [H11]
  · iexists _; isplitr; swap; iexact H11
    ipureintro; refine (View.read_writes_full _ _ _ _ _).trans ?_; simp only [ld1, ld2, ld3, ld4, ld5, ld6, ld7, ld13, ld15, ld16, ldg0, ldg512, ldg1024, ldg1536, ldh]
  isplitl [H12]
  · iexists _; isplitr; swap; iexact H12
    ipureintro; refine (View.read_writes_full _ _ _ _ _).trans ?_; simp only [ld1, ld2, ld3, ld4, ld5, ld6, ld7, ld13, ld15, ld16, ldg0, ldg512, ldg1024, ldg1536, ldh]
  isplitl [H13]
  · iexists _; isplitr; swap; iexact H13
    ipureintro; rw [View.read_writes_cons_put _ _ _ _ _ rfl, View.writes_nil, harg13.read_unread]; simp only [ld5, ld6, ld7]
  isplitl [H14]
  · iexists _; isplitr; swap; iexact H14
    ipureintro; rw [View.read_writes_cons_put _ _ _ _ _ rfl, View.writes_nil, harg14.read_unread]; simp only [ld5, ld6, ld7]
  isplitl [H15]
  · iexists _; isplitr; swap; iexact H15
    ipureintro; rw [View.read_writes_cons_put _ _ _ _ _ rfl, View.writes_nil, harg15.read_unread]; simp only [ld5, ld6, ld7]
  iexists _; isplitr; swap; iexact H16
  ipureintro; exact harg16.read_unread _

end Cert.KernelIdeal.Pool

end
-- ==== Proof.PoolFirst.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.VecWindow
public import proofs.«01_k».proof.Proof.PoolDefs

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

set_option maxHeartbeats 8000000 in
/-- A batch's first tile: the history is cleared before it is read. -/
theorem run_first (c : Dev nD) (i : grid0.Coords) (arg1 : Memref sig .tc .vmem S1x1024x1024 .f32) (harg1 : arg1.IsWhole) (arg2 : Memref sig .tc .vmem S1x1024 .f32) (harg2 : arg2.IsWhole) (arg3 : Memref sig .tc .vmem S1x2048 .f32) (harg3 : arg3.IsWhole) (arg4 : Memref sig .tc .vmem S1x1024 .f32) (harg4 : arg4.IsWhole) (arg5 : Memref sig .tc .vmem S128x4096 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S1x1024x1024 .f32) (harg8 : arg8.IsWhole) (arg9 : Memref sig .tc .vmem S1x16x2048 .f32) (harg9 : arg9.IsWhole) (arg10 : Memref sig .tc .vmem S128x4096 .bf16) (harg10 : arg10.IsWhole) (arg11 : Memref sig .tc .vmem S256x512 .bf16) (harg11 : arg11.IsWhole) (arg12 : Memref sig .tc .vmem S256x1024 .bf16) (harg12 : arg12.IsWhole) (arg13 : Memref sig .tc .vmem S1024x4096 .bf16) (harg13 : arg13.IsWhole) (arg14 : Memref sig .tc .vmem S2048x512 .bf16) (harg14 : arg14.IsWhole) (arg15 : Memref sig .tc .vmem S2048x1024 .bf16) (harg15 : arg15.IsWhole) (arg16 : Memref sig .tc .vmem S16x2048 .f32) (harg16 : arg16.IsWhole)
    (hc0 : ¬ k0_cond1 i = 1#1) (hc1 : k0_cond2 i = 1#1) (hc2 : clears i) (hc3 : ¬ k0_cond4 i = 1#1) (x1 : Vec F S1x1024x1024 .f32) (x2 : Vec F S1x1024 .f32) (x3 : Vec F S1x2048 .f32) (x4 : Vec F S1x1024 .f32) (x5 : Vec F S128x4096 .f32) (x6 : Vec F S256x512 .f32) (x7 : Vec F S256x1024 .f32) (x8 : Vec F S1x1024x1024 .f32) (x9 : Vec F S1x16x2048 .f32) (x10 : Vec F S128x4096 .bf16) (x11 : Vec F S256x512 .bf16) (x12 : Vec F S256x1024 .bf16) (x13 : Vec F S1024x4096 .bf16) (x14 : Vec F S2048x512 .bf16) (x15 : Vec F S2048x1024 .bf16) (x16 : Vec F S16x2048 .f32) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (yOf (tw i) x1 x2 x3 x4 x13 x14 x15 k0_pay9) ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (histOf x1 x2 x13)) -∗ K ⟨⟩))
      ⊢ wp frame (wpE (defs₀ (F := F)) Variants.none c none) E (cc0_pool_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_pool_prompt_eq_skeleton]; unfold cc0_pool_prompt_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc0 | sl_exact hc1 | sl_exact hc2 | sl_exact hc3)
  sl_step
  iapply Hk
  isplitl [H1]
  · iexists _; isplitr; swap; iexact H1
    ipureintro; exact harg1.read_unread _
  isplitl [H2]
  · iexists _; isplitr; swap; iexact H2
    ipureintro; exact harg2.read_unread _
  isplitl [H3]
  · iexists _; isplitr; swap; iexact H3
    ipureintro; exact harg3.read_unread _
  isplitl [H4]
  · iexists _; isplitr; swap; iexact H4
    ipureintro; exact harg4.read_unread _
  isplitl [H5]
  · iexists _; isplitr; swap; iexact H5
    ipureintro; exact harg5.read_unread _
  isplitl [H6]
  · iexists _; isplitr; swap; iexact H6
    ipureintro; exact harg6.read_unread _
  isplitl [H7]
  · iexists _; isplitr; swap; iexact H7
    ipureintro; exact harg7.read_unread _
  isplitl [H8]
  · iexists _; isplitr; swap; iexact H8
    ipureintro; refine (View.read_writes_full _ _ _ _ _).trans ?_; unfold yOf; have ht : run_first.sl.v17 i = tw i := rfl
    have hh : run_first.sl.v42 c arg16 = (k0_pay9 : Vec F S16x2048 .f32) := View.readCov_full arg16.view _ _ _ _
    rw [ht, hh]; simp only [View.readCov_full, ld1, ld2, ld3, ld4, ld5, ld6, ld7, ld13, ld15, ld16, ldg0, ldg512, ldg1024, ldg1536, ldh]
  isplitl [H9]
  · iexists _; isplitr; swap; iexact H9
    ipureintro; exact harg9.read_unread _
  isplitl [H10]
  · iexists _; isplitr; swap; iexact H10
    ipureintro; exact harg10.read_unread _
  isplitl [H11]
  · iexists _; isplitr; swap; iexact H11
    ipureintro; exact harg11.read_unread _
  isplitl [H12]
  · iexists _; isplitr; swap; iexact H12
    ipureintro; exact harg12.read_unread _
  isplitl [H13]
  · iexists _; isplitr; swap; iexact H13
    ipureintro; exact harg13.read_unread _
  isplitl [H14]
  · iexists _; isplitr; swap; iexact H14
    ipureintro; exact harg14.read_unread _
  isplitl [H15]
  · iexists _; isplitr; swap; iexact H15
    ipureintro; exact harg15.read_unread _
  iexists _; isplitr; swap; iexact H16
  ipureintro; refine (View.read_writes_full _ _ _ _ _).trans ?_; unfold histOf; simp only [View.readCov_full, ld1, ld2, ld3, ld4, ld5, ld6, ld7, ld13, ld15, ld16, ldg0, ldg512, ldg1024, ldg1536, ldh]

end Cert.KernelIdeal.Pool

end
-- ==== Proof.PoolLast.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.VecWindow
public import proofs.«01_k».proof.Proof.PoolDefs

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

set_option maxHeartbeats 8000000 in
/-- A batch's last tile: the history is the one found, and the state block is written. -/
theorem run_last (c : Dev nD) (i : grid0.Coords) (arg1 : Memref sig .tc .vmem S1x1024x1024 .f32) (harg1 : arg1.IsWhole) (arg2 : Memref sig .tc .vmem S1x1024 .f32) (harg2 : arg2.IsWhole) (arg3 : Memref sig .tc .vmem S1x2048 .f32) (harg3 : arg3.IsWhole) (arg4 : Memref sig .tc .vmem S1x1024 .f32) (harg4 : arg4.IsWhole) (arg5 : Memref sig .tc .vmem S128x4096 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S1x1024x1024 .f32) (harg8 : arg8.IsWhole) (arg9 : Memref sig .tc .vmem S1x16x2048 .f32) (harg9 : arg9.IsWhole) (arg10 : Memref sig .tc .vmem S128x4096 .bf16) (harg10 : arg10.IsWhole) (arg11 : Memref sig .tc .vmem S256x512 .bf16) (harg11 : arg11.IsWhole) (arg12 : Memref sig .tc .vmem S256x1024 .bf16) (harg12 : arg12.IsWhole) (arg13 : Memref sig .tc .vmem S1024x4096 .bf16) (harg13 : arg13.IsWhole) (arg14 : Memref sig .tc .vmem S2048x512 .bf16) (harg14 : arg14.IsWhole) (arg15 : Memref sig .tc .vmem S2048x1024 .bf16) (harg15 : arg15.IsWhole) (arg16 : Memref sig .tc .vmem S16x2048 .f32) (harg16 : arg16.IsWhole)
    (hc0 : ¬ k0_cond1 i = 1#1) (hc1 : k0_cond2 i = 1#1) (hc2 : ¬ clears i) (hc3 : k0_cond4 i = 1#1) (x1 : Vec F S1x1024x1024 .f32) (x2 : Vec F S1x1024 .f32) (x3 : Vec F S1x2048 .f32) (x4 : Vec F S1x1024 .f32) (x5 : Vec F S128x4096 .f32) (x6 : Vec F S256x512 .f32) (x7 : Vec F S256x1024 .f32) (x8 : Vec F S1x1024x1024 .f32) (x9 : Vec F S1x16x2048 .f32) (x10 : Vec F S128x4096 .bf16) (x11 : Vec F S256x512 .bf16) (x12 : Vec F S256x1024 .bf16) (x13 : Vec F S1024x4096 .bf16) (x14 : Vec F S2048x512 .bf16) (x15 : Vec F S2048x1024 .bf16) (x16 : Vec F S16x2048 .f32) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (yOf (tw i) x1 x2 x3 x4 x13 x14 x15 x16) ∗ owns (c : Thread nD τ) arg9 fullShare (stOf x1 x2 x13) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (histOf x1 x2 x13)) -∗ K ⟨⟩))
      ⊢ wp frame (wpE (defs₀ (F := F)) Variants.none c none) E (cc0_pool_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_pool_prompt_eq_skeleton]; unfold cc0_pool_prompt_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc0 | sl_exact hc1 | sl_exact hc2 | sl_exact hc3)
  sl_step
  iapply Hk
  isplitl [H1]
  · iexists _; isplitr; swap; iexact H1
    ipureintro; exact harg1.read_unread _
  isplitl [H2]
  · iexists _; isplitr; swap; iexact H2
    ipureintro; exact harg2.read_unread _
  isplitl [H3]
  · iexists _; isplitr; swap; iexact H3
    ipureintro; exact harg3.read_unread _
  isplitl [H4]
  · iexists _; isplitr; swap; iexact H4
    ipureintro; exact harg4.read_unread _
  isplitl [H5]
  · iexists _; isplitr; swap; iexact H5
    ipureintro; exact harg5.read_unread _
  isplitl [H6]
  · iexists _; isplitr; swap; iexact H6
    ipureintro; exact harg6.read_unread _
  isplitl [H7]
  · iexists _; isplitr; swap; iexact H7
    ipureintro; exact harg7.read_unread _
  isplitl [H8]
  · iexists _; isplitr; swap; iexact H8
    ipureintro; refine (View.read_writes_full _ _ _ _ _).trans ?_; unfold yOf; have ht : run_last.sl.v17 i = tw i := rfl
    rw [ht]; simp only [ld1, ld2, ld3, ld4, ld5, ld6, ld7, ld13, ld15, ld16, ldg0, ldg512, ldg1024, ldg1536, ldh]
  isplitl [H9]
  · iexists _; isplitr; swap; iexact H9
    ipureintro; refine (View.read_writes_full _ _ _ _ _).trans ?_; unfold stOf; simp only [ld1, ld2, ld3, ld4, ld5, ld6, ld7, ld13, ld15, ld16, ldg0, ldg512, ldg1024, ldg1536, ldh]
  isplitl [H10]
  · iexists _; isplitr; swap; iexact H10
    ipureintro; exact harg10.read_unread _
  isplitl [H11]
  · iexists _; isplitr; swap; iexact H11
    ipureintro; exact harg11.read_unread _
  isplitl [H12]
  · iexists _; isplitr; swap; iexact H12
    ipureintro; exact harg12.read_unread _
  isplitl [H13]
  · iexists _; isplitr; swap; iexact H13
    ipureintro; exact harg13.read_unread _
  isplitl [H14]
  · iexists _; isplitr; swap; iexact H14
    ipureintro; exact harg14.read_unread _
  isplitl [H15]
  · iexists _; isplitr; swap; iexact H15
    ipureintro; exact harg15.read_unread _
  iexists _; isplitr; swap; iexact H16
  ipureintro; refine (View.read_writes_full _ _ _ _ _).trans ?_; unfold histOf; simp only [ld1, ld2, ld3, ld4, ld5, ld6, ld7, ld13, ld15, ld16, ldg0, ldg512, ldg1024, ldg1536, ldh]

end Cert.KernelIdeal.Pool

end
-- ==== Proof.PoolRun.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.VecWindow
public import proofs.«01_k».proof.Proof.PoolPrep
public import proofs.«01_k».proof.Proof.PoolFirst
public import proofs.«01_k».proof.Proof.PoolLast

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point finds -/

/-- Input window 0's block at point `t`. -/
def b1 (c : Dev nD) (t : Fin cfg0.N) : Vec F S1x1024x1024 .f32 := iblk m c 0 t

/-- Input window 1's block at point `t`. -/
def b2 (c : Dev nD) (t : Fin cfg0.N) : Vec F S1x1024 .f32 := iblk m c 1 t

/-- Input window 2's block at point `t`. -/
def b3 (c : Dev nD) (t : Fin cfg0.N) : Vec F S1x2048 .f32 := iblk m c 2 t

/-- Input window 3's block at point `t`. -/
def b4 (c : Dev nD) (t : Fin cfg0.N) : Vec F S1x1024 .f32 := iblk m c 3 t

/-- Input window 4's block at point `t`. -/
def b5 (c : Dev nD) (t : Fin cfg0.N) : Vec F S128x4096 .f32 := iblk m c 4 t

/-- Input window 5's block at point `t`. -/
def b6 (c : Dev nD) (t : Fin cfg0.N) : Vec F S256x512 .f32 := iblk m c 5 t

/-- Input window 6's block at point `t`. -/
def b7 (c : Dev nD) (t : Fin cfg0.N) : Vec F S256x1024 .f32 := iblk m c 6 t

/-- The point of number `n`, for `n` below the number of points (the first point for others). -/
def pt (n : ℕ) : Fin cfg0.N := if h : n < cfg0.N then ⟨n, h⟩ else ⟨0, by rw [show cfg0.N = 24 from N_0]; omega⟩

theorem pt_val (t : Fin cfg0.N) : pt t.val = t := by unfold pt; rw [dif_pos t.isLt]

/-- The resident input weight once it is complete: chunk `r / 128` rounded. -/
def wn (c : Dev nD) : Vec F S1024x4096 .bf16 := fun j =>
  k0_pay2 (b5 m c (pt ((j 0).val / 128))) (fun a => match a with
    | ⟨0, _⟩ => ⟨(j 0).val % 128, Nat.mod_lt _ (by decide)⟩
    | ⟨1, _⟩ => j 1)

/-- The resident grouped weight once it is complete. -/
def wg (c : Dev nD) : Vec F S2048x512 .bf16 := fun j =>
  k0_pay4 (b6 m c (pt ((j 0).val / 256))) (fun a => match a with
    | ⟨0, _⟩ => ⟨(j 0).val % 256, Nat.mod_lt _ (by decide)⟩
    | ⟨1, _⟩ => j 1)

/-- The resident output weight once it is complete. -/
def wo (c : Dev nD) : Vec F S2048x1024 .bf16 := fun j =>
  k0_pay6 (b7 m c (pt ((j 0).val / 256))) (fun a => match a with
    | ⟨0, _⟩ => ⟨(j 0).val % 256, Nat.mod_lt _ (by decide)⟩
    | ⟨1, _⟩ => j 1)

/-- The history point `n` hands on. -/
def handed (c : Dev nD) (n : ℕ) : Vec F S16x2048 .f32 := histOf (b1 m c (pt n)) (b2 m c (pt n)) (wn m c)

/-- The history point `t` computes with: cleared at a batch's first tile, else what the point before handed on. -/
def hist (c : Dev nD) (t : Fin cfg0.N) : Vec F S16x2048 .f32 := if t.val % 2 = 0 then k0_pay9 else handed m c (t.val - 1)

/-- The tile point `t` writes. -/
def tileY (c : Dev nD) (t : Fin cfg0.N) : Vec F S1x1024x1024 .f32 :=
  yOf (tw (grid0.coords t)) (b1 m c t) (b2 m c t) (b3 m c t) (b4 m c t) (wn m c) (wg m c) (wo m c) (hist m c t)

/-- The state block point `t` writes, at a batch's last tile. -/
def tileS (c : Dev nD) (t : Fin cfg0.N) : Vec F S1x16x2048 .f32 := stOf (b1 m c t) (b2 m c t) (wn m c)

/-! ## The points' cases -/

theorem coord_val : ∀ t : Fin cfg0.N, ((grid0.coords t) 0).val = t.val := (by decide +kernel : ∀ t : Fin grid0.N, ((grid0.coords t) 0).val = t.val)
theorem cond1_iff : ∀ t : Fin cfg0.N, k0_cond1 (grid0.coords t) = 1#1 ↔ t.val < 8 := (by decide +kernel : ∀ t : Fin grid0.N, k0_cond1 (grid0.coords t) = 1#1 ↔ t.val < 8)
theorem cond2_iff : ∀ t : Fin cfg0.N, k0_cond2 (grid0.coords t) = 1#1 ↔ 8 ≤ t.val := (by decide +kernel : ∀ t : Fin grid0.N, k0_cond2 (grid0.coords t) = 1#1 ↔ 8 ≤ t.val)
theorem clears_iff : ∀ t : Fin cfg0.N, 8 ≤ t.val → (clears (grid0.coords t) ↔ t.val % 2 = 0) := (by decide +kernel : ∀ t : Fin grid0.N, 8 ≤ t.val → (clears (grid0.coords t) ↔ t.val % 2 = 0))
theorem cond4_iff : ∀ t : Fin cfg0.N, 8 ≤ t.val → (k0_cond4 (grid0.coords t) = 1#1 ↔ t.val % 2 = 1) := (by decide +kernel : ∀ t : Fin grid0.N, 8 ≤ t.val → (k0_cond4 (grid0.coords t) = 1#1 ↔ t.val % 2 = 1))

/-! ## The invariant over the scratch -/

abbrev scM0_0 : Memref sig .tc .vmem S1024x4096 .bf16 := Memref.whole cc0_scratch0
abbrev scM0_1 : Memref sig .tc .vmem S2048x512 .bf16 := Memref.whole cc0_scratch1
abbrev scM0_2 : Memref sig .tc .vmem S2048x1024 .bf16 := Memref.whole cc0_scratch2
abbrev scM0_3 : Memref sig .tc .vmem S16x2048 .f32 := Memref.whole cc0_scratch3

/-- The class invariant with the scratch as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the scratch holds before point `n`: the rows of the weights the points so far have prepared, and, past a tile, the
    history it handed on. -/
structure Inv (c : Dev nD) (n : ℕ) (d0 : Vec F S1024x4096 .bf16) (d1 : Vec F S2048x512 .bf16) (d2 : Vec F S2048x1024 .bf16)
    (d3 : Vec F S16x2048 .f32) : Prop where
  h0 : ∀ j, (j 0).val < 128 * n → d0 j = wn m c j
  h1 : ∀ j, (j 0).val < 256 * n → d1 j = wg m c j
  h2 : ∀ j, (j 0).val < 256 * n → d2 j = wo m c j
  h3 : 9 ≤ n → d3 = handed m c (n - 1)

theorem Inv.zero (c : Dev nD) (d0 : Vec F S1024x4096 .bf16) (d1 : Vec F S2048x512 .bf16) (d2 : Vec F S2048x1024 .bf16) (d3 : Vec F S16x2048 .f32) :
    Inv m c 0 d0 d1 d2 d3 :=
  ⟨fun _ h => absurd h (by omega), fun _ h => absurd h (by omega), fun _ h => absurd h (by omega), fun h => absurd h (by omega)⟩

/-- From the first tile on the weights are complete. -/
theorem Inv.full {c : Dev nD} {n : ℕ} {d0 : Vec F S1024x4096 .bf16} {d1 : Vec F S2048x512 .bf16} {d2 : Vec F S2048x1024 .bf16} {d3 : Vec F S16x2048 .f32}
    (h : Inv m c n d0 d1 d2 d3) (hn : 8 ≤ n) : d0 = wn m c ∧ d1 = wg m c ∧ d2 = wo m c :=
  ⟨funext fun j => h.h0 j (by have : (j 0).val < 1024 := (j 0).isLt; omega), funext fun j => h.h1 j (by have : (j 0).val < 2048 := (j 0).isLt; omega),
    funext fun j => h.h2 j (by have : (j 0).val < 2048 := (j 0).isLt; omega)⟩

/-- One preparation point completes the next 128 rows of this weight. -/
theorem put_wn (c : Dev nD) (t : Fin cfg0.N) (ht : t.val < 8) (d : Vec F S1024x4096 .bf16) (h : ∀ j, (j 0).val < 128 * t.val → d j = wn m c j) :
    ∀ j, (j 0).val < 128 * (t.val + 1) → VecWindow.put d (k0_off1 (grid0.coords t)) S128x4096.size (k0_pay2 (b5 m c t)) j = wn m c j := by
  intro j hj
  have hv := coord_val t
  have hoff : k0_off1 (grid0.coords t) = ![128 * t.val, 0] := by rw [k0_off1_eq, hv]
  rw [hoff]
  unfold VecWindow.put
  have hj0 : (j 0).val < 1024 := (j 0).isLt
  have hj1 : (j 1).val < 4096 := (j 1).isLt
  by_cases hin : 128 * t.val ≤ (j 0).val
  · have hw : ∀ a, (![128 * t.val, 0] : Fin 2 → ℕ) a ≤ (j a).val ∧ (j a).val < (![128 * t.val, 0] : Fin 2 → ℕ) a + S128x4096.size a := by
      intro a
      match a with
      | ⟨0, _⟩ => exact ⟨hin, by show (j 0).val < 128 * t.val + 128; omega⟩
      | ⟨1, _⟩ => exact ⟨Nat.zero_le _, by show (j 1).val < 0 + 4096; omega⟩
    rw [dif_pos hw]
    unfold wn
    have hd : (j 0).val / 128 = t.val := by omega
    have hpt : pt ((j 0).val / 128) = t := by rw [hd]; exact pt_val t
    rw [hpt]
    refine congrArg (k0_pay2 (b5 m c t)) (funext fun a => Fin.ext ?_)
    match a with
    | ⟨0, _⟩ => show (j 0).val - 128 * t.val = (j 0).val % 128; omega
    | ⟨1, _⟩ => show (j 1).val - 0 = (j 1).val; omega
  · rw [dif_neg (fun hw => hin (hw 0).1)]
    exact h j (by omega)

/-- One preparation point completes the next 256 rows of this weight. -/
theorem put_wg (c : Dev nD) (t : Fin cfg0.N) (ht : t.val < 8) (d : Vec F S2048x512 .bf16) (h : ∀ j, (j 0).val < 256 * t.val → d j = wg m c j) :
    ∀ j, (j 0).val < 256 * (t.val + 1) → VecWindow.put d (k0_off2 (grid0.coords t)) S256x512.size (k0_pay4 (b6 m c t)) j = wg m c j := by
  intro j hj
  have hv := coord_val t
  have hoff : k0_off2 (grid0.coords t) = ![256 * t.val, 0] := by rw [k0_off2_eq, hv]
  rw [hoff]
  unfold VecWindow.put
  have hj0 : (j 0).val < 2048 := (j 0).isLt
  have hj1 : (j 1).val < 512 := (j 1).isLt
  by_cases hin : 256 * t.val ≤ (j 0).val
  · have hw : ∀ a, (![256 * t.val, 0] : Fin 2 → ℕ) a ≤ (j a).val ∧ (j a).val < (![256 * t.val, 0] : Fin 2 → ℕ) a + S256x512.size a := by
      intro a
      match a with
      | ⟨0, _⟩ => exact ⟨hin, by show (j 0).val < 256 * t.val + 256; omega⟩
      | ⟨1, _⟩ => exact ⟨Nat.zero_le _, by show (j 1).val < 0 + 512; omega⟩
    rw [dif_pos hw]
    unfold wg
    have hd : (j 0).val / 256 = t.val := by omega
    have hpt : pt ((j 0).val / 256) = t := by rw [hd]; exact pt_val t
    rw [hpt]
    refine congrArg (k0_pay4 (b6 m c t)) (funext fun a => Fin.ext ?_)
    match a with
    | ⟨0, _⟩ => show (j 0).val - 256 * t.val = (j 0).val % 256; omega
    | ⟨1, _⟩ => show (j 1).val - 0 = (j 1).val; omega
  · rw [dif_neg (fun hw => hin (hw 0).1)]
    exact h j (by omega)

/-- One preparation point completes the next 256 rows of this weight. -/
theorem put_wo (c : Dev nD) (t : Fin cfg0.N) (ht : t.val < 8) (d : Vec F S2048x1024 .bf16) (h : ∀ j, (j 0).val < 256 * t.val → d j = wo m c j) :
    ∀ j, (j 0).val < 256 * (t.val + 1) → VecWindow.put d (k0_off3 (grid0.coords t)) S256x1024.size (k0_pay6 (b7 m c t)) j = wo m c j := by
  intro j hj
  have hv := coord_val t
  have hoff : k0_off3 (grid0.coords t) = ![256 * t.val, 0] := by rw [k0_off3_eq, hv]
  rw [hoff]
  unfold VecWindow.put
  have hj0 : (j 0).val < 2048 := (j 0).isLt
  have hj1 : (j 1).val < 1024 := (j 1).isLt
  by_cases hin : 256 * t.val ≤ (j 0).val
  · have hw : ∀ a, (![256 * t.val, 0] : Fin 2 → ℕ) a ≤ (j a).val ∧ (j a).val < (![256 * t.val, 0] : Fin 2 → ℕ) a + S256x1024.size a := by
      intro a
      match a with
      | ⟨0, _⟩ => exact ⟨hin, by show (j 0).val < 256 * t.val + 256; omega⟩
      | ⟨1, _⟩ => exact ⟨Nat.zero_le _, by show (j 1).val < 0 + 1024; omega⟩
    rw [dif_pos hw]
    unfold wo
    have hd : (j 0).val / 256 = t.val := by omega
    have hpt : pt ((j 0).val / 256) = t := by rw [hd]; exact pt_val t
    rw [hpt]
    refine congrArg (k0_pay6 (b7 m c t)) (funext fun a => Fin.ext ?_)
    match a with
    | ⟨0, _⟩ => show (j 0).val - 256 * t.val = (j 0).val % 256; omega
    | ⟨1, _⟩ => show (j 1).val - 0 = (j 1).val; omega
  · rw [dif_neg (fun hw => hin (hw 0).1)]
    exact h j (by omega)

/-- The tracking invariant before point `n`. -/
def track (c : Dev nD) (n : ℕ) : sProp 𝕄 :=
  iprop((∃ d0 d1 d2 d3, ⌜Inv m c n d0 d1 d2 d3⌝ ∗ owns (c : Thread nD τ) scM0_0 fullShare d0 ∗ owns (c : Thread nD τ) scM0_1 fullShare d1
    ∗ owns (c : Thread nD τ) scM0_2 fullShare d2 ∗ owns (c : Thread nD τ) scM0_3 fullShare d3) ∗ (∃ r, prngReg c r))

theorem track_in (c : Dev nD) : (Pipeline.ΦA spec0 c : sProp 𝕄) ⊢ track m c 0 := by
  rw [PhiA0_eq]; unfold track
  iintro ⟨⟨⟨%d0, H0⟩, ⟨%d1, H1⟩, ⟨%d2, H2⟩, ⟨%d3, H3⟩⟩, Hg⟩
  isplitl [H0 H1 H2 H3]
  · iexists d0; iexists d1; iexists d2; iexists d3
    isplitr
    · ipureintro; exact Inv.zero m c d0 d1 d2 d3
    isplitl [H0]; · iexact H0
    isplitl [H1]; · iexact H1
    isplitl [H2]; · iexact H2
    iexact H3
  iexact Hg

theorem track_out (c : Dev nD) (n : ℕ) : track m c n ⊢ (Pipeline.ΦA spec0 c : sProp 𝕄) := by
  rw [PhiA0_eq]; unfold track
  iintro ⟨⟨%d0, %d1, %d2, %d3, -, H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)

abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)

abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)

abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)

abbrev ms0_4 (t : Fin cfg0.N) : Memref sig .tc .vmem S128x4096 .f32 := win0_4.stage (cfg0.slots t 4)
abbrev hs0_4 (t : Fin cfg0.N) : (ms0_4 t).IsWhole := hstage0_4 ((cfg0.slots t 4).cast nbuf0_4)

abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)

abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)

abbrev ms0_7 (t : Fin cfg0.N) : Memref sig .tc .vmem S1x1024x1024 .f32 := win0_7.stage (cfg0.slots t 7)
abbrev hs0_7 (t : Fin cfg0.N) : (ms0_7 t).IsWhole := hstage0_7 ((cfg0.slots t 7).cast nbuf0_7)

abbrev ms0_8 (t : Fin cfg0.N) : Memref sig .tc .vmem S1x16x2048 .f32 := win0_8.stage (cfg0.slots t 8)
abbrev hs0_8 (t : Fin cfg0.N) : (ms0_8 t).IsWhole := hstage0_8 ((cfg0.slots t 8).cast nbuf0_8)

abbrev ms0_9 (t : Fin cfg0.N) : Memref sig .tc .vmem S128x4096 .bf16 := win0_9.stage (cfg0.slots t 9)
abbrev hs0_9 (t : Fin cfg0.N) : (ms0_9 t).IsWhole := hstage0_9 ((cfg0.slots t 9).cast nbuf0_9)

abbrev ms0_10 (t : Fin cfg0.N) : Memref sig .tc .vmem S256x512 .bf16 := win0_10.stage (cfg0.slots t 10)
abbrev hs0_10 (t : Fin cfg0.N) : (ms0_10 t).IsWhole := hstage0_10 ((cfg0.slots t 10).cast nbuf0_10)

abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)

set_option maxHeartbeats 1600000 in
/-- A preparation point. -/
theorem sound_prep (c : Dev nD) (t : Fin cfg0.N) (ht : t.val < 8) (P : sProp 𝕄) (x8 : Vec F S1x1024x1024 .f32) (x9 : Vec F S1x16x2048 .f32) (x10 : Vec F S128x4096 .bf16) (x11 : Vec F S256x512 .bf16) (x12 : Vec F S256x1024 .bf16) :
    iprop(track m c t.val ∗ P ∗ owns (c : Thread nD τ) (ms0_0 t) fullShare (b1 m c t) ∗ owns (c : Thread nD τ) (ms0_1 t) fullShare (b2 m c t) ∗ owns (c : Thread nD τ) (ms0_2 t) fullShare (b3 m c t) ∗ owns (c : Thread nD τ) (ms0_3 t) fullShare (b4 m c t) ∗ owns (c : Thread nD τ) (ms0_4 t) fullShare (b5 m c t) ∗ owns (c : Thread nD τ) (ms0_5 t) fullShare (b6 m c t) ∗ owns (c : Thread nD τ) (ms0_6 t) fullShare (b7 m c t) ∗ owns (c : Thread nD τ) (ms0_7 t) fullShare x8 ∗ owns (c : Thread nD τ) (ms0_8 t) fullShare x9 ∗ owns (c : Thread nD τ) (ms0_9 t) fullShare x10 ∗ owns (c : Thread nD τ) (ms0_10 t) fullShare x11 ∗ owns (c : Thread nD τ) (ms0_11 t) fullShare x12)
      ⊢ wp frame (wpE (defs₀ (F := F)) Variants.none c none) Set.univ (bodyAt0 t) (fun _ => iprop(track m c (t.val + 1) ∗ P ∗ (∃ X, ⌜X = b1 m c t⌝ ∗ owns (c : Thread nD τ) (ms0_0 t) fullShare X) ∗ (∃ X, ⌜X = b2 m c t⌝ ∗ owns (c : Thread nD τ) (ms0_1 t) fullShare X) ∗ (∃ X, ⌜X = b3 m c t⌝ ∗ owns (c : Thread nD τ) (ms0_2 t) fullShare X) ∗ (∃ X, ⌜X = b4 m c t⌝ ∗ owns (c : Thread nD τ) (ms0_3 t) fullShare X) ∗ (∃ X, ⌜X = b5 m c t⌝ ∗ owns (c : Thread nD τ) (ms0_4 t) fullShare X) ∗ (∃ X, ⌜X = b6 m c t⌝ ∗ owns (c : Thread nD τ) (ms0_5 t) fullShare X) ∗ (∃ X, ⌜X = b7 m c t⌝ ∗ owns (c : Thread nD τ) (ms0_6 t) fullShare X) ∗ (∃ X, ⌜8 ≤ t.val → X = tileY m c t⌝ ∗ owns (c : Thread nD τ) (ms0_7 t) fullShare X) ∗ (∃ X, ⌜8 ≤ t.val → t.val % 2 = 1 → X = tileS m c t⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X) ∗ (∃ X, ⌜True⌝ ∗ owns (c : Thread nD τ) (ms0_11 t) fullShare X))) := by
  unfold track bodyAt0
  iintro ⟨⟨⟨%d0, %d1, %d2, %d3, %hI, S0, S1, S2, S3⟩, Hg⟩, HP, H1, H2, H3, H4, H5, H6, H7, H8, H9, H10, H11, H12⟩
  skip
  iapply (run_prep c (grid0.coords t) _ _ _ _ _ _ _ _ _ _ _ _ _ _ _ _ _ _ _ _ _ _ _ _ _ _ _ _ _ _ _ _ ((cond1_iff t).mpr ht) (fun h => absurd ((cond2_iff t).mp h) (by omega)) (b1 m c t) (b2 m c t) (b3 m c t) (b4 m c t) (b5 m c t) (b6 m c t) (b7 m c t) x8 x9 x10 x11 x12 d0 d1 d2 d3 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  iintro ⟨H1, H2, H3, H4, H5, H6, H7, H8, H9, H10, H11, H12, S0, S1, S2, S3⟩
  isplitl [S0 S1 S2 S3 Hg]
  · isplitl [S0 S1 S2 S3]
    · iexists _; iexists _; iexists _; iexists _
      isplitr; swap
      · isplitl [S0]; · iexact S0
        isplitl [S1]; · iexact S1
        isplitl [S2]; · iexact S2
        iexact S3
      ipureintro
      exact ⟨put_wn m c t ht d0 hI.h0, put_wg m c t ht d1 hI.h1, put_wo m c t ht d2 hI.h2, fun h => absurd h (by omega)⟩
    iexact Hg
  isplitl [HP]; · iexact HP
  isplitl [H1]
  · iexists _; isplitr; swap; iexact H1
    ipureintro; exact rfl
  isplitl [H2]
  · iexists _; isplitr; swap; iexact H2
    ipureintro; exact rfl
  isplitl [H3]
  · iexists _; isplitr; swap; iexact H3
    ipureintro; exact rfl
  isplitl [H4]
  · iexists _; isplitr; swap; iexact H4
    ipureintro; exact rfl
  isplitl [H5]
  · iexists _; isplitr; swap; iexact H5
    ipureintro; exact rfl
  isplitl [H6]
  · iexists _; isplitr; swap; iexact H6
    ipureintro; exact rfl
  isplitl [H7]
  · iexists _; isplitr; swap; iexact H7
    ipureintro; exact rfl
  isplitl [H8]
  · iexists _; isplitr; swap; iexact H8
    ipureintro; exact fun h => absurd h (by omega)
  isplitl [H9]
  · iexists _; isplitr; swap; iexact H9
    ipureintro; exact fun h => absurd h (by omega)
  isplitl [H10]
  · iexists _; isplitr; swap; iexact H10
    ipureintro; exact trivial
  isplitl [H11]
  · iexists _; isplitr; swap; iexact H11
    ipureintro; exact trivial
  iexists _; isplitr; swap; iexact H12
  ipureintro; exact trivial

set_option maxHeartbeats 1600000 in
/-- A batch's first tile. -/
theorem sound_first (c : Dev nD) (t : Fin cfg0.N) (ht : 8 ≤ t.val) (he : t.val % 2 = 0) (P : sProp 𝕄) (x8 : Vec F S1x1024x1024 .f32) (x9 : Vec F S1x16x2048 .f32) (x10 : Vec F S128x4096 .bf16) (x11 : Vec F S256x512 .bf16) (x12 : Vec F S256x1024 .bf16) :
    iprop(track m c t.val ∗ P ∗ owns (c : Thread nD τ) (ms0_0 t) fullShare (b1 m c t) ∗ owns (c : Thread nD τ) (ms0_1 t) fullShare (b2 m c t) ∗ owns (c : Thread nD τ) (ms0_2 t) fullShare (b3 m c t) ∗ owns (c : Thread nD τ) (ms0_3 t) fullShare (b4 m c t) ∗ owns (c : Thread nD τ) (ms0_4 t) fullShare (b5 m c t) ∗ owns (c : Thread nD τ) (ms0_5 t) fullShare (b6 m c t) ∗ owns (c : Thread nD τ) (ms0_6 t) fullShare (b7 m c t) ∗ owns (c : Thread nD τ) (ms0_7 t) fullShare x8 ∗ owns (c : Thread nD τ) (ms0_8 t) fullShare x9 ∗ owns (c : Thread nD τ) (ms0_9 t) fullShare x10 ∗ owns (c : Thread nD τ) (ms0_10 t) fullShare x11 ∗ owns (c : Thread nD τ) (ms0_11 t) fullShare x12)
      ⊢ wp frame (wpE (defs₀ (F := F)) Variants.none c none) Set.univ (bodyAt0 t) (fun _ => iprop(track m c (t.val + 1) ∗ P ∗ (∃ X, ⌜X = b1 m c t⌝ ∗ owns (c : Thread nD τ) (ms0_0 t) fullShare X) ∗ (∃ X, ⌜X = b2 m c t⌝ ∗ owns (c : Thread nD τ) (ms0_1 t) fullShare X) ∗ (∃ X, ⌜X = b3 m c t⌝ ∗ owns (c : Thread nD τ) (ms0_2 t) fullShare X) ∗ (∃ X, ⌜X = b4 m c t⌝ ∗ owns (c : Thread nD τ) (ms0_3 t) fullShare X) ∗ (∃ X, ⌜X = b5 m c t⌝ ∗ owns (c : Thread nD τ) (ms0_4 t) fullShare X) ∗ (∃ X, ⌜X = b6 m c t⌝ ∗ owns (c : Thread nD τ) (ms0_5 t) fullShare X) ∗ (∃ X, ⌜X = b7 m c t⌝ ∗ owns (c : Thread nD τ) (ms0_6 t) fullShare X) ∗ (∃ X, ⌜8 ≤ t.val → X = tileY m c t⌝ ∗ owns (c : Thread nD τ) (ms0_7 t) fullShare X) ∗ (∃ X, ⌜8 ≤ t.val → t.val % 2 = 1 → X = tileS m c t⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X) ∗ (∃ X, ⌜True⌝ ∗ owns (c : Thread nD τ) (ms0_11 t) fullShare X))) := by
  unfold track bodyAt0
  iintro ⟨⟨⟨%d0, %d1, %d2, %d3, %hI, S0, S1, S2, S3⟩, Hg⟩, HP, H1, H2, H3, H4, H5, H6, H7, H8, H9, H10, H11, H12⟩
  obtain ⟨rfl, rfl, rfl⟩ := hI.full m ht
  iapply (run_first c (grid0.coords t) _ _ _ _ _ _ _ _ _ _ _ _ _ _ _ _ _ _ _ _ _ _ _ _ _ _ _ _ _ _ _ _ (fun h => absurd ((cond1_iff t).mp h) (by omega)) ((cond2_iff t).mpr ht) ((clears_iff t ht).mpr he) (fun h => absurd ((cond4_iff t ht).mp h) (by omega)) (b1 m c t) (b2 m c t) (b3 m c t) (b4 m c t) (b5 m c t) (b6 m c t) (b7 m c t) x8 x9 x10 x11 x12 (wn m c) (wg m c) (wo m c) d3 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  iintro ⟨H1, H2, H3, H4, H5, H6, H7, H8, H9, H10, H11, H12, S0, S1, S2, S3⟩
  isplitl [S0 S1 S2 S3 Hg]
  · isplitl [S0 S1 S2 S3]
    · iexists _; iexists _; iexists _; iexists _
      isplitr; swap
      · isplitl [S0]; · iexact S0
        isplitl [S1]; · iexact S1
        isplitl [S2]; · iexact S2
        iexact S3
      ipureintro
      have e : pt (t.val + 1 - 1) = t := pt_val t
      exact ⟨fun _ _ => rfl, fun _ _ => rfl, fun _ _ => rfl, fun _ => by unfold handed; rw [e]⟩
    iexact Hg
  isplitl [HP]; · iexact HP
  isplitl [H1]
  · iexists _; isplitr; swap; iexact H1
    ipureintro; exact rfl
  isplitl [H2]
  · iexists _; isplitr; swap; iexact H2
    ipureintro; exact rfl
  isplitl [H3]
  · iexists _; isplitr; swap; iexact H3
    ipureintro; exact rfl
  isplitl [H4]
  · iexists _; isplitr; swap; iexact H4
    ipureintro; exact rfl
  isplitl [H5]
  · iexists _; isplitr; swap; iexact H5
    ipureintro; exact rfl
  isplitl [H6]
  · iexists _; isplitr; swap; iexact H6
    ipureintro; exact rfl
  isplitl [H7]
  · iexists _; isplitr; swap; iexact H7
    ipureintro; exact rfl
  isplitl [H8]
  · iexists _; isplitr; swap; iexact H8
    ipureintro; exact fun _ => by unfold tileY hist; rw [if_pos he]
  isplitl [H9]
  · iexists _; isplitr; swap; iexact H9
    ipureintro; exact fun _ h => absurd h (by omega)
  isplitl [H10]
  · iexists _; isplitr; swap; iexact H10
    ipureintro; exact trivial
  isplitl [H11]
  · iexists _; isplitr; swap; iexact H11
    ipureintro; exact trivial
  iexists _; isplitr; swap; iexact H12
  ipureintro; exact trivial

set_option maxHeartbeats 1600000 in
/-- A batch's last tile. -/
theorem sound_last (c : Dev nD) (t : Fin cfg0.N) (ht : 8 ≤ t.val) (he : t.val % 2 = 1) (P : sProp 𝕄) (x8 : Vec F S1x1024x1024 .f32) (x9 : Vec F S1x16x2048 .f32) (x10 : Vec F S128x4096 .bf16) (x11 : Vec F S256x512 .bf16) (x12 : Vec F S256x1024 .bf16) :
    iprop(track m c t.val ∗ P ∗ owns (c : Thread nD τ) (ms0_0 t) fullShare (b1 m c t) ∗ owns (c : Thread nD τ) (ms0_1 t) fullShare (b2 m c t) ∗ owns (c : Thread nD τ) (ms0_2 t) fullShare (b3 m c t) ∗ owns (c : Thread nD τ) (ms0_3 t) fullShare (b4 m c t) ∗ owns (c : Thread nD τ) (ms0_4 t) fullShare (b5 m c t) ∗ owns (c : Thread nD τ) (ms0_5 t) fullShare (b6 m c t) ∗ owns (c : Thread nD τ) (ms0_6 t) fullShare (b7 m c t) ∗ owns (c : Thread nD τ) (ms0_7 t) fullShare x8 ∗ owns (c : Thread nD τ) (ms0_8 t) fullShare x9 ∗ owns (c : Thread nD τ) (ms0_9 t) fullShare x10 ∗ owns (c : Thread nD τ) (ms0_10 t) fullShare x11 ∗ owns (c : Thread nD τ) (ms0_11 t) fullShare x12)
      ⊢ wp frame (wpE (defs₀ (F := F)) Variants.none c none) Set.univ (bodyAt0 t) (fun _ => iprop(track m c (t.val + 1) ∗ P ∗ (∃ X, ⌜X = b1 m c t⌝ ∗ owns (c : Thread nD τ) (ms0_0 t) fullShare X) ∗ (∃ X, ⌜X = b2 m c t⌝ ∗ owns (c : Thread nD τ) (ms0_1 t) fullShare X) ∗ (∃ X, ⌜X = b3 m c t⌝ ∗ owns (c : Thread nD τ) (ms0_2 t) fullShare X) ∗ (∃ X, ⌜X = b4 m c t⌝ ∗ owns (c : Thread nD τ) (ms0_3 t) fullShare X) ∗ (∃ X, ⌜X = b5 m c t⌝ ∗ owns (c : Thread nD τ) (ms0_4 t) fullShare X) ∗ (∃ X, ⌜X = b6 m c t⌝ ∗ owns (c : Thread nD τ) (ms0_5 t) fullShare X) ∗ (∃ X, ⌜X = b7 m c t⌝ ∗ owns (c : Thread nD τ) (ms0_6 t) fullShare X) ∗ (∃ X, ⌜8 ≤ t.val → X = tileY m c t⌝ ∗ owns (c : Thread nD τ) (ms0_7 t) fullShare X) ∗ (∃ X, ⌜8 ≤ t.val → t.val % 2 = 1 → X = tileS m c t⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X) ∗ (∃ X, ⌜True⌝ ∗ owns (c : Thread nD τ) (ms0_11 t) fullShare X))) := by
  unfold track bodyAt0
  iintro ⟨⟨⟨%d0, %d1, %d2, %d3, %hI, S0, S1, S2, S3⟩, Hg⟩, HP, H1, H2, H3, H4, H5, H6, H7, H8, H9, H10, H11, H12⟩
  obtain ⟨rfl, rfl, rfl⟩ := hI.full m ht
  obtain rfl := hI.h3 (by omega)
  iapply (run_last c (grid0.coords t) _ _ _ _ _ _ _ _ _ _ _ _ _ _ _ _ _ _ _ _ _ _ _ _ _ _ _ _ _ _ _ _ (fun h => absurd ((cond1_iff t).mp h) (by omega)) ((cond2_iff t).mpr ht) (fun h => absurd ((clears_iff t ht).mp h) (by omega)) ((cond4_iff t ht).mpr he) (b1 m c t) (b2 m c t) (b3 m c t) (b4 m c t) (b5 m c t) (b6 m c t) (b7 m c t) x8 x9 x10 x11 x12 (wn m c) (wg m c) (wo m c) (handed m c (t.val - 1)) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  iintro ⟨H1, H2, H3, H4, H5, H6, H7, H8, H9, H10, H11, H12, S0, S1, S2, S3⟩
  isplitl [S0 S1 S2 S3 Hg]
  · isplitl [S0 S1 S2 S3]
    · iexists _; iexists _; iexists _; iexists _
      isplitr; swap
      · isplitl [S0]; · iexact S0
        isplitl [S1]; · iexact S1
        isplitl [S2]; · iexact S2
        iexact S3
      ipureintro
      have e : pt (t.val + 1 - 1) = t := pt_val t
      exact ⟨fun _ _ => rfl, fun _ _ => rfl, fun _ _ => rfl, fun _ => by unfold handed; rw [e]⟩
    iexact Hg
  isplitl [HP]; · iexact HP
  isplitl [H1]
  · iexists _; isplitr; swap; iexact H1
    ipureintro; exact rfl
  isplitl [H2]
  · iexists _; isplitr; swap; iexact H2
    ipureintro; exact rfl
  isplitl [H3]
  · iexists _; isplitr; swap; iexact H3
    ipureintro; exact rfl
  isplitl [H4]
  · iexists _; isplitr; swap; iexact H4
    ipureintro; exact rfl
  isplitl [H5]
  · iexists _; isplitr; swap; iexact H5
    ipureintro; exact rfl
  isplitl [H6]
  · iexists _; isplitr; swap; iexact H6
    ipureintro; exact rfl
  isplitl [H7]
  · iexists _; isplitr; swap; iexact H7
    ipureintro; exact rfl
  isplitl [H8]
  · iexists _; isplitr; swap; iexact H8
    ipureintro; exact fun _ => by unfold tileY hist; rw [if_neg (by omega)]
  isplitl [H9]
  · iexists _; isplitr; swap; iexact H9
    ipureintro; exact fun _ _ => rfl
  isplitl [H10]
  · iexists _; isplitr; swap; iexact H10
    ipureintro; exact trivial
  isplitl [H11]
  · iexists _; isplitr; swap; iexact H11
    ipureintro; exact trivial
  iexists _; isplitr; swap; iexact H12
  ipureintro; exact trivial

/-! ## The proof data -/

/-- The region's data: the arrays as the region finds them, the tracking invariant, each input left as found, the tiles' output
    what `tileY` names, the last tiles' state block what `tileS` names, nothing said of the weight copies. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => 8 ≤ t.val → X = tileY m c t
    | ⟨8, _⟩ => fun _ X => 8 ≤ t.val → t.val % 2 = 1 → X = tileS m c t
    | ⟨9, _⟩ => fun _ _ => True
    | ⟨10, _⟩ => fun _ _ => True
    | ⟨11, _⟩ => fun _ _ => True
  Φ n := track m c n.val
  q _ := fullShare
  owed _ := 0

theorem A_eq (c : Dev nD) (w : Fin cfg0.W) : (rdat m c).A w = V m c (Pipeline.arrRef spec0 w) := by dsimp only [rdat]

/-- Window 0 holds its block at every point. -/
theorem finds_0 (c : Dev nD) (t : Fin cfg0.N) (Y) (h : (rdat m c).Finds 0 t Y) : Y = b1 m c t := by
  obtain ⟨d, hd⟩ := (rdat m c).finds_in_eq_fetched 0 rfl (fun _ _ _ => rfl) (fun t Y X h => h) t Y h
  rw [hd]; unfold RDat.fetched RDat.blockOf b1 iblk; rw [A_eq]; try rfl

/-- Window 1 holds its block at every point. -/
theorem finds_1 (c : Dev nD) (t : Fin cfg0.N) (Y) (h : (rdat m c).Finds 1 t Y) : Y = b2 m c t := by
  obtain ⟨d, hd⟩ := (rdat m c).finds_in_eq_fetched 1 rfl (fun _ _ _ => rfl) (fun t Y X h => h) t Y h
  rw [hd]; unfold RDat.fetched RDat.blockOf b2 iblk; rw [A_eq]; try rfl

/-- Window 2 holds its block at every point. -/
theorem finds_2 (c : Dev nD) (t : Fin cfg0.N) (Y) (h : (rdat m c).Finds 2 t Y) : Y = b3 m c t := by
  obtain ⟨d, hd⟩ := (rdat m c).finds_in_eq_fetched 2 rfl (fun _ _ _ => rfl) (fun t Y X h => h) t Y h
  rw [hd]; unfold RDat.fetched RDat.blockOf b3 iblk; rw [A_eq]; try rfl

/-- Window 3 holds its block at every point. -/
theorem finds_3 (c : Dev nD) (t : Fin cfg0.N) (Y) (h : (rdat m c).Finds 3 t Y) : Y = b4 m c t := by
  obtain ⟨d, hd⟩ := (rdat m c).finds_in_eq_fetched 3 rfl (fun _ _ _ => rfl) (fun t Y X h => h) t Y h
  rw [hd]; unfold RDat.fetched RDat.blockOf b4 iblk; rw [A_eq]; try rfl

/-- Window 4 holds its block at every point. -/
theorem finds_4 (c : Dev nD) (t : Fin cfg0.N) (Y) (h : (rdat m c).Finds 4 t Y) : Y = b5 m c t := by
  obtain ⟨d, hd⟩ := (rdat m c).finds_in_eq_fetched 4 rfl (fun _ _ _ => rfl) (fun t Y X h => h) t Y h
  rw [hd]; unfold RDat.fetched RDat.blockOf b5 iblk; rw [A_eq]; try rfl

/-- Window 5 holds its block at every point. -/
theorem finds_5 (c : Dev nD) (t : Fin cfg0.N) (Y) (h : (rdat m c).Finds 5 t Y) : Y = b6 m c t := by
  obtain ⟨d, hd⟩ := (rdat m c).finds_in_eq_fetched 5 rfl (fun _ _ _ => rfl) (fun t Y X h => h) t Y h
  rw [hd]; unfold RDat.fetched RDat.blockOf b6 iblk; rw [A_eq]; try rfl

/-- Window 6 holds its block at every point. -/
theorem finds_6 (c : Dev nD) (t : Fin cfg0.N) (Y) (h : (rdat m c).Finds 6 t Y) : Y = b7 m c t := by
  obtain ⟨d, hd⟩ := (rdat m c).finds_in_eq_fetched 6 rfl (fun _ _ _ => rfl) (fun t Y X h => h) t Y h
  rw [hd]; unfold RDat.fetched RDat.blockOf b7 iblk; rw [A_eq]; try rfl

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body's obligation at every point, by its three cases. -/
theorem body_obligation (c : Dev nD) : (rdat (F := F) m c).BodyObligation (defs₀ (F := F)) Variants.none () Set.univ := fun t Y hY => by
  have hs : ∀ P : sProp 𝕄, iprop(track m c t.val ∗ P ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10) ∗ owns (c : Thread nD τ) (ms0_11 t) fullShare (Y 11))
      ⊢ wp frame (wpE (defs₀ (F := F)) Variants.none c none) Set.univ (bodyAt0 t) (fun _ => iprop(track m c (t.val + 1) ∗ P ∗ (∃ X, ⌜X = Y 0⌝ ∗ owns (c : Thread nD τ) (ms0_0 t) fullShare X) ∗ (∃ X, ⌜X = Y 1⌝ ∗ owns (c : Thread nD τ) (ms0_1 t) fullShare X) ∗ (∃ X, ⌜X = Y 2⌝ ∗ owns (c : Thread nD τ) (ms0_2 t) fullShare X) ∗ (∃ X, ⌜X = Y 3⌝ ∗ owns (c : Thread nD τ) (ms0_3 t) fullShare X) ∗ (∃ X, ⌜X = Y 4⌝ ∗ owns (c : Thread nD τ) (ms0_4 t) fullShare X) ∗ (∃ X, ⌜X = Y 5⌝ ∗ owns (c : Thread nD τ) (ms0_5 t) fullShare X) ∗ (∃ X, ⌜X = Y 6⌝ ∗ owns (c : Thread nD τ) (ms0_6 t) fullShare X) ∗ (∃ X, ⌜8 ≤ t.val → X = tileY m c t⌝ ∗ owns (c : Thread nD τ) (ms0_7 t) fullShare X) ∗ (∃ X, ⌜8 ≤ t.val → t.val % 2 = 1 → X = tileS m c t⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X) ∗ (∃ X, ⌜True⌝ ∗ owns (c : Thread nD τ) (ms0_11 t) fullShare X))) := by
    intro P
    rw [finds_0 m c t (Y 0) (hY 0), finds_1 m c t (Y 1) (hY 1), finds_2 m c t (Y 2) (hY 2), finds_3 m c t (Y 3) (hY 3), finds_4 m c t (Y 4) (hY 4), finds_5 m c t (Y 5) (hY 5), finds_6 m c t (Y 6) (hY 6)]
    rcases Nat.lt_or_ge t.val 8 with ht | ht
    · exact sound_prep m c t ht P _ _ _ _ _
    · rcases Nat.mod_two_eq_zero_or_one t.val with he | he
      · exact sound_first m c t ht he P _ _ _ _ _
      · exact sound_last m c t ht he P _ _ _ _ _
  rw [bigSep_W0, bigSep_W0, defs₀_row]
  exact triple_restated (hs ((rdat m c).owesAt () t.castSucc)) rfl .rfl fun _ => .rfl

set_option backward.isDefEq.respectTransparency.types false in
/-- THE RUN: every execution ends, the arrays as the region's data say, every semaphore counter at zero. -/
theorem run_main : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := A_eq m)
    (hin := fun c => track_in m c) (hout := fun c => track_out m c _)

end Cert.KernelIdeal.Pool

end
-- ==== Proof.PoolOut.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ArrRel
public import Idealize.ShloMosaic.Lib.Pipeline.ValueKit
public import proofs.«01_k».proof.Proof.PoolRun

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the claims ask besides the values: the arguments end unchanged, the counters at zero. -/
theorem unchanged {r : PUnit × MemSt nD τ sig (Elt F)}
    (h : (Pipeline.RDat.FramePost (cfgs 0) (fun c => rdat m c) (V m)) r ∧ r.2.sem = fun _ => 0) :
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0 :=
  ⟨fun c => ⟨((Pipeline.RDat.FramePost.arr_in h.1 c 0 rfl).trans ((A_eq m c 0).trans (V_main_arg0 m c))), (((h.1 c).2 main_arg1 (Pipeline.mem_restRefs_of main_arg1 (by decide) (by decide))).trans (V_main_arg1 m c)), (((h.1 c).2 main_arg2 (Pipeline.mem_restRefs_of main_arg2 (by decide) (by decide))).trans (V_main_arg2 m c)), (((h.1 c).2 main_arg3 (Pipeline.mem_restRefs_of main_arg3 (by decide) (by decide))).trans (V_main_arg3 m c)), ((Pipeline.RDat.FramePost.arr_in h.1 c 4 rfl).trans ((A_eq m c 4).trans (V_main_arg4 m c))), (((h.1 c).2 main_arg5 (Pipeline.mem_restRefs_of main_arg5 (by decide) (by decide))).trans (V_main_arg5 m c)), ((Pipeline.RDat.FramePost.arr_in h.1 c 6 rfl).trans ((A_eq m c 6).trans (V_main_arg6 m c)))⟩, h.2⟩

/-- THE FRAME, at any reading of the floats. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun _ h => unchanged m h) (run_main m ρ)

/-! ## What the result arrays hold -/

theorem index0 : ∀ t : Fin cfg0.N, 8 ≤ t.val → (cfg0.win 0).index t = ![(t.val - 8) / 2, (t.val - 8) % 2, 0] :=
  (by decide +kernel : ∀ t : Fin grid0.N, 8 ≤ t.val → cc0_transform_0 (grid0.coords t) = ![(t.val - 8) / 2, (t.val - 8) % 2, 0])
theorem index1 : ∀ t : Fin cfg0.N, (cfg0.win 1).index t = ![0, 0] :=
  (by decide +kernel : ∀ t : Fin grid0.N, cc0_transform_1 (grid0.coords t) = ![0, 0])
theorem index2 : ∀ t : Fin cfg0.N, (cfg0.win 2).index t = ![0, 0] :=
  (by decide +kernel : ∀ t : Fin grid0.N, cc0_transform_2 (grid0.coords t) = ![0, 0])
theorem index3 : ∀ t : Fin cfg0.N, (cfg0.win 3).index t = ![0, 0] :=
  (by decide +kernel : ∀ t : Fin grid0.N, cc0_transform_3 (grid0.coords t) = ![0, 0])
theorem index4 : ∀ t : Fin cfg0.N, t.val < 8 → (cfg0.win 4).index t = ![t.val, 0] :=
  (by decide +kernel : ∀ t : Fin grid0.N, t.val < 8 → cc0_transform_4 (grid0.coords t) = ![t.val, 0])
theorem index5 : ∀ t : Fin cfg0.N, t.val < 8 → (cfg0.win 5).index t = ![t.val, 0] :=
  (by decide +kernel : ∀ t : Fin grid0.N, t.val < 8 → cc0_transform_5 (grid0.coords t) = ![t.val, 0])
theorem index6 : ∀ t : Fin cfg0.N, t.val < 8 → (cfg0.win 6).index t = ![t.val, 0] :=
  (by decide +kernel : ∀ t : Fin grid0.N, t.val < 8 → cc0_transform_6 (grid0.coords t) = ![t.val, 0])
theorem index7 : ∀ t : Fin cfg0.N, 8 ≤ t.val → (cfg0.win 7).index t = ![(t.val - 8) / 2, (t.val - 8) % 2, 0] :=
  (by decide +kernel : ∀ t : Fin grid0.N, 8 ≤ t.val → cc0_transform_7 (grid0.coords t) = ![(t.val - 8) / 2, (t.val - 8) % 2, 0])
theorem index8 : ∀ t : Fin cfg0.N, 8 ≤ t.val → (cfg0.win 8).index t = ![(t.val - 8) / 2, 0, 0] :=
  (by decide +kernel : ∀ t : Fin grid0.N, 8 ≤ t.val → cc0_transform_8 (grid0.coords t) = ![(t.val - 8) / 2, 0, 0])
theorem flush7 : ∀ t : Fin cfg0.N, (cfg0.win 7).flush t = true → 8 ≤ t.val :=
  (by decide +kernel : ∀ t : Fin grid0.N, win0_7.flush t = true → 8 ≤ t.val)
theorem flush8 : ∀ t : Fin cfg0.N, (cfg0.win 8).flush t = true → 8 ≤ t.val ∧ t.val % 2 = 1 :=
  (by decide +kernel : ∀ t : Fin grid0.N, win0_8.flush t = true → 8 ≤ t.val ∧ t.val % 2 = 1)

/-- The whole result: tile `(batch, half)` is point `8 + 2 * batch + half`'s. -/
def yAll (c : Dev nD) : Vec F S8x2048x1024 .f32 := fun j =>
  tileY m c (pt (8 + 2 * (j 0).val + (j 1).val / 1024)) (ValueIdx.ix3 (n0 := 1) (n1 := 1024) (n2 := 1024) 0
    ⟨(j 1).val % 1024, Nat.mod_lt _ (by decide)⟩ (j 2))

/-- The whole state: batch `b`'s block is point `9 + 2 * b`'s. -/
def stAll (c : Dev nD) : Vec F S8x16x2048 .f32 := fun j =>
  tileS m c (pt (9 + 2 * (j 0).val)) (ValueIdx.ix3 (n0 := 1) (n1 := 16) (n2 := 2048) 0 (j 1) (j 2))

theorem yAll_at (c : Dev nD) (t : Fin cfg0.N) (ht : 8 ≤ t.val) (y : S1x1024x1024.Idx) (j : S8x2048x1024.Idx)
    (e0 : (j 0).val = (t.val - 8) / 2 * 1 + (y 0).val) (e1 : (j 1).val = (t.val - 8) % 2 * 1024 + (y 1).val)
    (e2 : (j 2).val = 0 * 1024 + (y 2).val) : tileY m c t y = yAll m c j := by
  have h0 : (y 0).val < 1 := (y 0).isLt
  have h1 : (y 1).val < 1024 := (y 1).isLt
  have hN : t.val < 24 := lt_of_lt_of_eq t.isLt (show cfg0.N = 24 from N_0)
  unfold yAll
  have hn : t.val = 8 + 2 * (j 0).val + (j 1).val / 1024 := by omega
  refine congr (congrArg (tileY m c) ((pt_val t).symm.trans (congrArg pt hn))) (funext fun a => Fin.ext ?_)
  match a with
    | ⟨0, _⟩ => exact Nat.lt_one_iff.mp h0
    | ⟨1, _⟩ => show (y 1).val = (j 1).val % 1024; omega
    | ⟨2, _⟩ => show (y 2).val = (j 2).val; omega

theorem out7 (c : Dev nD) (dat : Dat τ (Elt F) Unit ℕ (UR sig nD τ) ℕ cfg0 c)
    (h : ∀ t, (cfg0.win 7).flush t = true → dat.after 7 t = tileY m c t) : dat.arrAt 7 cfg0.N = yAll m c := by
  refine dat.arrAt_eq_of_covers 7 _ (by decide +kernel) fun t hf y => ?_
  rw [h t hf]
  have ht := flush7 t hf
  have hb : ∀ a, (((win0_7.blk t).view.emb y) a).val = win0_7.index t a * win0_7.size a + (y a).val := Window.rect_emb_val win0_7 t y
  rw [show win0_7.index t = ![(t.val - 8) / 2, (t.val - 8) % 2, 0] from index7 t ht] at hb
  blk_simp
  exact yAll_at m c t ht y _ (hb 0) (hb 1) (hb 2)

theorem stAll_at (c : Dev nD) (t : Fin cfg0.N) (ht : 8 ≤ t.val) (ho : t.val % 2 = 1) (y : S1x16x2048.Idx) (j : S8x16x2048.Idx)
    (e0 : (j 0).val = (t.val - 8) / 2 * 1 + (y 0).val) (e1 : (j 1).val = 0 * 16 + (y 1).val)
    (e2 : (j 2).val = 0 * 2048 + (y 2).val) : tileS m c t y = stAll m c j := by
  have h0 : (y 0).val < 1 := (y 0).isLt
  have hN : t.val < 24 := lt_of_lt_of_eq t.isLt (show cfg0.N = 24 from N_0)
  unfold stAll
  have hn : t.val = 9 + 2 * (j 0).val := by omega
  refine congr (congrArg (tileS m c) ((pt_val t).symm.trans (congrArg pt hn))) (funext fun a => Fin.ext ?_)
  match a with
    | ⟨0, _⟩ => exact Nat.lt_one_iff.mp h0
    | ⟨1, _⟩ => show (y 1).val = (j 1).val; omega
    | ⟨2, _⟩ => show (y 2).val = (j 2).val; omega

theorem out8 (c : Dev nD) (dat : Dat τ (Elt F) Unit ℕ (UR sig nD τ) ℕ cfg0 c)
    (h : ∀ t, (cfg0.win 8).flush t = true → dat.after 8 t = tileS m c t) : dat.arrAt 8 cfg0.N = stAll m c := by
  refine dat.arrAt_eq_of_covers 8 _ (by decide +kernel) fun t hf y => ?_
  rw [h t hf]
  have ht := flush8 t hf
  have hb : ∀ a, (((win0_8.blk t).view.emb y) a).val = win0_8.index t a * win0_8.size a + (y a).val := Window.rect_emb_val win0_8 t y
  rw [show win0_8.index t = ![(t.val - 8) / 2, 0, 0] from index8 t ht.1] at hb
  blk_simp
  exact stAll_at m c t ht.1 ht.2 y _ (hb 0) (hb 1) (hb 2)

/-- What a run leaves in the two result arrays. -/
theorem results {r : PUnit × MemSt nD τ sig (Elt F)}
    (h : (Pipeline.RDat.FramePost (cfgs 0) (fun c => rdat m c) (V m)) r) (c : Dev nD) :
    r.2.mem ((c.tc : Thread nD τ).loc main_v4_0) = yAll m c ∧ r.2.mem ((c.tc : Thread nD τ).loc main_v4_1) = stAll m c := by
  obtain ⟨after, hL, hA⟩ := Pipeline.RDat.FramePost.exists_exact h c
  refine ⟨(hA 7).trans (out7 m c _ fun t hf => ?_), (hA 8).trans (out8 m c _ fun t hf => ?_)⟩
  · obtain ⟨Y, -, hX⟩ := hL 7 t hf
    exact hX (flush7 t hf)
  · obtain ⟨Y, -, hX⟩ := hL 8 t hf
    exact hX (flush8 t hf).1 (flush8 t hf).2

/-- The batch a tile belongs to. -/
def bt (t : Fin cfg0.N) (ht : 8 ≤ t.val) : Fin 8 :=
  ⟨(t.val - 8) / 2, by have hN : t.val < 24 := lt_of_lt_of_eq t.isLt (show cfg0.N = 24 from N_0); omega⟩

theorem b1_apply (c : Dev nD) (t : Fin cfg0.N) (ht : 8 ≤ t.val) (u : Fin 1) (r : Fin 1024) (d : Fin 1024) :
    b1 m c t (ValueIdx.ix3 u r d) = V m c main_arg0 (ValueIdx.ix3 (n0 := 8) (n1 := 2048) (n2 := 1024) (bt t ht)
      ⟨((t.val - 8) % 2) * 1024 + r.val, by omega⟩ d) := by
  unfold b1 iblk
  have hix := index0 t ht
  blk_simp
  refine congrArg _ (funext fun a => Fin.ext ((Window.rect_emb_val win0_0 t _ a).trans ?_))
  rw [hix]
  fin_cases a <;> simp [bt]

theorem b2_apply (c : Dev nD) (t : Fin cfg0.N) (u : Fin 1) (d : Fin 1024) :
    b2 m c t (ValueIdx.ix2 u d) = V m c main_v0 (ValueIdx.ix2 (n0 := 1) (n1 := 1024) u d) := by
  unfold b2 iblk
  have hix := index1 t
  blk_simp
  refine congrArg _ (funext fun a => Fin.ext ((Window.rect_emb_val win0_1 t _ a).trans ?_))
  rw [hix]
  fin_cases a <;> simp

theorem b3_apply (c : Dev nD) (t : Fin cfg0.N) (u : Fin 1) (d : Fin 2048) :
    b3 m c t (ValueIdx.ix2 u d) = V m c main_v1 (ValueIdx.ix2 (n0 := 1) (n1 := 2048) u d) := by
  unfold b3 iblk
  have hix := index2 t
  blk_simp
  refine congrArg _ (funext fun a => Fin.ext ((Window.rect_emb_val win0_2 t _ a).trans ?_))
  rw [hix]
  fin_cases a <;> simp

theorem b4_apply (c : Dev nD) (t : Fin cfg0.N) (u : Fin 1) (d : Fin 1024) :
    b4 m c t (ValueIdx.ix2 u d) = V m c main_v2 (ValueIdx.ix2 (n0 := 1) (n1 := 1024) u d) := by
  unfold b4 iblk
  have hix := index3 t
  blk_simp
  refine congrArg _ (funext fun a => Fin.ext ((Window.rect_emb_val win0_3 t _ a).trans ?_))
  rw [hix]
  fin_cases a <;> simp

theorem b5_apply (c : Dev nD) (t : Fin cfg0.N) (ht : t.val < 8) (r : Fin 128) (d : Fin 4096) :
    b5 m c t (ValueIdx.ix2 r d) = V m c main_arg4 (ValueIdx.ix2 (n0 := 1024) (n1 := 4096) ⟨t.val * 128 + r.val, by omega⟩ d) := by
  unfold b5 iblk
  have hix := index4 t ht
  blk_simp
  refine congrArg _ (funext fun a => Fin.ext ((Window.rect_emb_val win0_4 t _ a).trans ?_))
  rw [hix]
  fin_cases a <;> simp

theorem b6_apply (c : Dev nD) (t : Fin cfg0.N) (ht : t.val < 8) (r : Fin 256) (d : Fin 512) :
    b6 m c t (ValueIdx.ix2 r d) = V m c main_v3 (ValueIdx.ix2 (n0 := 2048) (n1 := 512) ⟨t.val * 256 + r.val, by omega⟩ d) := by
  unfold b6 iblk
  have hix := index5 t ht
  blk_simp
  refine congrArg _ (funext fun a => Fin.ext ((Window.rect_emb_val win0_5 t _ a).trans ?_))
  rw [hix]
  fin_cases a <;> simp

theorem b7_apply (c : Dev nD) (t : Fin cfg0.N) (ht : t.val < 8) (r : Fin 256) (d : Fin 1024) :
    b7 m c t (ValueIdx.ix2 r d) = V m c main_arg6 (ValueIdx.ix2 (n0 := 2048) (n1 := 1024) ⟨t.val * 256 + r.val, by omega⟩ d) := by
  unfold b7 iblk
  have hix := index6 t ht
  blk_simp
  refine congrArg _ (funext fun a => Fin.ext ((Window.rect_emb_val win0_6 t _ a).trans ?_))
  rw [hix]
  fin_cases a <;> simp

end Cert.KernelIdeal.Pool

end
-- ==== Proof.PoolBits.lean ====
module

public import proofs.«01_k».proof.Defs
public import proofs.«01_k».proof.Proof.Gen.Kernel
public import proofs.«01_k».proof.Proof.PoolOut

/-!
The pooled layer's kernel at bit patterns: its text is the idealized one's, so its frame is the one run read there.
-/

@[expose] public section

set_option maxRecDepth 16384
set_option maxHeartbeats 4000000

noncomputable section

namespace Cert.Kernel.Pool

open Idealize.ShloMosaic Idealize.ShloMosaic.TcCoe Idealize.SL.Sem

/-- The two programs' body tables are one. -/
theorem bodies_eq : Cert.Kernel.defs₀ (F := Bits) = Cert.KernelIdeal.defs₀ (F := Bits) := by
  unfold Cert.Kernel.defs₀ Cert.KernelIdeal.defs₀
  refine congrArg _ (funext fun l => ?_)
  fin_cases l
  funext x
  obtain ⟨t, s⟩ := x
  show Cert.Kernel.cc0_pool_prompt _ _ _ _ _ _ _ _ _ _ _ _ _ _ _ _ _ _ _ _ _ _ _ _ _ _ _ _ _ _ _ _ _
    = Cert.KernelIdeal.cc0_pool_prompt _ _ _ _ _ _ _ _ _ _ _ _ _ _ _ _ _ _ _ _ _ _ _ _ _ _ _ _ _ _ _ _ _
  rfl

/-- So are the tables with the pipeline in them. -/
theorem defs_eq : Cert.Kernel.defs (F := Bits) = Cert.KernelIdeal.defs (F := Bits) :=
  congrArg (Pipeline.defs (Cert.Kernel.pcfgs (F := Bits))) bodies_eq

/-- THE FRAME of the kernel at bit patterns. -/
theorem frame : Cert.quiescent_Kernel (hKernel := Cert.Kernel.Gen.facts) := by
  intro m ρ _
  rw [defs_eq]
  exact Cert.KernelIdeal.Pool.frame (F := Bits) m ρ

end Cert.Kernel.Pool

end
-- ==== Proof.Spec.lean ====
module

public import Idealize.ShloMosaic.Lib.Pipeline.Value
public import Idealize.ShloMosaic.Lib.IdealHost
public import Idealize.ShloMosaic.Lib.Pointwise
public import Mathlib.Analysis.Complex.Trigonometric
public import Mathlib.Tactic.Positivity
public import Mathlib.Tactic.Ring
public import Mathlib.Tactic.FieldSimp
public import Mathlib.Tactic.LinearCombination
public import Mathlib.Tactic.NormNum

/-! The arithmetic of a layer on the extended reals, away from any program: rows are functions,
    and the lemmas say which values are real numbers and which two spellings of one number agree. -/

@[expose] public section

set_option maxRecDepth 16384

noncomputable section

namespace Cert.Spec

open Idealize.ShloMosaic

/-- The extended real is a real number. -/
def IsR (x : EReal) : Prop := ∃ r : ℝ, x = (r : EReal)

/-- Sums of two reals are real. -/
theorem IsR.add {x y : EReal} (hx : IsR x) (hy : IsR y) : IsR (x + y) := by
  obtain ⟨a, rfl⟩ := hx; obtain ⟨b, rfl⟩ := hy; exact ⟨a + b, by push_cast; rfl⟩

/-- Products of two reals are real. -/
theorem IsR.mul {x y : EReal} (hx : IsR x) (hy : IsR y) : IsR (x * y) := by
  obtain ⟨a, rfl⟩ := hx; obtain ⟨b, rfl⟩ := hy; exact ⟨a * b, by push_cast; rfl⟩

/-- Zero is real. -/
theorem IsR.zero : IsR 0 := ⟨0, rfl⟩

/-- Finite sums of reals are real. -/
theorem IsR.sum {ι : Type*} (s : Finset ι) {f : ι → EReal} (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self _ _)).add (ih fun i hi => h i (Finset.mem_insert_of_mem hi))

/-- A finite extended real is a real number. -/
theorem IsR.of_abs {x : EReal} (h : max x (-x) < ⊤) : IsR x := by
  induction x with
  | bot => simp at h
  | coe r => exact ⟨r, rfl⟩
  | top => simp at h

/-- The pattern `0x44800000` is 1024. -/
theorem bits_1024 : Ideal.ofBits .f32 0x44800000#32 = ((1024 : ℝ) : EReal) := by
  simp [Ideal.ofBits, Ideal.ieee, -EReal.coe_mul]; norm_num

/-- The pattern `0x3F000000` is one half. -/
theorem bits_half : Ideal.ofBits .f32 0x3F000000#32 = ((1 / 2 : ℝ) : EReal) := by
  simp [Ideal.ofBits, Ideal.ieee, -EReal.coe_mul]; norm_num

/-- The pattern `0x358637BD`, the small constant under the root, is a positive real. -/
theorem bits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- A row divided by the root of its mean square, times a gain. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- The normalised row is real when the row and the gain are. -/
theorem IsR.norm {x g : Fin 1024 → EReal} (hx : ∀ d, IsR (x d)) (hg : ∀ d, IsR (g d)) (d : Fin 1024) : IsR (norm x g d) := by
  unfold Spec.norm
  refine ((hx d).mul ?_).mul (hg d)
  choose a ha using hx
  obtain ⟨e, he, hb⟩ := bits_eps
  have hs : (∑ k, x k * x k) = ((∑ k, a k * a k : ℝ) : EReal) := by
    simp only [ha, ← EReal.coe_mul]
    exact (map_sum (⟨⟨(↑), EReal.coe_zero⟩, EReal.coe_add⟩ : ℝ →+ EReal) _ _).symm
  rw [hs, hb, bits_1024, Ideal.div_coe (by norm_num), ← EReal.coe_mul, ← EReal.coe_add, Ideal.rsqrt_coe]
  have h0 : 0 ≤ ∑ k, a k * a k := Finset.sum_nonneg fun k _ => mul_self_nonneg _
  have hp : 0 < (∑ k, a k * a k) * (1 / 1024 : ℝ) + e := by positivity
  rw [if_neg (not_lt.2 hp.le), if_neg hp.ne']
  exact ⟨_, rfl⟩

/-- A normalised row times a column of weights. -/
def proj (x g : Fin 1024 → EReal) (w : Fin 1024 → EReal) : EReal := ∑ d, norm x g d * w d

/-- The projection is real when the row, the gain and the weights are. -/
theorem IsR.proj {x g w : Fin 1024 → EReal} (hx : ∀ d, IsR (x d)) (hg : ∀ d, IsR (g d)) (hw : ∀ d, IsR (w d)) :
    IsR (proj x g w) := IsR.sum _ fun d _ => (IsR.norm hx hg d).mul (hw d)

/-- The half-angle form of `z · logistic z`: with `h = z / 2`, `h + h · tanh h`. -/
theorem silu_eq {z : EReal} (hz : IsR z) :
    Ideal.ofBits .f32 0x3F000000#32 * z + Ideal.ofBits .f32 0x3F000000#32 * z * Ideal.tanh (Ideal.ofBits .f32 0x3F000000#32 * z)
      = z * Ideal.div 1 (1 + Ideal.exp (-z)) := by
  obtain ⟨r, rfl⟩ := hz
  rw [bits_half, ← EReal.coe_mul, Ideal.tanh_coe, ← EReal.coe_mul, ← EReal.coe_add, ← EReal.coe_neg, Ideal.exp_coe,
    show (1 : EReal) = ((1 : ℝ) : EReal) by norm_cast, ← EReal.coe_add, Ideal.div_coe (by positivity), ← EReal.coe_mul, ← EReal.coe_mul]
  congr 1
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e1]
  have p1 := Real.exp_pos (1 / 2 * r)
  have p2 := Real.exp_pos (-(1 / 2 * r))
  generalize Real.exp (1 / 2 * r) = a at *
  generalize Real.exp (-(1 / 2 * r)) = b at *
  field_simp
  linear_combination (2 * r * b) * e2
/-! ## Sums over a window of a stream -/

/-- The stream with sixteen zeros before it. -/
def pre {n : ℕ} (f : Fin n → EReal) (i : ℕ) : EReal := if h : 16 ≤ i ∧ i - 16 < n then f ⟨i - 16, h.2⟩ else 0

/-- The last `w` values of the stream up to position `t`, added up; positions before the start count zero. -/
def win {n : ℕ} (f : Fin n → EReal) (w t : ℕ) : EReal := ∑ k ∈ Finset.range w, pre f (16 + t - k)

/-- A padded stream of reals is real. -/
theorem IsR.pre {n : ℕ} {f : Fin n → EReal} (h : ∀ i, IsR (f i)) (i : ℕ) : IsR (pre f i) := by
  unfold Spec.pre; split_ifs
  · exact h _
  · exact IsR.zero

/-- The window sum is the difference of two prefix sums. -/
theorem win_eq {n : ℕ} {f : Fin n → EReal} (h : ∀ i, IsR (f i)) (w t : ℕ) (hw : w ≤ 16) :
    (∑ i ∈ Finset.range (16 + t + 1), pre f i) - (∑ i ∈ Finset.range (16 - w + t + 1), pre f i) = win f w t := by
  have e : 16 + t + 1 = (16 - w + t + 1) + w := by omega
  rw [e, Finset.sum_range_add]
  have hr : (∑ x ∈ Finset.range w, pre f (16 - w + t + 1 + x)) = win f w t := by
    unfold win
    rw [← Finset.sum_range_reflect]
    refine Finset.sum_congr rfl fun k hk => ?_
    have := Finset.mem_range.1 hk
    congr 1; omega
  rw [hr]
  obtain ⟨a, ha⟩ := IsR.sum (Finset.range (16 - w + t + 1)) fun i _ => IsR.pre h i
  obtain ⟨b, hb⟩ : IsR (win f w t) := IsR.sum _ fun i _ => IsR.pre h _
  rw [ha, hb, ← EReal.coe_add, ← EReal.coe_sub]; congr 1; ring

/-- Adding to a sum of the last `w` entries the same sum moved back by `w` gives the sum of the last `2 * w`. -/
theorem double (e : ℕ → EReal) (w r : ℕ) :
    (∑ k ∈ Finset.range w, e (r - k)) + (∑ k ∈ Finset.range w, e (r - w - k)) = ∑ k ∈ Finset.range (w + w), e (r - k) := by
  rw [Finset.sum_range_add]
  congr 1
  exact Finset.sum_congr rfl fun k _ => by congr 1; omega

/-- Multiplying by the reciprocal of a nonzero real is dividing by it. -/
theorem mul_recip (x : EReal) {y : ℝ} (h : y ≠ 0) : x * Ideal.div 1 (y : EReal) = Ideal.div x (y : EReal) := by
  rw [Ideal.div_coe h, Ideal.div_coe h, one_mul]

/-- The window's average at `t` (over the positions there are) less the stream's own value there. -/
def pooled {n : ℕ} (f : Fin n → EReal) (w : ℕ) (t : Fin n) : EReal :=
  Ideal.div (win f w t) (((min (t.val + 1) w : ℕ) : ℝ) : EReal) - f t

/-- `z · logistic z`. -/
def silu (z : EReal) : EReal := z * Ideal.div 1 (1 + Ideal.exp (-z))

/-! ## The pooling layer on one batch's rows -/

section Pool
variable (x : Fin 2048 → Fin 1024 → EReal) (G : Fin 1024 → EReal) (Sc : Fin 2048 → EReal) (Fn : Fin 1024 → EReal)
  (W : Fin 1024 → Fin 4096 → EReal) (Wg : Fin 2048 → Fin 512 → EReal) (Wo : Fin 2048 → Fin 1024 → EReal)

/-- One column of the input projection, as a stream over the positions. -/
def prj (e : Fin 4096) : Fin 2048 → EReal := fun t => proj (x t) G (fun d => W d e)

/-- Column `k` of the pooled streams mixed inside the group `k` belongs to. -/
def mixed (t k : Fin 2048) : EReal :=
  ∑ j : Fin 512, pooled (prj x G W ⟨512 * (k.val / 512) + j.val, by omega⟩) (2 ^ (k.val / 512 + 1)) t
    * Wg ⟨512 * (k.val / 512) + j.val, by omega⟩ ⟨k.val % 512, by omega⟩

/-- A mixed column, by its group and its place inside the group. -/
theorem mixed_at (t : Fin 2048) (g : ℕ) (hg : g < 4) (j : Fin 512) :
    mixed x G W Wg t ⟨512 * g + j.val, by omega⟩
      = ∑ i : Fin 512, pooled (prj x G W ⟨512 * g + i.val, by omega⟩) (2 ^ (g + 1)) t * Wg ⟨512 * g + i.val, by omega⟩ j := by
  unfold mixed
  have hj := j.isLt
  have e1 : (512 * g + j.val) / 512 = g := by omega
  have e2 : (512 * g + j.val) % 512 = j.val := by omega
  simp only [e1, e2]

/-- The mixed streams scaled and gated. -/
def gated (t k : Fin 2048) : EReal := mixed x G W Wg t k * Sc k * silu (prj x G W ⟨2048 + k.val, by omega⟩ t)

/-- The layer's output before the last normalisation. -/
def res (t : Fin 2048) (d : Fin 1024) : EReal := (∑ k, gated x G Sc W Wg t k * Wo k d) + x t d

/-- The layer's output. -/
def out (t : Fin 2048) (d : Fin 1024) : EReal := norm (res x G Sc W Wg Wo t) Fn d

end Pool

end Cert.Spec
-- ==== Proof.PoolWin.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.KernelVsHost
public import Idealize.ShloMosaic.Lib.Pointwise
public import Idealize.ShloMosaic.Lib.PlanTiles.Rows
public import Idealize.ShloMosaic.Lib.WordArith
public import proofs.«01_k».proof.Proof.Spec

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Spec

/-- The two spellings of a rank-2 index are one. -/
theorem ix2_eq {n0 n1 : Nat} (a : Fin n0) (b : Fin n1) : ix2 a b = ValueIdx.ix2 (n0 := n0) (n1 := n1) a b := rfl

/-- The two spellings of a rank-3 index are one. -/
theorem ix3_eq {n0 n1 n2 : Nat} (a : Fin n0) (b : Fin n1) (c : Fin n2) : ix3 a b c = ValueIdx.ix3 (n0 := n0) (n1 := n1) (n2 := n2) a b c := rfl

/-- Column `c` of a block of 1040 rows, as a stream; zero outside. -/
def col (e : FVec Ideal S1040x512 .f32) (c : Fin 512) (n : ℕ) : EReal :=
  if h : n < 1040 then e (ValueIdx.ix2 (n0 := 1040) (n1 := 512) ⟨n, h⟩ c) else 0

/-- A block plus itself moved down by `n` rows. -/
def dbl (n : BitVec 32) (e : FVec Ideal S1040x512 .f32) : FVec Ideal S1040x512 .f32 :=
  addf e (dynamicRotate 0 n none e rotates_S1040x512_d0)

/-- A row far enough down reads the row `n` above it. -/
theorem rot_read (n : BitVec 32) (e : FVec Ideal S1040x512 .f32) (r : ℕ) (hr : r < 1040) (c : Fin 512) (h : n.toNat ≤ r) :
    dynamicRotate 0 n none e rotates_S1040x512_d0 (ValueIdx.ix2 (n0 := 1040) (n1 := 512) ⟨r, hr⟩ c)
      = e (ValueIdx.ix2 (n0 := 1040) (n1 := 512) ⟨r - n.toNat, by omega⟩ c) := by
  refine dynamicRotate_apply _ _ _ _ _ _ fun b => ?_
  match b with
  | ⟨0, _⟩ =>
    refine Eq.trans ?_ (if_pos rfl).symm
    show r - n.toNat = (r + 1040 - n.toNat % 1040) % 1040
    omega
  | ⟨1, _⟩ => rfl

/-- Doubling the window: if a block's rows hold the sums of `w` rows of another, the doubled block holds the sums
    of `2 * w`. -/
theorem dbl_col (n : BitVec 32) (e0 e : FVec Ideal S1040x512 .f32) (c : Fin 512) (w : ℕ) (hn : n.toNat = w)
    (he : ∀ r, w - 1 ≤ r → r < 1040 → col e c r = ∑ k ∈ Finset.range w, col e0 c (r - k)) :
    ∀ r, w + w - 1 ≤ r → r < 1040 → col (dbl n e) c r = ∑ k ∈ Finset.range (w + w), col e0 c (r - k) := by
  intro r h1 h2
  rw [← double, ← he r (by omega) h2, ← he (r - w) (by omega) (by omega)]
  unfold col dbl
  rw [dif_pos h2, dif_pos h2, dif_pos (show r - w < 1040 by omega), addf_apply, Ideal.addf_def, rot_read n e r h2 c (by omega)]
  subst hn; rfl

/-- The windows of one row are the rows. -/
theorem one_col (e : FVec Ideal S1040x512 .f32) (c : Fin 512) :
    ∀ r, 1 - 1 ≤ r → r < 1040 → col e c r = ∑ k ∈ Finset.range 1, col e c (r - k) := by
  intro r _ _; simp

/-- The reciprocal of the number of positions a window of `w` has, at each of a tile's rows. -/
def cnt (p w : BitVec 32) : FVec Ideal S1024x512 .f32 :=
  concatenate S1024x512 1 [⟨S1024x128, divf (broadcast S1024x128 (Scalar.ofBits .f32 0x3F800000#32)) (sitofp .f32 (minsi (k0_pay17 p) (broadcast S1024x128 w)))⟩,
    ⟨S1024x128, divf (broadcast S1024x128 (Scalar.ofBits .f32 0x3F800000#32)) (sitofp .f32 (minsi (k0_pay17 p) (broadcast S1024x128 w)))⟩,
    ⟨S1024x128, divf (broadcast S1024x128 (Scalar.ofBits .f32 0x3F800000#32)) (sitofp .f32 (minsi (k0_pay17 p) (broadcast S1024x128 w)))⟩,
    ⟨S1024x128, divf (broadcast S1024x128 (Scalar.ofBits .f32 0x3F800000#32)) (sitofp .f32 (minsi (k0_pay17 p) (broadcast S1024x128 w)))⟩]
    concatenates_S1024x128_S1024x128_S1024x128_S1024x128_S1024x512_d1

/-- One piece of the reciprocals. -/
theorem cnt_piece (p w : ℕ) (hp : p < 2) (hw : w ≤ 16) (r : Fin 1024) (c : Fin 128) :
    divf (F := Ideal) (broadcast S1024x128 (Scalar.ofBits .f32 0x3F800000#32)) (sitofp .f32 (minsi (k0_pay17 (BitVec.ofNat 32 p)) (broadcast S1024x128 (BitVec.ofNat 32 w)))) (ValueIdx.ix2 (n0 := 1024) (n1 := 128) r c)
      = Ideal.div 1 (((min (p * 1024 + r.val + 1) w : ℕ) : ℝ) : EReal) := by
  have hr := r.isLt
  have e1 : k0_pay17 (BitVec.ofNat 32 p) (ValueIdx.ix2 (n0 := 1024) (n1 := 128) r c) = BitVec.ofNat 32 (p * 1024 + r.val + 1) := by
    show IntOp.addi (BitVec.ofNat 32 _) (IntOp.addi (IntOp.muli (BitVec.ofNat 32 p) 1024#32) 1#32) = _
    simp only [IntOp.addi, IntOp.muli]
    apply BitVec.eq_of_toNat_eq
    simp [BitVec.toNat_add, BitVec.toNat_mul]
    have h0 : (ValueIdx.ix2 (n0 := 1024) (n1 := 128) r c 0).val = r.val := rfl
    omega
  show Ideal.div (Ideal.ofBits .f32 0x3F800000#32) (((IntOp.minsi (k0_pay17 (BitVec.ofNat 32 p) (ValueIdx.ix2 (n0 := 1024) (n1 := 128) r c)) (BitVec.ofNat 32 w)).toInt : ℝ) : EReal) = _
  rw [e1, Ideal.ofBits_one_f32, PlanTiles.minsi_word (by omega) (by omega), WordArith.toInt_ofNat_small _ (by omega), min_comm]
  norm_cast

/-- Four equal pieces side by side read the piece. -/
theorem four_read (g : FVec Ideal S1024x128 .f32) (r : Fin 1024) (c : Fin 512) :
    concatenate S1024x512 1 [⟨S1024x128, g⟩, ⟨S1024x128, g⟩, ⟨S1024x128, g⟩, ⟨S1024x128, g⟩]
      concatenates_S1024x128_S1024x128_S1024x128_S1024x128_S1024x512_d1 (ValueIdx.ix2 (n0 := 1024) (n1 := 512) r c)
      = g (ValueIdx.ix2 (n0 := 1024) (n1 := 128) r ⟨c.val % 128, by omega⟩) := by
  have hc := c.isLt
  simp only [← ix2_eq]
  pointwise
  have key : ∀ (k : ℕ) (hk : k < 128), k = c.val % 128 →
      g (ix2 r ⟨k, hk⟩) = g (ix2 r ⟨c.val % 128, by omega⟩) := by
    intro k hk e; subst e; rfl
  split_ifs <;> exact key _ _ (by omega)

/-- The reciprocals at a row. -/
theorem cnt_read (p w : ℕ) (hp : p < 2) (hw : w ≤ 16) (r : Fin 1024) (c : Fin 512) :
    cnt (BitVec.ofNat 32 p) (BitVec.ofNat 32 w) (ValueIdx.ix2 (n0 := 1024) (n1 := 512) r c)
      = Ideal.div 1 (((min (p * 1024 + r.val + 1) w : ℕ) : ℝ) : EReal) := by
  unfold cnt
  rw [four_read]
  exact cnt_piece p w hp hw r _

/-- The history and a tile's rows, one after the other, are the padded stream from the tile's start on. -/
theorem ext_col (g : ℕ) (hg : g < 4) (v40 : FVec Ideal S1024x2048 .f32) (v42 : Vec Ideal S16x2048 .f32)
    (hs : S1040x2048.Slices ![0, 512 * g] S1040x512)
    (τ : ℕ) (hτ : τ < 2) (c : Fin 512) (f : Fin 2048 → EReal)
    (hx : ∀ r : Fin 1024, v40 (ValueIdx.ix2 (n0 := 1024) (n1 := 2048) r ⟨512 * g + c.val, by omega⟩) = f ⟨τ * 1024 + r.val, by omega⟩)
    (hh : ∀ r : Fin 16, v42 (ValueIdx.ix2 (n0 := 16) (n1 := 2048) r ⟨512 * g + c.val, by omega⟩) = pre f (τ * 1024 + r.val))
    (n : ℕ) (hn : n < 1040) :
    col (extractStridedSlice S1040x512 ![0, 512 * g] (k0_pay14 v40 v42) hs) c n = pre f (τ * 1024 + n) := by
  have hc := c.isLt
  unfold col
  rw [dif_pos hn]
  simp only [← ix2_eq] at *
  pointwise [k0_pay14]
  by_cases h : n < 16
  · rw [dif_pos h]; exact hh ⟨n, h⟩
  · rw [dif_neg h]; refine (hx ⟨n - 16, by omega⟩).trans ?_
    unfold pre
    rw [dif_pos ⟨by omega, by omega⟩]
    congr 2
    show τ * 1024 + (n - 16) = τ * 1024 + n - 16
    omega

/-- A window of `w = 2 * v` rows, averaged less the row itself, from the doubled block. -/
theorem pooled_of (w τ : ℕ) (hτ : τ < 2) (hw0 : 0 < w) (hw : w ≤ 16) (e0 e : FVec Ideal S1040x512 .f32) (c : Fin 512) (f : Fin 2048 → EReal)
    (h0 : ∀ n, n < 1040 → col e0 c n = pre f (τ * 1024 + n))
    (he : ∀ r, w - 1 ≤ r → r < 1040 → col e c r = ∑ k ∈ Finset.range w, col e0 c (r - k)) (r : Fin 1024) :
    col e c (16 + r.val) * Ideal.div 1 (((min (τ * 1024 + r.val + 1) w : ℕ) : ℝ) : EReal) - f ⟨τ * 1024 + r.val, by omega⟩
      = pooled f w ⟨τ * 1024 + r.val, by omega⟩ := by
  have hr := r.isLt
  unfold pooled
  rw [mul_recip _ (by have : 0 < min (τ * 1024 + r.val + 1) w := by omega
                      exact_mod_cast this.ne'), he _ (by omega) (by omega)]
  congr 2
  unfold win
  refine Finset.sum_congr rfl fun k hk => ?_
  have := Finset.mem_range.1 hk
  rw [h0 _ (by omega)]
  congr 1
  show τ * 1024 + (16 + r.val - k) = 16 + (τ * 1024 + r.val) - k
  omega

/-- The averaged window less the row, as the body writes it for group `g`. -/
theorem form_read (g : ℕ) (hg : g < 4) (w τ : ℕ) (hτ : τ < 2) (hw0 : 0 < w) (hw : w ≤ 16) (e0 e : FVec Ideal S1040x512 .f32) (c : Fin 512) (f : Fin 2048 → EReal)
    (v40 : FVec Ideal S1024x2048 .f32) (hs : S1024x2048.Slices ![0, 512 * g] S1024x512)
    (hx : ∀ r : Fin 1024, v40 (ValueIdx.ix2 (n0 := 1024) (n1 := 2048) r ⟨512 * g + c.val, by omega⟩) = f ⟨τ * 1024 + r.val, by omega⟩)
    (h0 : ∀ n, n < 1040 → col e0 c n = pre f (τ * 1024 + n))
    (he : ∀ r, w - 1 ≤ r → r < 1040 → col e c r = ∑ k ∈ Finset.range w, col e0 c (r - k)) (r : Fin 1024) :
    subf (mulf (extractStridedSlice S1024x512 ![16, 0] e slices_S1040x512_o16_0_S1024x512) (cnt (BitVec.ofNat 32 τ) (BitVec.ofNat 32 w)))
      (extractStridedSlice S1024x512 ![0, 512 * g] v40 hs) (ValueIdx.ix2 (n0 := 1024) (n1 := 512) r c)
      = pooled f w ⟨τ * 1024 + r.val, by omega⟩ := by
  rw [← pooled_of w τ hτ hw0 hw e0 e c f h0 he r, ← hx r, ← cnt_read τ w hτ (by omega) r c]
  unfold col
  rw [dif_pos (show 16 + r.val < 1040 by omega)]
  generalize cnt _ _ = C
  simp only [← ix2_eq]
  pointwise

/-- The average of group 2 (a window of 8), as the body writes it. -/
def P2 (p : BitVec 32) (v40 : FVec Ideal S1024x2048 .f32) (v42 : Vec Ideal S16x2048 .f32) : FVec Ideal S1024x512 .f32 :=
  subf (mulf (extractStridedSlice S1024x512 ![16, 0] (dbl 4#32 (dbl 2#32 (dbl 1#32 (extractStridedSlice S1040x512 ![0, 1024] (k0_pay14 v40 v42) slices_S1040x2048_o0_1024_S1040x512)))) slices_S1040x512_o16_0_S1024x512) (cnt p 8#32))
    (extractStridedSlice S1024x512 ![0, 1024] v40 slices_S1024x2048_o0_1024_S1024x512)

/-- The average of group 3 (a window of 16), as the body writes it. -/
def P3 (p : BitVec 32) (v40 : FVec Ideal S1024x2048 .f32) (v42 : Vec Ideal S16x2048 .f32) : FVec Ideal S1024x512 .f32 :=
  subf (mulf (extractStridedSlice S1024x512 ![16, 0] (dbl 8#32 (dbl 4#32 (dbl 2#32 (dbl 1#32 (extractStridedSlice S1040x512 ![0, 1536] (k0_pay14 v40 v42) slices_S1040x2048_o0_1536_S1040x512))))) slices_S1040x512_o16_0_S1024x512) (cnt p 16#32))
    (extractStridedSlice S1024x512 ![0, 1536] v40 slices_S1024x2048_o0_1536_S1024x512)

/-- The average of group 0, as the body writes it. -/
theorem pay18_eq (p : BitVec 32) (v40 : FVec Ideal S1024x2048 .f32) (v42 : Vec Ideal S16x2048 .f32) :
    k0_pay18 p v40 v42 = subf (mulf (extractStridedSlice S1024x512 ![16, 0] (dbl 1#32 (extractStridedSlice S1040x512 ![0, 0] (k0_pay14 v40 v42) slices_S1040x2048_o0_0_S1040x512)) slices_S1040x512_o16_0_S1024x512) (cnt p 2#32))
    (extractStridedSlice S1024x512 ![0, 0] v40 slices_S1024x2048_o0_0_S1024x512) := rfl

/-- The average of group 1, as the body writes it. -/
theorem pay19_eq (p : BitVec 32) (v40 : FVec Ideal S1024x2048 .f32) (v42 : Vec Ideal S16x2048 .f32) :
    k0_pay19 p v40 v42 = subf (mulf (extractStridedSlice S1024x512 ![16, 0] (dbl 2#32 (dbl 1#32 (extractStridedSlice S1040x512 ![0, 512] (k0_pay14 v40 v42) slices_S1040x2048_o0_512_S1040x512))) slices_S1040x512_o16_0_S1024x512) (cnt p 4#32))
    (extractStridedSlice S1024x512 ![0, 512] v40 slices_S1024x2048_o0_512_S1024x512) := rfl

/-- The product of group 2 takes the average of group 2. -/
theorem pay24_eq (p : BitVec 32) (v40 : FVec Ideal S1024x2048 .f32) (v42 : Vec Ideal S16x2048 .f32) (w : Vec Ideal S512x512 .bf16) :
    k0_pay24 v40 (k0_pay17 p) (k0_pay20 v40 v42) (k0_pay21 v40 v42) w = k0_pay22 (P2 p v40 v42) w := rfl

/-- The last group's operand is the average of group 3. -/
theorem pay25_eq (p : BitVec 32) (v40 : FVec Ideal S1024x2048 .f32) (v42 : Vec Ideal S16x2048 .f32) :
    k0_pay25 v40 (k0_pay14 v40 v42) (k0_pay17 p) = P3 p v40 v42 := rfl

/-- Group 0: the average over a window of 2 less the row. -/
theorem group0_read (v40 : FVec Ideal S1024x2048 .f32) (v42 : Vec Ideal S16x2048 .f32) (τ : ℕ) (hτ : τ < 2) (c : Fin 512) (f : Fin 2048 → EReal)
    (hx : ∀ r : Fin 1024, v40 (ValueIdx.ix2 (n0 := 1024) (n1 := 2048) r ⟨512 * 0 + c.val, by omega⟩) = f ⟨τ * 1024 + r.val, by omega⟩)
    (hh : ∀ r : Fin 16, v42 (ValueIdx.ix2 (n0 := 16) (n1 := 2048) r ⟨512 * 0 + c.val, by omega⟩) = pre f (τ * 1024 + r.val)) (r : Fin 1024) :
    k0_pay18 (BitVec.ofNat 32 τ) v40 v42 (ValueIdx.ix2 (n0 := 1024) (n1 := 512) r c) = pooled f 2 ⟨τ * 1024 + r.val, by omega⟩ := by
  rw [pay18_eq]
  exact form_read 0 (by omega) 2 τ hτ (by omega) (by omega) _ _ c f v40 slices_S1024x2048_o0_0_S1024x512 hx
    (fun n hn => ext_col 0 (by omega) v40 v42 slices_S1040x2048_o0_0_S1040x512 τ hτ c f hx hh n hn) (dbl_col 1#32 _ _ c 1 rfl (one_col _ c)) r

/-- Group 1: the average over a window of 4 less the row. -/
theorem group1_read (v40 : FVec Ideal S1024x2048 .f32) (v42 : Vec Ideal S16x2048 .f32) (τ : ℕ) (hτ : τ < 2) (c : Fin 512) (f : Fin 2048 → EReal)
    (hx : ∀ r : Fin 1024, v40 (ValueIdx.ix2 (n0 := 1024) (n1 := 2048) r ⟨512 * 1 + c.val, by omega⟩) = f ⟨τ * 1024 + r.val, by omega⟩)
    (hh : ∀ r : Fin 16, v42 (ValueIdx.ix2 (n0 := 16) (n1 := 2048) r ⟨512 * 1 + c.val, by omega⟩) = pre f (τ * 1024 + r.val)) (r : Fin 1024) :
    k0_pay19 (BitVec.ofNat 32 τ) v40 v42 (ValueIdx.ix2 (n0 := 1024) (n1 := 512) r c) = pooled f 4 ⟨τ * 1024 + r.val, by omega⟩ := by
  rw [pay19_eq]
  exact form_read 1 (by omega) 4 τ hτ (by omega) (by omega) _ _ c f v40 slices_S1024x2048_o0_512_S1024x512 hx
    (fun n hn => ext_col 1 (by omega) v40 v42 slices_S1040x2048_o0_512_S1040x512 τ hτ c f hx hh n hn) (dbl_col 2#32 _ _ c 2 rfl (dbl_col 1#32 _ _ c 1 rfl (one_col _ c))) r

/-- Group 2: the average over a window of 8 less the row. -/
theorem group2_read (v40 : FVec Ideal S1024x2048 .f32) (v42 : Vec Ideal S16x2048 .f32) (τ : ℕ) (hτ : τ < 2) (c : Fin 512) (f : Fin 2048 → EReal)
    (hx : ∀ r : Fin 1024, v40 (ValueIdx.ix2 (n0 := 1024) (n1 := 2048) r ⟨512 * 2 + c.val, by omega⟩) = f ⟨τ * 1024 + r.val, by omega⟩)
    (hh : ∀ r : Fin 16, v42 (ValueIdx.ix2 (n0 := 16) (n1 := 2048) r ⟨512 * 2 + c.val, by omega⟩) = pre f (τ * 1024 + r.val)) (r : Fin 1024) :
    P2 (BitVec.ofNat 32 τ) v40 v42 (ValueIdx.ix2 (n0 := 1024) (n1 := 512) r c) = pooled f 8 ⟨τ * 1024 + r.val, by omega⟩ := by
  unfold P2
  exact form_read 2 (by omega) 8 τ hτ (by omega) (by omega) _ _ c f v40 slices_S1024x2048_o0_1024_S1024x512 hx
    (fun n hn => ext_col 2 (by omega) v40 v42 slices_S1040x2048_o0_1024_S1040x512 τ hτ c f hx hh n hn) (dbl_col 4#32 _ _ c 4 rfl (dbl_col 2#32 _ _ c 2 rfl (dbl_col 1#32 _ _ c 1 rfl (one_col _ c)))) r

/-- Group 3: the average over a window of 16 less the row. -/
theorem group3_read (v40 : FVec Ideal S1024x2048 .f32) (v42 : Vec Ideal S16x2048 .f32) (τ : ℕ) (hτ : τ < 2) (c : Fin 512) (f : Fin 2048 → EReal)
    (hx : ∀ r : Fin 1024, v40 (ValueIdx.ix2 (n0 := 1024) (n1 := 2048) r ⟨512 * 3 + c.val, by omega⟩) = f ⟨τ * 1024 + r.val, by omega⟩)
    (hh : ∀ r : Fin 16, v42 (ValueIdx.ix2 (n0 := 16) (n1 := 2048) r ⟨512 * 3 + c.val, by omega⟩) = pre f (τ * 1024 + r.val)) (r : Fin 1024) :
    P3 (BitVec.ofNat 32 τ) v40 v42 (ValueIdx.ix2 (n0 := 1024) (n1 := 512) r c) = pooled f 16 ⟨τ * 1024 + r.val, by omega⟩ := by
  unfold P3
  exact form_read 3 (by omega) 16 τ hτ (by omega) (by omega) _ _ c f v40 slices_S1024x2048_o0_1536_S1024x512 hx
    (fun n hn => ext_col 3 (by omega) v40 v42 slices_S1040x2048_o0_1536_S1040x512 τ hτ c f hx hh n hn) (dbl_col 8#32 _ _ c 8 rfl (dbl_col 4#32 _ _ c 4 rfl (dbl_col 2#32 _ _ c 2 rfl (dbl_col 1#32 _ _ c 1 rfl (one_col _ c))))) r

end Cert.KernelIdeal.Pool
-- ==== Proof.PoolTile.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.KernelVsHost
public import Idealize.ShloMosaic.Lib.Pointwise
public import Idealize.ShloMosaic.Lib.PlanTiles.Rows
public import Idealize.ShloMosaic.Lib.WordArith
public import proofs.«01_k».proof.Proof.Spec
public import proofs.«01_k».proof.Proof.PoolDefs
public import proofs.«01_k».proof.Proof.PoolWin

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Spec

/-- The four groups' products side by side. -/
def cat (a b c d : FVec Ideal S1024x512 .f32) : FVec Ideal S1024x2048 .f32 :=
  concatenate S1024x2048 1 [⟨S1024x512, a⟩, ⟨S1024x512, b⟩, ⟨S1024x512, c⟩, ⟨S1024x512, d⟩] concatenates_S1024x512_S1024x512_S1024x512_S1024x512_S1024x2048_d1

/-- Reading the four products side by side. -/
theorem cat_read (a b c d : FVec Ideal S1024x512 .f32) (r : Fin 1024) (M : Fin 2048 → EReal)
    (ha : ∀ j : Fin 512, a (ix2 r j) = M ⟨512 * 0 + j.val, by omega⟩) (hb : ∀ j : Fin 512, b (ix2 r j) = M ⟨512 * 1 + j.val, by omega⟩)
    (hc : ∀ j : Fin 512, c (ix2 r j) = M ⟨512 * 2 + j.val, by omega⟩) (hd : ∀ j : Fin 512, d (ix2 r j) = M ⟨512 * 3 + j.val, by omega⟩) (k : Fin 2048) :
    cat a b c d (ix2 r k) = M k := by
  have hk := k.isLt
  pointwise [cat]
  split_ifs
  all_goals first
    | exact (ha _).trans (congrArg M (Fin.ext (by dsimp only; omega)))
    | exact (hb _).trans (congrArg M (Fin.ext (by dsimp only; omega)))
    | exact (hc _).trans (congrArg M (Fin.ext (by dsimp only; omega)))
    | exact (hd _).trans (congrArg M (Fin.ext (by dsimp only; omega)))

/-- The last group's product. -/
def lastMix (v126 : FVec Ideal S1024x512 .bf16) (v127 : FVec Ideal S512x512 .bf16) : FVec Ideal S1024x512 .f32 :=
  matmul dot_S1024x512_S512x512_S1024x512_1_0_0_1_n_n none v126 v127 (constant S1024x512 .f32 0x00000000#32)

/-- The tail of a tile over the mixed streams `v129`. -/
def tail (v22 : FVec Ideal S1024x1024 .f32) (v41 v129 : FVec Ideal S1024x2048 .f32) (v130 : FVec Ideal S1x2048 .f32) (v141 : FVec Ideal S2048x1024 .bf16) (v144 : FVec Ideal S1x1024 .f32) : FVec Ideal S1x1024x1024 .f32 :=
  have v131 : FVec Ideal S1x2048 .f32 := shapeCast S1x2048 v130 shapeCasts_S1x2048_S1x2048
  have v132 : FVec Ideal S1024x2048 .f32 := broadcastTo S1024x2048 v131 broadcasts_S1x2048_S1024x2048
  have v133 : FVec Ideal S1024x2048 .f32 := mulf v129 v132
  have cst_51 : Ideal .f32 := Scalar.ofBits .f32 0x3F000000#32
  have v134 : FVec Ideal S1024x2048 .f32 := broadcast S1024x2048 cst_51
  have v135 : FVec Ideal S1024x2048 .f32 := mulf v134 v41
  have v136 : FVec Ideal S1024x2048 .f32 := tanh v135
  have v137 : FVec Ideal S1024x2048 .f32 := mulf v135 v136
  have v138 : FVec Ideal S1024x2048 .f32 := addf v135 v137
  have v139 : FVec Ideal S1024x2048 .f32 := mulf v133 v138
  have v140 : FVec Ideal S1024x2048 .bf16 := truncf .bf16 v139 bitsLt_bf16_f32
  have cst_54 : FVec Ideal S1024x1024 .f32 := constant S1024x1024 .f32 0x00000000#32
  have v142 : FVec Ideal S1024x1024 .f32 := matmul dot_S1024x2048_S2048x1024_S1024x1024_1_0_0_1_n_n none v140 v141 cst_54
  have v143 : FVec Ideal S1024x1024 .f32 := addf v142 v22
  have v145 : FVec Ideal S1x1024 .f32 := shapeCast S1x1024 v144 shapeCasts_S1x1024_S1x1024
  have v146 : FVec Ideal S1024x1024 .f32 := mulf v143 v143
  have v147 : FVec Ideal S1024 .f32 := multiReduction .add [1] S1024 v146 0x00000000#32 reduces_S1024x1024_S1024 (.inl rfl) rfl
  have v148 : FVec Ideal S1024x1 .f32 := shapeCast S1024x1 v147 shapeCasts_S1024_S1024x1
  have cst_58 : Ideal .f32 := Scalar.ofBits .f32 0x44800000#32
  have v149 : FVec Ideal S1024x1 .f32 := broadcast S1024x1 cst_58
  have v150 : FVec Ideal S1024x1 .f32 := divf v148 v149
  have cst_59 : Ideal .f32 := Scalar.ofBits .f32 0x358637BD#32
  have v151 : FVec Ideal S1024x1 .f32 := broadcast S1024x1 cst_59
  have v152 : FVec Ideal S1024x1 .f32 := addf v150 v151
  have v153 : FVec Ideal S1024x1 .f32 := rsqrt v152
  have v154 : FVec Ideal S1024x1024 .f32 := broadcastTo S1024x1024 v153 broadcasts_S1024x1_S1024x1024
  have v155 : FVec Ideal S1024x1024 .f32 := mulf v143 v154
  have v156 : FVec Ideal S1024x1024 .f32 := broadcastTo S1024x1024 v145 broadcasts_S1x1024_S1024x1024
  have v157 : FVec Ideal S1024x1024 .f32 := mulf v155 v156
  have v160 : FVec Ideal S1x1024x1024 .f32 := shapeCast S1x1024x1024 v157 shapeCasts_S1024x1024_S1x1024x1024
  v160

/-- The body's last payload is the tail over the four products side by side. -/
theorem pay7_eq (v22 : FVec Ideal S1024x1024 .f32) (v41 : FVec Ideal S1024x2048 .f32) (v119 v122 v125 : FVec Ideal S1024x512 .f32)
    (v126 : FVec Ideal S1024x512 .bf16) (v127 : Vec Ideal S512x512 .bf16) (v130 : Vec Ideal S1x2048 .f32) (v141 : Vec Ideal S2048x1024 .bf16)
    (v144 : Vec Ideal S1x1024 .f32) : k0_pay7 v22 v41 v119 v122 v125 v126 v127 v130 v141 v144 = tail v22 v41 (cat v119 v122 v125 (lastMix v126 v127)) v130 v141 v144 := rfl

/-- The tail of a tile: scale, gate, output product, residual and the last normalisation. -/
theorem pay7_read (v22 : FVec Ideal S1024x1024 .f32) (v41 : FVec Ideal S1024x2048 .f32) (v119 v122 v125 : FVec Ideal S1024x512 .f32)
    (v126 : FVec Ideal S1024x512 .bf16) (v127 : Vec Ideal S512x512 .bf16) (v130 : Vec Ideal S1x2048 .f32) (v141 : Vec Ideal S2048x1024 .bf16)
    (v144 : Vec Ideal S1x1024 .f32) (u : Fin 1) (r d : Fin 1024) :
    k0_pay7 v22 v41 v119 v122 v125 v126 v127 v130 v141 v144 (ix3 u r d)
      = norm (fun d => (∑ k : Fin 2048, cat v119 v122 v125 (lastMix v126 v127) (ix2 r k) * v130 (ix2 0 k)
          * (Ideal.ofBits .f32 0x3F000000#32 * v41 (ix2 r k) + Ideal.ofBits .f32 0x3F000000#32 * v41 (ix2 r k) * Ideal.tanh (Ideal.ofBits .f32 0x3F000000#32 * v41 (ix2 r k)))
          * v141 (ix2 k d)) + v22 (ix2 r d)) (fun d => v144 (ix2 0 d)) d := by
  rw [pay7_eq]
  generalize cat v119 v122 v125 (lastMix v126 v127) = C
  pointwise [tail]
  rfl

/-- A product of one group's average. -/
theorem pay22_read (a : FVec Ideal S1024x512 .f32) (w : Vec Ideal S512x512 .bf16) (r : Fin 1024) (j : Fin 512) :
    k0_pay22 a w (ix2 r j) = ∑ k : Fin 512, a (ix2 r k) * w (ix2 k j) := by
  pointwise [k0_pay22]

/-- A product of one group's average. -/
theorem pay23_read (a : FVec Ideal S1024x512 .f32) (w : Vec Ideal S512x512 .bf16) (r : Fin 1024) (j : Fin 512) :
    k0_pay23 a w (ix2 r j) = ∑ k : Fin 512, a (ix2 r k) * w (ix2 k j) := by
  pointwise [k0_pay23]

/-- A product of one group's average. -/
theorem lastMix_read (a : FVec Ideal S1024x512 .bf16) (w : Vec Ideal S512x512 .bf16) (r : Fin 1024) (j : Fin 512) :
    lastMix a w (ix2 r j) = ∑ k : Fin 512, a (ix2 r k) * w (ix2 k j) := by
  pointwise [lastMix]

/-- The input projection. -/
theorem pay11_read (xb : Vec Ideal S1x1024x1024 .f32) (gain : Vec Ideal S1x1024 .f32) (w : Vec Ideal S1024x4096 .bf16) (r : Fin 1024) (e : Fin 4096) :
    k0_pay11 xb gain w (ix2 r e) = proj (fun d => xb (ix3 0 r d)) (fun d => gain (ix2 0 d)) (fun d => w (ix2 d e)) := by
  pointwise [k0_pay11, k0_pay10]
  rfl

/-- The pooled half of the projection. -/
theorem pay12_read (xb : Vec Ideal S1x1024x1024 .f32) (gain : Vec Ideal S1x1024 .f32) (w : Vec Ideal S1024x4096 .bf16) (r : Fin 1024) (k : Fin 2048) :
    k0_pay12 xb gain w (ix2 r k) = proj (fun d => xb (ix3 0 r d)) (fun d => gain (ix2 0 d)) (fun d => w (ix2 d ⟨k.val, by omega⟩)) := by
  rw [← pay11_read]
  unfold k0_pay12
  generalize k0_pay11 xb gain w = A
  pointwise

/-- The gating half of the projection. -/
theorem pay13_read (xb : Vec Ideal S1x1024x1024 .f32) (gain : Vec Ideal S1x1024 .f32) (w : Vec Ideal S1024x4096 .bf16) (r : Fin 1024) (k : Fin 2048) :
    k0_pay13 xb gain w (ix2 r k) = proj (fun d => xb (ix3 0 r d)) (fun d => gain (ix2 0 d)) (fun d => w (ix2 d ⟨2048 + k.val, by omega⟩)) := by
  rw [← pay11_read]
  unfold k0_pay13
  generalize k0_pay11 xb gain w = A
  pointwise

/-- The tile's own rows. -/
theorem pay10_read (xb : Vec Ideal S1x1024x1024 .f32) (r d : Fin 1024) : k0_pay10 xb (ix2 r d) = xb (ix3 0 r d) := by
  pointwise [k0_pay10]

/-- The rows handed on. -/
theorem pay16_read (A : FVec Ideal S1024x2048 .f32) (r : Fin 16) (k : Fin 2048) : k0_pay16 A (ix2 r k) = A (ix2 ⟨1008 + r.val, by omega⟩ k) := by
  pointwise [k0_pay16, k0_pay15]

/-- The state's rows. -/
theorem pay8_read (A : FVec Ideal S1024x2048 .f32) (u : Fin 1) (r : Fin 16) (k : Fin 2048) :
    k0_pay8 (k0_pay15 A) (ix3 u r k) = A (ix2 ⟨1008 + r.val, by omega⟩ k) := by
  pointwise [k0_pay8, k0_pay15]

/-- The cleared history. -/
theorem pay9_read (r : Fin 16) (k : Fin 2048) : k0_pay9 (F := Ideal) (ix2 r k) = 0 := by
  pointwise [k0_pay9]

/-- A group's rows of the grouped weight. -/
theorem grp_read (w : Vec Ideal S2048x512 .bf16) (o : Nat) (inb : ∀ a, (![o, 0] : Fin 2 → Nat) a + S512x512.size a ≤ S2048x512.size a) (k j : Fin 512)
    (ho : o + k.val < 2048) : grp w o inb (ix2 k j) = w (ix2 ⟨o + k.val, ho⟩ j) := by
  unfold grp VecWindow.window
  refine congrArg w (funext fun a => Fin.ext ?_)
  match a with
  | ⟨0, _⟩ => show o + 1 * k.val = o + k.val; omega
  | ⟨1, _⟩ => show 0 + 1 * j.val = j.val; omega

/-- What a tile's body writes is the layer's output at the tile's rows, when its blocks hold the layer's arguments and its
    history holds the sixteen positions before it. -/
theorem yOf_read (τ : ℕ) (hτ : τ < 2) (xb : Vec Ideal S1x1024x1024 .f32) (gain : Vec Ideal S1x1024 .f32) (sc : Vec Ideal S1x2048 .f32)
    (fin : Vec Ideal S1x1024 .f32) (w : Vec Ideal S1024x4096 .bf16) (g : Vec Ideal S2048x512 .bf16) (o : Vec Ideal S2048x1024 .bf16)
    (h : Vec Ideal S16x2048 .f32)
    (x : Fin 2048 → Fin 1024 → EReal) (G : Fin 1024 → EReal) (Sc : Fin 2048 → EReal) (Fn : Fin 1024 → EReal)
    (W : Fin 1024 → Fin 4096 → EReal) (Wg : Fin 2048 → Fin 512 → EReal) (Wo : Fin 2048 → Fin 1024 → EReal)
    (hX : ∀ r d : Fin 1024, xb (ix3 0 r d) = x ⟨τ * 1024 + r.val, by omega⟩ d) (hG : ∀ d, gain (ix2 0 d) = G d) (hS : ∀ k, sc (ix2 0 k) = Sc k)
    (hF : ∀ d, fin (ix2 0 d) = Fn d) (hW : ∀ d e, w (ix2 d e) = W d e) (hg : ∀ k j, g (ix2 k j) = Wg k j) (ho : ∀ k d, o (ix2 k d) = Wo k d)
    (hh : ∀ (r : Fin 16) (k : Fin 2048), h (ix2 r k) = pre (prj x G W ⟨k.val, by omega⟩) (τ * 1024 + r.val))
    (hR : ∀ e t, IsR (prj x G W e t)) (u : Fin 1) (r d : Fin 1024) :
    yOf (BitVec.ofNat 32 τ) xb gain sc fin w g o h (ix3 u r d) = out x G Sc Fn W Wg Wo ⟨τ * 1024 + r.val, by omega⟩ d := by
  have h12 : ∀ (r : Fin 1024) (k : Fin 2048), k0_pay12 xb gain w (ix2 r k) = prj x G W ⟨k.val, by omega⟩ ⟨τ * 1024 + r.val, by omega⟩ := by
    intro r k; rw [pay12_read]; unfold prj; simp only [hX, hG, hW]
  have h13 : ∀ (r : Fin 1024) (k : Fin 2048), k0_pay13 xb gain w (ix2 r k) = prj x G W ⟨2048 + k.val, by omega⟩ ⟨τ * 1024 + r.val, by omega⟩ := by
    intro r k; rw [pay13_read]; unfold prj; simp only [hX, hG, hW]
  unfold yOf
  rw [pay24_eq, pay25_eq, pay7_read]
  generalize k0_pay12 xb gain w = A at *
  generalize k0_pay13 xb gain w = B at *
  have hm : ∀ k : Fin 2048, cat (k0_pay22 (k0_pay18 (BitVec.ofNat 32 τ) A h) (grp g 0 inb_S2048x512_S512x512_0_0))
      (k0_pay23 (k0_pay19 (BitVec.ofNat 32 τ) A h) (grp g 512 inb_S2048x512_S512x512_512_0))
      (k0_pay22 (P2 (BitVec.ofNat 32 τ) A h) (grp g 1024 inb_S2048x512_S512x512_1024_0))
      (lastMix (P3 (BitVec.ofNat 32 τ) A h) (grp g 1536 inb_S2048x512_S512x512_1536_0)) (ix2 r k) = mixed x G W Wg ⟨τ * 1024 + r.val, by omega⟩ k := by
    refine cat_read _ _ _ _ r _ ?_ ?_ ?_ ?_
    · intro j
      rw [pay22_read, mixed_at x G W Wg _ 0 (by omega) j]
      refine Finset.sum_congr rfl fun i _ => ?_
      rw [grp_read _ _ _ i j (show 0 + i.val < 2048 by omega), hg]
      exact congrArg (· * _) (group0_read A h τ hτ i _ (fun r => h12 r _) (fun r => hh r _) r)
    · intro j
      rw [pay23_read, mixed_at x G W Wg _ 1 (by omega) j]
      refine Finset.sum_congr rfl fun i _ => ?_
      rw [grp_read _ _ _ i j (show 512 + i.val < 2048 by omega), hg]
      exact congrArg (· * _) (group1_read A h τ hτ i _ (fun r => h12 r _) (fun r => hh r _) r)
    · intro j
      rw [pay22_read, mixed_at x G W Wg _ 2 (by omega) j]
      refine Finset.sum_congr rfl fun i _ => ?_
      rw [grp_read _ _ _ i j (show 1024 + i.val < 2048 by omega), hg]
      exact congrArg (· * _) (group2_read A h τ hτ i _ (fun r => h12 r _) (fun r => hh r _) r)
    · intro j
      rw [lastMix_read, mixed_at x G W Wg _ 3 (by omega) j]
      refine Finset.sum_congr rfl fun i _ => ?_
      rw [grp_read _ _ _ i j (show 1536 + i.val < 2048 by omega), hg]
      exact congrArg (· * _) (group3_read A h τ hτ i _ (fun r => h12 r _) (fun r => hh r _) r)
  unfold out
  refine congr (congr (congrArg Spec.norm (funext fun d => ?_)) (funext hF)) rfl
  unfold res
  rw [pay10_read, hX]
  congr 1
  refine Finset.sum_congr rfl fun k _ => ?_
  rw [ho, hm k, hS, h13, silu_eq (hR _ _)]
  rfl

end Cert.KernelIdeal.Pool
-- ==== Proof.PoolKer.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.KernelVsHost
public import Idealize.ShloMosaic.Lib.Pointwise
public import Idealize.ShloMosaic.Lib.PlanTiles.Rows
public import Idealize.ShloMosaic.Lib.WordArith
public import proofs.«01_k».proof.Proof.Spec
public import proofs.«01_k».proof.Proof.PoolOut
public import proofs.«01_k».proof.Proof.PoolTile

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Spec

variable (m : (ℓ : Loc nD τ sig) → Buf (Elt Ideal) ℓ)

/-! ## The region's arguments as plain functions -/

/-- One batch's activations. -/
abbrev aX (c : Dev nD) (b : Fin 8) : Fin 2048 → Fin 1024 → EReal := fun t d => V m c main_arg0 (ix3 b t d)
/-- The input gain. -/
abbrev aG (c : Dev nD) : Fin 1024 → EReal := fun d => V m c main_v0 (ix2 (0 : Fin 1) d)
/-- The scale of the mixed streams. -/
abbrev aS (c : Dev nD) : Fin 2048 → EReal := fun d => V m c main_v1 (ix2 (0 : Fin 1) d)
/-- The last gain. -/
abbrev aF (c : Dev nD) : Fin 1024 → EReal := fun d => V m c main_v2 (ix2 (0 : Fin 1) d)
/-- The input weight. -/
abbrev aW (c : Dev nD) : Fin 1024 → Fin 4096 → EReal := fun d e => V m c main_arg4 (ix2 d e)
/-- The grouped weight, its groups' rows below each other. -/
abbrev aWg (c : Dev nD) : Fin 2048 → Fin 512 → EReal := fun k j => V m c main_v3 (ix2 k j)
/-- The output weight. -/
abbrev aWo (c : Dev nD) : Fin 2048 → Fin 1024 → EReal := fun k d => V m c main_arg6 (ix2 k d)

theorem pt_of (n : ℕ) (h : n < 24) : (pt n).val = n := by
  unfold pt
  rw [dif_pos (show n < cfg0.N from lt_of_lt_of_eq h (show cfg0.N = 24 from N_0).symm)]

/-- The tile's position in its batch. -/
theorem tw_eq : ∀ t : Fin cfg0.N, 8 ≤ t.val → tw (grid0.coords t) = BitVec.ofNat 32 ((t.val - 8) % 2) :=
  (by decide +kernel : ∀ t : Fin grid0.N, 8 ≤ t.val → tw (grid0.coords t) = BitVec.ofNat 32 ((t.val - 8) % 2))

theorem pay2_read (x : Vec Ideal S128x4096 .f32) (r : Fin 128) (e : Fin 4096) : k0_pay2 x (ix2 r e) = x (ix2 r e) := by
  pointwise [k0_pay2, k0_pay1]
theorem pay4_read (x : Vec Ideal S256x512 .f32) (r : Fin 256) (e : Fin 512) : k0_pay4 x (ix2 r e) = x (ix2 r e) := by
  pointwise [k0_pay4, k0_pay3]
theorem pay6_read (x : Vec Ideal S256x1024 .f32) (r : Fin 256) (e : Fin 1024) : k0_pay6 x (ix2 r e) = x (ix2 r e) := by
  pointwise [k0_pay6, k0_pay5]

/-- The resident input weight is the argument. -/
theorem wn_read (c : Dev nD) (d : Fin 1024) (e : Fin 4096) : wn m c (ix2 d e) = aW m c d e := by
  have hd := d.isLt
  have hp := pt_of (d.val / 128) (by omega)
  refine (pay2_read (b5 m c (pt (d.val / 128))) ⟨d.val % 128, by omega⟩ e).trans ?_
  refine (b5_apply m c _ (by omega) _ _).trans ?_
  refine congrArg (V m c main_arg4) ((ix2_eq _ _).symm.trans (congrArg (fun i => ix2 i e) (Fin.ext ?_)))
  show (pt (d.val / 128)).val * 128 + d.val % 128 = d.val
  omega

/-- The resident grouped weight is the reshaped argument. -/
theorem wg_read (c : Dev nD) (d : Fin 2048) (e : Fin 512) : wg m c (ix2 d e) = aWg m c d e := by
  have hd := d.isLt
  have hp := pt_of (d.val / 256) (by omega)
  refine (pay4_read (b6 m c (pt (d.val / 256))) ⟨d.val % 256, by omega⟩ e).trans ?_
  refine (b6_apply m c _ (by omega) _ _).trans ?_
  refine congrArg (V m c main_v3) ((ix2_eq _ _).symm.trans (congrArg (fun i => ix2 i e) (Fin.ext ?_)))
  show (pt (d.val / 256)).val * 256 + d.val % 256 = d.val
  omega

/-- The resident output weight is the argument. -/
theorem wo_read (c : Dev nD) (d : Fin 2048) (e : Fin 1024) : wo m c (ix2 d e) = aWo m c d e := by
  have hd := d.isLt
  have hp := pt_of (d.val / 256) (by omega)
  refine (pay6_read (b7 m c (pt (d.val / 256))) ⟨d.val % 256, by omega⟩ e).trans ?_
  refine (b7_apply m c _ (by omega) _ _).trans ?_
  refine congrArg (V m c main_arg6) ((ix2_eq _ _).symm.trans (congrArg (fun i => ix2 i e) (Fin.ext ?_)))
  show (pt (d.val / 256)).val * 256 + d.val % 256 = d.val
  omega

/-- A tile's activations. -/
theorem b1_read (c : Dev nD) (t : Fin cfg0.N) (b : Fin 8) (h : Fin 2) (ht : t.val = 8 + 2 * b.val + h.val) (r d : Fin 1024) :
    b1 m c t (ix3 0 r d) = aX m c b ⟨h.val * 1024 + r.val, by omega⟩ d := by
  refine (b1_apply m c t (by omega) 0 r d).trans ?_
  refine congrArg (V m c main_arg0) ((ix3_eq _ _ _).symm.trans ?_)
  have e1 : bt t (by omega) = b := Fin.ext (by show (t.val - 8) / 2 = b.val; omega)
  rw [e1]
  refine congrArg (fun i => ix3 b i d) (Fin.ext ?_)
  show (t.val - 8) % 2 * 1024 + r.val = h.val * 1024 + r.val
  omega

/-- The history a tile computes with is the sixteen positions before it. -/
theorem hist_read (c : Dev nD) (t : Fin cfg0.N) (b : Fin 8) (h : Fin 2) (ht : t.val = 8 + 2 * b.val + h.val) (r : Fin 16) (k : Fin 2048) :
    hist m c t (ix2 r k) = pre (prj (aX m c b) (aG m c) (aW m c) ⟨k.val, by omega⟩) (h.val * 1024 + r.val) := by
  have hr := r.isLt
  have hN : t.val < 24 := lt_of_lt_of_eq t.isLt (show cfg0.N = 24 from N_0)
  unfold hist
  by_cases h0 : t.val % 2 = 0
  · rw [if_pos h0, pay9_read]
    unfold pre
    rw [dif_neg (by omega)]
  · rw [if_neg h0]
    have hp := pt_of (t.val - 1) (by omega)
    unfold handed histOf
    rw [pay16_read, pay12_read]
    unfold pre prj
    have hh : h.val = 1 := by omega
    rw [dif_pos ⟨by omega, by omega⟩]
    refine congr (congr (congrArg proj (funext fun d => ?_)) (funext fun d => ?_)) (funext fun d => ?_)
    · refine (b1_read m c _ b 0 (by omega) _ d).trans ?_
      refine congrArg (fun i => aX m c b i d) (Fin.ext ?_)
      show 0 * 1024 + (1008 + r.val) = h.val * 1024 + r.val - 16
      omega
    · exact b2_apply m c _ 0 d
    · exact wn_read m c d _

/-- A tile is the layer's output at its rows. -/
theorem tileY_read (c : Dev nD) (t : Fin cfg0.N) (b : Fin 8) (h : Fin 2) (ht : t.val = 8 + 2 * b.val + h.val)
    (hR : ∀ e t, IsR (prj (aX m c b) (aG m c) (aW m c) e t)) (r d : Fin 1024) :
    tileY m c t (ix3 0 r d) = out (aX m c b) (aG m c) (aS m c) (aF m c) (aW m c) (aWg m c) (aWo m c) ⟨h.val * 1024 + r.val, by omega⟩ d := by
  unfold tileY
  rw [tw_eq t (by omega), show (t.val - 8) % 2 = h.val by omega]
  exact yOf_read h.val h.isLt _ _ _ _ _ _ _ _ _ _ _ _ _ _ _ (fun r d => b1_read m c t b h ht r d) (fun d => b2_apply m c t 0 d)
    (fun d => b3_apply m c t 0 d) (fun d => b4_apply m c t 0 d) (fun d e => wn_read m c d e) (fun k j => wg_read m c k j) (fun k d => wo_read m c k d)
    (fun r k => hist_read m c t b h ht r k) hR 0 r d

/-- The first result is the layer's output. -/
theorem yAll_read (c : Dev nD) (b : Fin 8) (hR : ∀ e t, IsR (prj (aX m c b) (aG m c) (aW m c) e t)) (t : Fin 2048) (d : Fin 1024) :
    yAll m c (ix3 b t d) = out (aX m c b) (aG m c) (aS m c) (aF m c) (aW m c) (aWg m c) (aWo m c) t d := by
  have ht := t.isLt
  have hp := pt_of (8 + 2 * b.val + t.val / 1024) (by omega)
  refine (tileY_read m c (pt (8 + 2 * b.val + t.val / 1024)) b ⟨t.val / 1024, by omega⟩ hp hR ⟨t.val % 1024, by omega⟩ d).trans ?_
  congr 1
  refine Fin.ext ?_
  show t.val / 1024 * 1024 + t.val % 1024 = t.val
  omega

/-- The second result is the last sixteen rows of the projection. -/
theorem stAll_read (c : Dev nD) (b : Fin 8) (r : Fin 16) (k : Fin 2048) :
    stAll m c (ix3 b r k) = prj (aX m c b) (aG m c) (aW m c) ⟨k.val, by omega⟩ ⟨2032 + r.val, by omega⟩ := by
  have hr := r.isLt
  have hp := pt_of (9 + 2 * b.val) (by omega)
  show stOf _ _ _ (ix3 0 r k) = _
  unfold stOf
  rw [pay8_read, pay12_read]
  unfold prj
  refine congr (congr (congrArg proj (funext fun d => ?_)) (funext fun d => ?_)) (funext fun d => ?_)
  · refine (b1_read m c _ b 1 (by show (pt (9 + 2 * b.val)).val = _; rw [hp]; show _ = 8 + 2 * b.val + 1; omega) _ d).trans ?_
    refine congrArg (fun i => aX m c b i d) (Fin.ext ?_)
    show 1 * 1024 + (1008 + r.val) = 2032 + r.val
    omega
  · exact b2_apply m c _ 0 d
  · exact wn_read m c d _

end Cert.KernelIdeal.Pool
-- ==== Proof.PoolRef.lean ====
module

public import proofs.«01_k».proof.Proof.Gen.ReferenceIdeal.Read
public import Idealize.ShloMosaic.Lib.KernelVsHost
public import Idealize.ShloMosaic.Lib.Pointwise
public import Idealize.ShloMosaic.Lib.PlanTiles.Rows
public import Idealize.ShloMosaic.Lib.WordArith
public import proofs.«01_k».proof.Proof.Spec

/-! The pooling reference, read as the arithmetic of `Spec`. -/

@[expose] public section

set_option maxRecDepth 16384

noncomputable section

namespace Cert.ReferenceIdeal.Pool

open Idealize.ShloMosaic Cert.ReferenceIdeal Cert.ReferenceIdeal.Gen Cert.ReferenceIdeal.Read Cert.Spec

/-- An index of rank three, from its coordinates. -/
theorem eq_ix3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun z => Fin.ext (by
    match z with
    | ⟨0, _⟩ => exact h0
    | ⟨1, _⟩ => exact h1
    | ⟨2, _⟩ => exact h2)

/-- An index of rank two, from its coordinates. -/
theorem eq_ix2 {n0 n1 : ℕ} (i : (⟨2, ![n0, n1]⟩ : Shape).Idx) (a : Fin n0) (b : Fin n1)
    (h0 : (i 0).val = a.val) (h1 : (i 1).val = b.val) : i = ix2 a b :=
  funext fun z => Fin.ext (by
    match z with
    | ⟨0, _⟩ => exact h0
    | ⟨1, _⟩ => exact h1)

/-- An index of rank one, from its coordinate. -/
theorem eq_ix1 {n0 : ℕ} (i : (⟨1, ![n0]⟩ : Shape).Idx) (a : Fin n0) (h0 : (i 0).val = a.val) : i = ix1 a :=
  funext fun z => Fin.ext (by
    match z with
    | ⟨0, _⟩ => exact h0)

/-- A fold that adds is the sum. -/
theorem foldl_add {ι : Type*} (g : ι → EReal) (l : List ι) (a : EReal) : l.foldl (fun r i => r + g i) a = a + (l.map g).sum := by
  induction l generalizing a with
  | nil => simp
  | cons x l ih => simp [ih, add_assoc]

/-- A guarded term equals another when the guards agree and the terms agree under the guard. -/
theorem dite_zero {P Q : Prop} {dP : Decidable P} {dQ : Decidable Q} {y : P → EReal} (z : EReal) (hPQ : P ↔ Q) (hy : ∀ h, y h = z) :
    (if h : P then y h else 0) = if Q then z else 0 := by
  by_cases h : P
  · rw [dif_pos h, if_pos (hPQ.1 h), hy]
  · rw [dif_neg h, if_neg fun q => h (hPQ.2 q)]

/-- A running sum over the middle axis, as a window of the whole length padded low. -/
theorem cumsum_read (x : FVec Ideal S8x2064x2048 .f32) (init : FVec Ideal S_ .f32) (hi : ∀ i, init i = 0) (b : Fin 8) (n : Fin 2064) (c : Fin 2048)
    (f : ℕ → EReal) (hx : ∀ i : Fin 2064, x (ix3 b i c) = f i.val) :
    Host.reduceWindowAdd (F := Ideal) ![1, 2064, 1] ![1, 1, 1] ![0, 2063, 0] ![0, 0, 0] x init reduceWindows_S8x2064x2048_S8x2064x2048_w1s1p0_0_w2064s1p2063_0_w1s1p0_0 h_S_ (ix3 b n c)
      = ∑ i ∈ Finset.range (n.val + 1), f i := by
  have hn := n.isLt
  unfold Host.reduceWindowAdd
  rw [Ideal.hostReduceWindowAdd_def]
  unfold Ideal.hostReduceWindowAdd Host.reduceWindow
  dsimp only
  rw [hi]
  refine (foldl_add (fun i => _) _ _).trans ?_
  rw [zero_add, ← Fin.sum_univ_def]
  let G : (⟨3, ![1, 2064, 1]⟩ : Shape).Idx → EReal := fun q => if 2063 ≤ n.val + (q 1).val then f (n.val + (q 1).val - 2063) else 0
  refine (Finset.sum_congr rfl (g := fun i => G ((Shape.rowMajor ⟨3, ![1, 2064, 1]⟩).symm i)) fun i _ => ?_).trans ?_
  · have h0 : ((Shape.rowMajor ⟨3, ![1, 2064, 1]⟩).symm i 0).val < 1 := ((Shape.rowMajor ⟨3, ![1, 2064, 1]⟩).symm i 0).isLt
    have h1 : ((Shape.rowMajor ⟨3, ![1, 2064, 1]⟩).symm i 1).val < 2064 := ((Shape.rowMajor ⟨3, ![1, 2064, 1]⟩).symm i 1).isLt
    have h2 : ((Shape.rowMajor ⟨3, ![1, 2064, 1]⟩).symm i 2).val < 1 := ((Shape.rowMajor ⟨3, ![1, 2064, 1]⟩).symm i 2).isLt
    refine dite_zero _ ⟨fun hin => ?_, fun h a => ?_⟩ fun hin => ?_
    · have h3 := (hin 1).1
      change 2063 ≤ n.val * 1 + ((Shape.rowMajor ⟨3, ![1, 2064, 1]⟩).symm i 1).val at h3
      omega
    · match a with
      | ⟨0, _⟩ => show 0 ≤ b.val * 1 + ((Shape.rowMajor ⟨3, ![1, 2064, 1]⟩).symm i 0).val ∧ b.val * 1 + ((Shape.rowMajor ⟨3, ![1, 2064, 1]⟩).symm i 0).val - 0 < 8; have := b.isLt; omega
      | ⟨1, _⟩ => show 2063 ≤ n.val * 1 + ((Shape.rowMajor ⟨3, ![1, 2064, 1]⟩).symm i 1).val ∧ n.val * 1 + ((Shape.rowMajor ⟨3, ![1, 2064, 1]⟩).symm i 1).val - 2063 < 2064; omega
      | ⟨2, _⟩ => show 0 ≤ c.val * 1 + ((Shape.rowMajor ⟨3, ![1, 2064, 1]⟩).symm i 2).val ∧ c.val * 1 + ((Shape.rowMajor ⟨3, ![1, 2064, 1]⟩).symm i 2).val - 0 < 2048; have := c.isLt; omega
    · have h3 := (hin 1).1
      change 2063 ≤ n.val * 1 + ((Shape.rowMajor ⟨3, ![1, 2064, 1]⟩).symm i 1).val at h3
      refine (congrArg x (funext fun a => Fin.ext ?_)).trans (hx ⟨n.val + ((Shape.rowMajor ⟨3, ![1, 2064, 1]⟩).symm i 1).val - 2063, by omega⟩)
      match a with
      | ⟨0, _⟩ => show b.val * 1 + ((Shape.rowMajor ⟨3, ![1, 2064, 1]⟩).symm i 0).val - 0 = b.val; omega
      | ⟨1, _⟩ => show n.val * 1 + ((Shape.rowMajor ⟨3, ![1, 2064, 1]⟩).symm i 1).val - 2063 = n.val + ((Shape.rowMajor ⟨3, ![1, 2064, 1]⟩).symm i 1).val - 2063; omega
      | ⟨2, _⟩ => show c.val * 1 + ((Shape.rowMajor ⟨3, ![1, 2064, 1]⟩).symm i 2).val - 0 = c.val; omega
  refine (Equiv.sum_comp (Shape.rowMajor ⟨3, ![1, 2064, 1]⟩).symm G).trans ?_
  rw [sum_idx3, Fin.sum_univ_one]
  refine (Finset.sum_congr rfl (g := fun k : Fin 2064 => if 2063 ≤ n.val + k.val then f (n.val + k.val - 2063) else 0) fun k _ => ?_).trans ?_
  · rw [Fin.sum_univ_one]
    rfl
  rw [Fin.sum_univ_eq_sum_range (fun k => if 2063 ≤ n.val + k then f (n.val + k - 2063) else 0) 2064]
  have e : 2064 = (2063 - n.val) + (n.val + 1) := by omega
  refine (congrArg (fun M => ∑ i ∈ Finset.range M, if 2063 ≤ n.val + i then f (n.val + i - 2063) else 0) e).trans ?_
  rw [Finset.sum_range_add, Finset.sum_eq_zero, zero_add]
  · refine Finset.sum_congr rfl fun k _ => ?_
    rw [if_pos (by omega)]
    congr 1; omega
  · intro k hk
    have := Finset.mem_range.1 hk
    rw [if_neg (by omega)]

section
variable (x0 : (⟨S8x2048x1024, .f32⟩ : BufTy).Contents (Elt Ideal)) (x1 : (⟨S1024, .f32⟩ : BufTy).Contents (Elt Ideal))
  (x2 : (⟨S2048, .f32⟩ : BufTy).Contents (Elt Ideal)) (x3 : (⟨S1024, .f32⟩ : BufTy).Contents (Elt Ideal))
  (x4 : (⟨S1024x4096, .f32⟩ : BufTy).Contents (Elt Ideal)) (x5 : (⟨S4x512x512, .f32⟩ : BufTy).Contents (Elt Ideal))
  (x6 : (⟨S2048x1024, .f32⟩ : BufTy).Contents (Elt Ideal))

/-- One batch's activations. -/
abbrev rX (b : Fin 8) : Fin 2048 → Fin 1024 → EReal := fun t d => x0 (ix3 b t d)
/-- A vector's entries. -/
abbrev rV {n : ℕ} (v : (⟨1, ![n]⟩ : Shape).Idx → EReal) : Fin n → EReal := fun d => v (ix1 d)
/-- A matrix's entries. -/
abbrev rM {n k : ℕ} (v : (⟨2, ![n, k]⟩ : Shape).Idx → EReal) : Fin n → Fin k → EReal := fun d e => v (ix2 d e)
/-- The grouped weight, its groups' rows below each other. -/
abbrev rG : Fin 2048 → Fin 512 → EReal := fun k j => x5 (ix3 ⟨k.val / 512, by omega⟩ ⟨k.val % 512, by omega⟩ j)

/-- The input projection. -/
theorem v14_read (b : Fin 8) (t : Fin 2048) (e : Fin 4096) :
    val_main_v14 (F := Ideal) x0 x1 x4 (ix3 b t e) = prj (rX x0 b) (rV x1) (rM x4) e t := by
  rw [val_main_v14_apply]
  unfold prj proj
  refine Finset.sum_congr rfl fun k _ => ?_
  refine congr (congrArg _ ?_) (congrArg x4 (funext fun a => Fin.ext (by match a with | ⟨0, _⟩ => rfl | ⟨1, _⟩ => rfl)))
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, Ideal.mulf_def, Ideal.addf_def, Ideal.hostDivf_def, Ideal.hostUnary_rsqrt_def, Ideal.ofBits_def,
    Ideal.ofBits_zero_f32, zero_add]
  have e1 : lidx_main_v14 (ix3 b t e) k = ix3 b t k := eq_ix3 _ _ _ _ rfl rfl rfl
  have e2 : ∀ j, idx_main_v1 (idx_main_v2 (idx_main_v8 (ix3 b t k))) j = ix3 b t j := fun j => eq_ix3 _ _ _ _ rfl rfl rfl
  have e3 : idx_main_v10 (idx_main_v11 (ix3 b t k)) = ix1 k := eq_ix1 _ _ rfl
  simp only [e1, e2, e3]
  rfl

/-- The pooled half. -/
theorem v15_read (b : Fin 8) (t k : Fin 2048) :
    val_main_v15 (F := Ideal) x0 x1 x4 (ix3 b t k) = prj (rX x0 b) (rV x1) (rM x4) ⟨k.val, by omega⟩ t := by
  rw [val_main_v15_apply, ← v14_read]
  exact congrArg _ (funext fun a => Fin.ext (by match a with | ⟨0, _⟩ => rfl | ⟨1, _⟩ => rfl | ⟨2, _⟩ => rfl))

/-- The gating half. -/
theorem v16_read (b : Fin 8) (t k : Fin 2048) :
    val_main_v16 (F := Ideal) x0 x1 x4 (ix3 b t k) = prj (rX x0 b) (rV x1) (rM x4) ⟨2048 + k.val, by omega⟩ t := by
  rw [val_main_v16_apply, ← v14_read]
  exact congrArg _ (funext fun a => Fin.ext (by match a with | ⟨0, _⟩ => rfl | ⟨1, _⟩ => rfl | ⟨2, _⟩ => first | rfl | exact Nat.add_comm _ _))

/-- The stream with fifteen zeros before it. -/
theorem v17_read (b : Fin 8) (n : Fin 2063) (k : Fin 2048) :
    val_main_v17 (F := Ideal) x0 x1 x4 (ix3 b n k) = pre (prj (rX x0 b) (rV x1) (rM x4) ⟨k.val, by omega⟩) (n.val + 1) := by
  have hn := n.isLt
  unfold val_main_v17
  have h13 : ∀ i, val_main_v13 (F := Ideal) i = 0 := by
    intro i; rw [val_main_v13_apply, val_main_cst_2_apply, Ideal.ofBits_def, Ideal.ofBits_zero_f32]
  have h15 := v15_read x0 x1 x4 b
  generalize val_main_v15 (F := Ideal) x0 x1 x4 = A at *
  generalize val_main_v13 (F := Ideal) = Z at *
  pointwise
  by_cases h : n.val < 15
  · rw [dif_pos h, h13]
    unfold pre
    rw [dif_neg (by omega)]
  · rw [dif_neg h]
    unfold pre
    rw [dif_pos ⟨by omega, by omega⟩]
    refine (h15 ⟨n.val - 15, by omega⟩ k).trans ?_
    congr 1

/-- The stream with sixteen zeros before it. -/
theorem v18_read (b : Fin 8) (n : Fin 2064) (k : Fin 2048) :
    val_main_v18 (F := Ideal) x0 x1 x4 (ix3 b n k) = pre (prj (rX x0 b) (rV x1) (rM x4) ⟨k.val, by omega⟩) n.val := by
  have hn := n.isLt
  unfold val_main_v18
  have hz : ∀ i, val_main_call0_v0 (F := Ideal) i = 0 := by
    intro i; rw [val_main_call0_v0_apply, val_main_c_apply]
    show (((0#32 : BitVec 32).toInt : ℝ) : EReal) = 0
    simp
  have h17 := v17_read x0 x1 x4 b
  generalize val_main_v17 (F := Ideal) x0 x1 x4 = A at *
  generalize val_main_call0_v0 (F := Ideal) = Z at *
  by_cases h : n.val = 0
  · unfold pre
    rw [dif_neg (by omega)]
    unfold pad
    rw [dif_neg]
    · exact hz _
    · intro hin
      have h1 := (hin 1).1
      change 1 ≤ n.val at h1
      omega
  · rw [pad_apply_of_inside _ _ _ _ _ _ _ _ (ix3 b ⟨n.val - 1, by omega⟩ k : S8x2063x2048.Idx), h17]
    · congr 1
      show n.val - 1 + 1 = n.val
      omega
    · intro a
      match a with
      | ⟨0, _⟩ => show b.val = 0 + b.val * (0 + 1); omega
      | ⟨1, _⟩ => show n.val = 1 + (n.val - 1) * (0 + 1); omega
      | ⟨2, _⟩ => show k.val = 0 + k.val * (0 + 1); omega

/-- The running sums of the padded stream. -/
theorem v19_read (b : Fin 8) (n : Fin 2064) (k : Fin 2048) :
    val_main_v19 (F := Ideal) x0 x1 x4 (ix3 b n k) = ∑ i ∈ Finset.range (n.val + 1), pre (prj (rX x0 b) (rV x1) (rM x4) ⟨k.val, by omega⟩) i := by
  unfold val_main_v19
  refine cumsum_read _ _ (fun i => ?_) b n k _ fun i => v18_read x0 x1 x4 b i k
  rw [val_main_call1_call0_v0_apply, val_main_call1_call0_cst_apply, Ideal.ofBits_def, Ideal.ofBits_zero_f32]

/-- The number of positions a window really covers. -/
theorem count_eq (t : Fin 2048) (w : ℕ) (hw : w ≤ 16) :
    (((IntOp.minsi (IntOp.addi (IntOp.addi 0#32 (BitVec.ofNat 32 t.val)) 1#32) (BitVec.ofNat 32 w)).toInt : ℝ) : EReal) = (((min (t.val + 1) w : ℕ) : ℝ) : EReal) := by
  have ht := t.isLt
  have e1 : IntOp.addi (IntOp.addi 0#32 (BitVec.ofNat 32 t.val)) 1#32 = BitVec.ofNat 32 (t.val + 1) := by
    simp only [IntOp.addi]
    apply BitVec.eq_of_toNat_eq
    simp [BitVec.toNat_add]
  rw [e1, PlanTiles.minsi_word (by omega) (by omega), WordArith.toInt_ofNat_small _ (by omega), min_comm]
  norm_cast

/-- Group 0: sums over windows of 2, divided by how many positions each covers. -/
theorem v33_read (b : Fin 8) (hR : ∀ e t, IsR (prj (rX x0 b) (rV x1) (rM x4) e t)) (t : Fin 2048) (c : Fin 512) :
    val_main_v33 (F := Ideal) x0 x1 x4 (ix3 b t c)
      = Ideal.div (win (prj (rX x0 b) (rV x1) (rM x4) ⟨512 * 0 + c.val, by omega⟩) 2 t) (((min (t.val + 1) 2 : ℕ) : ℝ) : EReal) := by
  have ht := t.isLt
  have hc := c.isLt
  rw [val_main_v33_apply, val_main_v25_apply, val_main_v23_apply, val_main_v24_apply]
  have e1 : idx_main_v23 (ix3 b t c) = ix3 b ⟨16 + t.val, by omega⟩ ⟨512 * 0 + c.val, by omega⟩ :=
    eq_ix3 _ _ _ _ rfl rfl (by show _ = 512 * 0 + c.val; first | rfl | exact (Nat.zero_add _).symm)
  have e2 : idx_main_v24 (ix3 b t c) = ix3 b ⟨14 + t.val, by omega⟩ ⟨512 * 0 + c.val, by omega⟩ :=
    eq_ix3 _ _ _ _ rfl (by show _ = 14 + t.val; first | rfl | exact (Nat.zero_add _).symm) (by show _ = 512 * 0 + c.val; first | rfl | exact (Nat.zero_add _).symm)
  rw [e1, e2, v19_read, v19_read]
  refine congr (congrArg Ideal.div ?_) ?_
  · exact win_eq (fun i => hR _ i) 2 t (by omega)
  · rw [val_main_v32_apply, val_main_v31_apply, val_main_v30_apply]
    exact count_eq t 2 (by omega)

/-- Group 1: sums over windows of 4, divided by how many positions each covers. -/
theorem v44_read (b : Fin 8) (hR : ∀ e t, IsR (prj (rX x0 b) (rV x1) (rM x4) e t)) (t : Fin 2048) (c : Fin 512) :
    val_main_v44 (F := Ideal) x0 x1 x4 (ix3 b t c)
      = Ideal.div (win (prj (rX x0 b) (rV x1) (rM x4) ⟨512 * 1 + c.val, by omega⟩) 4 t) (((min (t.val + 1) 4 : ℕ) : ℝ) : EReal) := by
  have ht := t.isLt
  have hc := c.isLt
  rw [val_main_v44_apply, val_main_v36_apply, val_main_v34_apply, val_main_v35_apply]
  have e1 : idx_main_v34 (ix3 b t c) = ix3 b ⟨16 + t.val, by omega⟩ ⟨512 * 1 + c.val, by omega⟩ :=
    eq_ix3 _ _ _ _ rfl rfl (by show _ = 512 * 1 + c.val; first | rfl | exact (Nat.zero_add _).symm)
  have e2 : idx_main_v35 (ix3 b t c) = ix3 b ⟨12 + t.val, by omega⟩ ⟨512 * 1 + c.val, by omega⟩ :=
    eq_ix3 _ _ _ _ rfl (by show _ = 12 + t.val; first | rfl | exact (Nat.zero_add _).symm) (by show _ = 512 * 1 + c.val; first | rfl | exact (Nat.zero_add _).symm)
  rw [e1, e2, v19_read, v19_read]
  refine congr (congrArg Ideal.div ?_) ?_
  · exact win_eq (fun i => hR _ i) 4 t (by omega)
  · rw [val_main_v43_apply, val_main_v42_apply, val_main_v41_apply]
    exact count_eq t 4 (by omega)

/-- Group 2: sums over windows of 8, divided by how many positions each covers. -/
theorem v55_read (b : Fin 8) (hR : ∀ e t, IsR (prj (rX x0 b) (rV x1) (rM x4) e t)) (t : Fin 2048) (c : Fin 512) :
    val_main_v55 (F := Ideal) x0 x1 x4 (ix3 b t c)
      = Ideal.div (win (prj (rX x0 b) (rV x1) (rM x4) ⟨512 * 2 + c.val, by omega⟩) 8 t) (((min (t.val + 1) 8 : ℕ) : ℝ) : EReal) := by
  have ht := t.isLt
  have hc := c.isLt
  rw [val_main_v55_apply, val_main_v47_apply, val_main_v45_apply, val_main_v46_apply]
  have e1 : idx_main_v45 (ix3 b t c) = ix3 b ⟨16 + t.val, by omega⟩ ⟨512 * 2 + c.val, by omega⟩ :=
    eq_ix3 _ _ _ _ rfl rfl (by show _ = 512 * 2 + c.val; first | rfl | exact (Nat.zero_add _).symm)
  have e2 : idx_main_v46 (ix3 b t c) = ix3 b ⟨8 + t.val, by omega⟩ ⟨512 * 2 + c.val, by omega⟩ :=
    eq_ix3 _ _ _ _ rfl (by show _ = 8 + t.val; first | rfl | exact (Nat.zero_add _).symm) (by show _ = 512 * 2 + c.val; first | rfl | exact (Nat.zero_add _).symm)
  rw [e1, e2, v19_read, v19_read]
  refine congr (congrArg Ideal.div ?_) ?_
  · exact win_eq (fun i => hR _ i) 8 t (by omega)
  · rw [val_main_v54_apply, val_main_v53_apply, val_main_v52_apply]
    exact count_eq t 8 (by omega)

/-- Group 3: sums over windows of 16, divided by how many positions each covers. -/
theorem v66_read (b : Fin 8) (hR : ∀ e t, IsR (prj (rX x0 b) (rV x1) (rM x4) e t)) (t : Fin 2048) (c : Fin 512) :
    val_main_v66 (F := Ideal) x0 x1 x4 (ix3 b t c)
      = Ideal.div (win (prj (rX x0 b) (rV x1) (rM x4) ⟨512 * 3 + c.val, by omega⟩) 16 t) (((min (t.val + 1) 16 : ℕ) : ℝ) : EReal) := by
  have ht := t.isLt
  have hc := c.isLt
  rw [val_main_v66_apply, val_main_v58_apply, val_main_v56_apply, val_main_v57_apply]
  have e1 : idx_main_v56 (ix3 b t c) = ix3 b ⟨16 + t.val, by omega⟩ ⟨512 * 3 + c.val, by omega⟩ :=
    eq_ix3 _ _ _ _ rfl rfl (by show _ = 512 * 3 + c.val; first | rfl | exact (Nat.zero_add _).symm)
  have e2 : idx_main_v57 (ix3 b t c) = ix3 b ⟨0 + t.val, by omega⟩ ⟨512 * 3 + c.val, by omega⟩ :=
    eq_ix3 _ _ _ _ rfl (by show _ = 0 + t.val; first | rfl | exact (Nat.zero_add _).symm) (by show _ = 512 * 3 + c.val; first | rfl | exact (Nat.zero_add _).symm)
  rw [e1, e2, v19_read, v19_read]
  refine congr (congrArg Ideal.div ?_) ?_
  · exact win_eq (fun i => hR _ i) 16 t (by omega)
  · rw [val_main_v65_apply, val_main_v64_apply, val_main_v63_apply]
    exact count_eq t 16 (by omega)

/-- The four groups' averages side by side, less the stream. -/
theorem v68_read (b : Fin 8) (hR : ∀ e t, IsR (prj (rX x0 b) (rV x1) (rM x4) e t)) (t : Fin 2048) (g : Fin 4) (j : Fin 512) :
    val_main_v68 (F := Ideal) x0 x1 x4 (ix3 b t ⟨512 * g.val + j.val, by omega⟩)
      = pooled (prj (rX x0 b) (rV x1) (rM x4) ⟨512 * g.val + j.val, by omega⟩) (2 ^ (g.val + 1)) t := by
  rw [val_main_v68_apply, v15_read]
  refine congrArg (fun z : EReal => z - _) ?_
  unfold val_main_v67
  have h0 := v33_read x0 x1 x4 b hR t j
  have h1 := v44_read x0 x1 x4 b hR t j
  have h2 := v55_read x0 x1 x4 b hR t j
  have h3 := v66_read x0 x1 x4 b hR t j
  generalize val_main_v33 (F := Ideal) x0 x1 x4 = A0 at *
  generalize val_main_v44 (F := Ideal) x0 x1 x4 = A1 at *
  generalize val_main_v55 (F := Ideal) x0 x1 x4 = A2 at *
  generalize val_main_v66 (F := Ideal) x0 x1 x4 = A3 at *
  clear hR
  have hj := j.isLt
  have key : ∀ (A : FVec Ideal S8x2048x512 .f32) (k : ℕ) (hk : k < 512), k = j.val → A (ix3 b t ⟨k, hk⟩) = A (ix3 b t j) := by
    intro A k hk e; subst e; rfl
  pointwise
  match g with
  | ⟨0, _⟩ =>
    refine Eq.trans ?_ h0
    split_ifs <;> first | exact key _ _ _ (by dsimp only; omega) | (exfalso; dsimp only at *; omega)
  | ⟨1, _⟩ =>
    refine Eq.trans ?_ h1
    split_ifs <;> first | exact key _ _ _ (by dsimp only; omega) | (exfalso; dsimp only at *; omega)
  | ⟨2, _⟩ =>
    refine Eq.trans ?_ h2
    split_ifs <;> first | exact key _ _ _ (by dsimp only; omega) | (exfalso; dsimp only at *; omega)
  | ⟨3, _⟩ =>
    refine Eq.trans ?_ h3
    split_ifs <;> first | exact key _ _ _ (by dsimp only; omega) | (exfalso; dsimp only at *; omega)

/-- The grouped projection of the pooled stream. -/
theorem v72_read (b : Fin 8) (hR : ∀ e t, IsR (prj (rX x0 b) (rV x1) (rM x4) e t)) (t k : Fin 2048) :
    val_main_v72 (F := Ideal) x0 x1 x4 x5 (ix3 b t k) = mixed (rX x0 b) (rV x1) (rM x4) (rG x5) t k := by
  have hb := b.isLt
  have ht := t.isLt
  have hk := k.isLt
  rw [val_main_v72_apply, val_main_v71_apply, val_main_v70_apply]
  unfold mixed
  refine Finset.sum_congr rfl fun j _ => ?_
  have hj := j.isLt
  rw [mul_comm, val_main_v69_apply]
  have e1 : idx_main_v69 (ridx_main_v70 (idx_main_v71 (idx_main_v72 (ix3 b t k))) j) = ix3 b t ⟨512 * (⟨k.val / 512, by omega⟩ : Fin 4).val + j.val, by dsimp only; omega⟩ := by
    refine eq_ix3 _ _ _ _ ?_ ?_ ?_
    · show (((((b.val * 2048 + t.val) * 2048 + k.val) / 4194304 * 2048 + ((b.val * 2048 + t.val) * 2048 + k.val) / 2048 % 2048) * 4 + ((b.val * 2048 + t.val) * 2048 + k.val) / 512 % 4) * 512 + j.val) / 4194304 = b.val
      omega
    · show (((((b.val * 2048 + t.val) * 2048 + k.val) / 4194304 * 2048 + ((b.val * 2048 + t.val) * 2048 + k.val) / 2048 % 2048) * 4 + ((b.val * 2048 + t.val) * 2048 + k.val) / 512 % 4) * 512 + j.val) / 2048 % 2048 = t.val
      omega
    · show (((((b.val * 2048 + t.val) * 2048 + k.val) / 4194304 * 2048 + ((b.val * 2048 + t.val) * 2048 + k.val) / 2048 % 2048) * 4 + ((b.val * 2048 + t.val) * 2048 + k.val) / 512 % 4) * 512 + j.val) % 2048 = 512 * (k.val / 512) + j.val
      omega
  have e2 : lidx_main_v70 (idx_main_v71 (idx_main_v72 (ix3 b t k))) j
      = ix3 ⟨(512 * (k.val / 512) + j.val) / 512, by omega⟩ ⟨(512 * (k.val / 512) + j.val) % 512, by omega⟩ ⟨k.val % 512, by omega⟩ := by
    refine eq_ix3 _ _ _ _ ?_ ?_ ?_
    · show ((b.val * 2048 + t.val) * 2048 + k.val) / 512 % 4 = (512 * (k.val / 512) + j.val) / 512
      omega
    · show j.val = (512 * (k.val / 512) + j.val) % 512
      omega
    · show ((b.val * 2048 + t.val) * 2048 + k.val) % 512 = k.val % 512
      omega
  rw [e1, e2, v68_read x0 x1 x4 b hR]

/-- The gated stream. -/
theorem v77_read (b : Fin 8) (hR : ∀ e t, IsR (prj (rX x0 b) (rV x1) (rM x4) e t)) (t k : Fin 2048) :
    val_main_v77 (F := Ideal) x0 x1 x2 x4 x5 (ix3 b t k) = gated (rX x0 b) (rV x1) (rV x2) (rM x4) (rG x5) t k := by
  rw [val_main_v77_apply, val_main_v75_apply, val_main_v76_apply, v72_read x0 x1 x4 x5 b hR, val_main_v74_apply, val_main_v73_apply, val_main_call2_v5_apply,
    val_main_call2_v4_apply, val_main_call2_cst_0_apply, val_main_call2_v3_apply, val_main_call2_v2_apply, val_main_call2_cst_apply,
    val_main_call2_v1_apply, val_main_call2_v0_apply, v16_read]
  have e : idx_main_v73 (idx_main_v74 (ix3 b t k)) = ix1 k := eq_ix1 _ _ rfl
  rw [e]
  simp only [Ideal.mulf_def, Ideal.addf_def, Ideal.hostDivf_def, Ideal.hostUnary_exp_def, Ideal.hostNegf_def, Ideal.ofBits_def, Ideal.ofBits_one_f32]
  rfl

/-- The layer's output before the closing normalisation. -/
theorem v80_read (b : Fin 8) (hR : ∀ e t, IsR (prj (rX x0 b) (rV x1) (rM x4) e t)) (t : Fin 2048) (d : Fin 1024) :
    val_main_v80 (F := Ideal) x0 x1 x2 x4 x5 x6 (ix3 b t d) = res (rX x0 b) (rV x1) (rV x2) (rM x4) (rG x5) (rM x6) t d := by
  rw [val_main_v80_apply, val_main_v78_apply, Ideal.addf_def, add_comm]
  unfold res
  refine congrArg (fun z : EReal => z + _) (Finset.sum_congr rfl fun k _ => ?_)
  have e1 : lidx_main_v78 (ix3 b t d) k = ix3 b t k := eq_ix3 _ _ _ _ rfl rfl rfl
  have e2 : ridx_main_v78 (ix3 b t d) k = ix2 k d := eq_ix2 _ _ _ rfl rfl
  rw [e1, e2, v77_read x0 x1 x2 x4 x5 b hR]

/-- The reference's first result. -/
theorem v93_read (b : Fin 8) (hR : ∀ e t, IsR (prj (rX x0 b) (rV x1) (rM x4) e t)) (t : Fin 2048) (d : Fin 1024) :
    val_main_v93 (F := Ideal) x0 x1 x2 x3 x4 x5 x6 (ix3 b t d) = out (rX x0 b) (rV x1) (rV x2) (rV x3) (rM x4) (rG x5) (rM x6) t d := by
  simp only [val_main_v93_apply, val_main_v92_apply, val_main_v91_apply, val_main_v90_apply, val_main_v89_apply, val_main_v88_apply, val_main_v87_apply,
    val_main_v86_apply, val_main_v85_apply, val_main_v84_apply, val_main_v83_apply, val_main_v82_apply, val_main_v81_apply,
    val_main_cst_12_apply, val_main_cst_13_apply, val_main_cst_14_apply, Ideal.mulf_def, Ideal.addf_def, Ideal.hostDivf_def, Ideal.hostUnary_rsqrt_def, Ideal.ofBits_def,
    Ideal.ofBits_zero_f32, zero_add]
  have e2 : ∀ j, idx_main_v82 (idx_main_v83 (idx_main_v89 (ix3 b t d))) j = ix3 b t j := fun j => eq_ix3 _ _ _ _ rfl rfl rfl
  have e3 : idx_main_v91 (idx_main_v92 (ix3 b t d)) = ix1 d := eq_ix1 _ _ rfl
  simp only [e2, e3, v80_read x0 x1 x2 x4 x5 x6 b hR]
  rfl

/-- The reference's second result: the last sixteen rows of the extended stream. -/
theorem v79_read (b : Fin 8) (r : Fin 16) (k : Fin 2048) :
    val_main_v79 (F := Ideal) x0 x1 x4 (ix3 b r k) = prj (rX x0 b) (rV x1) (rM x4) ⟨k.val, by omega⟩ ⟨2032 + r.val, by omega⟩ := by
  have hr := r.isLt
  rw [val_main_v79_apply]
  have e : idx_main_v79 (ix3 b r k) = ix3 b ⟨2047 + r.val, by omega⟩ k := eq_ix3 _ _ _ _ rfl rfl rfl
  rw [e, v17_read]
  unfold pre
  rw [dif_pos ⟨by dsimp only; omega, by dsimp only; omega⟩]
  congr 2
  dsimp only
  omega

end

end Cert.ReferenceIdeal.Pool
-- ==== Proof.Finite.lean ====
module

public import Idealize.ShloMosaic.Lib.ReduceAll
public import Idealize.ShloMosaic.Lib.KernelVsHost
public import Idealize.ShloMosaic.PureOps
public import proofs.«01_k».proof.Proof.Spec

/-! A printed test for finite entries, read back as real entries. -/

@[expose] public section

noncomputable section

namespace Cert.Spec

open Idealize.ShloMosaic

instance : Subsingleton (⟨0, ![]⟩ : Shape).Idx := ⟨fun a b => funext fun i => i.elim0⟩

/-- An entry whose magnitude is below the infinite pattern is a real number. -/
theorem real_of_lt {s : Shape} (x : FVec Ideal s .f32) (hb : (⟨0, ![]⟩ : Shape).BroadcastsInDim s (![] : Fin 0 → Fin s.rank)) (i : s.Idx)
    (e : cmpf (F := Ideal) .olt (Host.absf x) (broadcastInDim s ![] hb (constant (F := Ideal) ⟨0, ![]⟩ .f32 0x7F800000#32)) i = 1#1) : IsR (x i) := by
  have htop : Ideal.ofBits .f32 0x7F800000#32 = ⊤ := by simp [Ideal.ofBits, Ideal.ieee]
  change BitVec.ofBool (decide (max (x i) (-(x i)) < Ideal.ofBits .f32 0x7F800000#32)) = 1#1 at e
  rw [htop] at e
  refine IsR.of_abs ?_
  by_contra hn
  rw [decide_eq_false hn] at e
  exact absurd e (by decide)

/-- The test over a whole array, reduced by `and`. -/
theorem real_of_all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf (F := Ideal) .olt (Host.absf x) (broadcastInDim s ![] hb (constant (F := Ideal) ⟨0, ![]⟩ .f32 0x7F800000#32))) (constantI ⟨0, ![]⟩ 1 1#1) h hu j = 1#1)
    (i : s.Idx) : IsR (x i) :=
  real_of_lt x hb i (Host.reduce_andi_all _ _ h hu j e i)

end Cert.Spec
-- ==== Proof.PoolAlg.lean ====
module

public import proofs.«01_k».proof.Defs
public import proofs.«01_k».proof.Proof.PoolKer
public import proofs.«01_k».proof.Proof.PoolRef
public import proofs.«01_k».proof.Proof.Gen.ReferenceIdeal.Run
public import proofs.«01_k».proof.Proof.Finite
public import Idealize.ShloMosaic.Lib.Quiescent

/-! The pooling call's arrays and the reference's are equal. -/

@[expose] public section

set_option maxRecDepth 16384

noncomputable section

namespace Cert.PoolAlg

open Idealize.ShloMosaic Idealize.ShloMosaic.TcCoe Idealize.SL.Sem Cert.Spec

/-! ## The arguments the host reshapes before the call -/

section
open Cert.KernelIdeal Cert.KernelIdeal.Gen Cert.KernelIdeal.Pool

variable (m : (ℓ : Loc nD τ sig) → Buf (Elt Ideal) ℓ)

/-- The input gain as the call finds it. -/
theorem V_main_v0 (c : Dev nD) : V m c main_v0 = shapeCast S1x1024 (m ((c : Thread nD τ).loc main_arg1)) shapeCasts_S1024_S1x1024 := by
  show StableHlo.after hostOps0 _ (Proc.devRef .tc main_v0) = _
  after_results
  rfl
/-- The scale as the call finds it. -/
theorem V_main_v1 (c : Dev nD) : V m c main_v1 = shapeCast S1x2048 (m ((c : Thread nD τ).loc main_arg2)) shapeCasts_S2048_S1x2048 := by
  show StableHlo.after hostOps0 _ (Proc.devRef .tc main_v1) = _
  after_results
  rfl
/-- The last gain as the call finds it. -/
theorem V_main_v2 (c : Dev nD) : V m c main_v2 = shapeCast S1x1024 (m ((c : Thread nD τ).loc main_arg3)) shapeCasts_S1024_S1x1024 := by
  show StableHlo.after hostOps0 _ (Proc.devRef .tc main_v2) = _
  after_results
  rfl
/-- The grouped weight as the call finds it. -/
theorem V_main_v3 (c : Dev nD) : V m c main_v3 = shapeCast S2048x512 (m ((c : Thread nD τ).loc main_arg5)) shapeCasts_S4x512x512_S2048x512 := by
  show StableHlo.after hostOps0 _ (Proc.devRef .tc main_v3) = _
  after_results
  rfl

/-- A vector laid out as one row. -/
theorem row_read {n : ℕ} (v : (⟨1, ![n]⟩ : Shape).Idx → EReal) (h : (⟨1, ![n]⟩ : Shape).ShapeCasts ⟨2, ![1, n]⟩) (d : Fin n) :
    shapeCast ⟨2, ![1, n]⟩ v h (ix2 (0 : Fin 1) d) = v (ix1 d) :=
  shapeCast_apply v h _ _ (by
    rewrite [Shape.rowMajor_val_one, Shape.rowMajor_val_two]
    show d.val = 0 * n + d.val
    omega)

theorem aX_eq (c : Dev nD) (b : Fin 8) : aX m c b = Cert.ReferenceIdeal.Pool.rX (m ((c : Thread nD τ).loc main_arg0)) b := by
  unfold aX; rw [V_main_arg0]
theorem aG_eq (c : Dev nD) : aG m c = Cert.ReferenceIdeal.Pool.rV (m ((c : Thread nD τ).loc main_arg1)) := by
  funext d; unfold aG; rw [V_main_v0]; exact row_read _ _ d
theorem aS_eq (c : Dev nD) : aS m c = Cert.ReferenceIdeal.Pool.rV (m ((c : Thread nD τ).loc main_arg2)) := by
  funext d; unfold aS; rw [V_main_v1]; exact row_read _ _ d
theorem aF_eq (c : Dev nD) : aF m c = Cert.ReferenceIdeal.Pool.rV (m ((c : Thread nD τ).loc main_arg3)) := by
  funext d; unfold aF; rw [V_main_v2]; exact row_read _ _ d
theorem aW_eq (c : Dev nD) : aW m c = Cert.ReferenceIdeal.Pool.rM (m ((c : Thread nD τ).loc main_arg4)) := by
  unfold aW; rw [V_main_arg4]
theorem aWo_eq (c : Dev nD) : aWo m c = Cert.ReferenceIdeal.Pool.rM (m ((c : Thread nD τ).loc main_arg6)) := by
  unfold aWo; rw [V_main_arg6]
/-- The grouped weight, its groups laid below each other. -/
theorem grouped_read (v : (⟨3, ![4, 512, 512]⟩ : Shape).Idx → EReal) (h : (⟨3, ![4, 512, 512]⟩ : Shape).ShapeCasts ⟨2, ![2048, 512]⟩) (k : Fin 2048) (j : Fin 512) :
    shapeCast ⟨2, ![2048, 512]⟩ v h (ix2 k j) = v (ix3 ⟨k.val / 512, by omega⟩ ⟨k.val % 512, by omega⟩ j) :=
  shapeCast_apply v h _ _ (by
    rewrite [Shape.rowMajor_val_three, Shape.rowMajor_val_two]
    show (k.val / 512 * 512 + k.val % 512) * 512 + j.val = k.val * 512 + j.val
    omega)

theorem aWg_eq (c : Dev nD) : aWg m c = Cert.ReferenceIdeal.Pool.rG (m ((c : Thread nD τ).loc main_arg5)) := by
  funext k j; unfold aWg; rw [V_main_v3]; exact grouped_read _ _ k j

/-- What the precondition says: the activations, the input gain and the input weight are real numbers. -/
theorem real_of_pre [Cert.Pre_finite_pool.Facts] (hp : Cert.Pre_KernelIdeal_finite_pool m) (c : Dev nD) (b : Fin 8) (e : Fin 4096) (t : Fin 2048) :
    IsR (prj (aX m c b) (aG m c) (aW m c) e t) := by
  have h := congrFun (hp c) (Shape.Idx.first Cert.Pre_finite_pool.Facts.h_S_)
  dsimp only [Cert.Pre_finite_pool.fn] at h
  obtain ⟨h1, h3⟩ := IntOp.andi_eq_one.1 h
  obtain ⟨h1, h2⟩ := IntOp.andi_eq_one.1 h1
  rw [aX_eq, aG_eq, aW_eq]
  unfold prj
  exact IsR.proj (fun d => real_of_all _ _ _ _ _ h1 _) (fun d => real_of_all _ _ _ _ _ h2 _) (fun d => real_of_all _ _ _ _ _ h3 _)
end

/-- The frame of the pooling call under the precondition. -/
theorem frame_pre [Cert.Pre_finite_pool.Facts] : Cert.quiescent_KernelIdeal_pre_finite_pool (hKernelIdeal := Cert.KernelIdeal.Gen.facts) :=
  fun m g _ => Cert.KernelIdeal.Pool.frame m g

/-- The frame of the pooling call. -/
theorem frame_plain : Cert.quiescent_KernelIdeal (hKernelIdeal := Cert.KernelIdeal.Gen.facts) :=
  fun m g _ => Cert.KernelIdeal.Pool.frame m g

/-- The reference's frame. -/
theorem frame_ref : Cert.quiescent_ReferenceIdeal (hReferenceIdeal := Cert.ReferenceIdeal.Gen.facts) := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

/-- The reference's frame under the precondition. -/
theorem frame_ref_pre [Cert.Pre_finite_pool.Facts] : Cert.quiescent_ReferenceIdeal_pre_finite_pool (hReferenceIdeal := Cert.ReferenceIdeal.Gen.facts) :=
  fun m g _ => frame_ref m g trivial

/-- The pooling call's two arrays are the reference's. -/
theorem algebraic [Cert.Pre_finite_pool.Facts] :
    Cert.algebraic_KernelIdeal_ReferenceIdeal_pre_finite_pool (hKernelIdeal := Cert.KernelIdeal.Gen.facts) (hReferenceIdeal := Cert.ReferenceIdeal.Gen.facts) := by
  intro m g m' g' hp hag
  refine ⟨fun c => Cert.KernelIdeal.Pool.yAll m c, fun c => Cert.KernelIdeal.Pool.stAll m c, ?_, ?_⟩
  · refine (θ_run Cert.KernelIdeal.defs _ _).mono (fun r h c => ?_) (Cert.KernelIdeal.Pool.run_main m g)
    exact ⟨(Cert.KernelIdeal.Pool.results m h.1 c).1, (Cert.KernelIdeal.Pool.results m h.1 c).2, (Cert.KernelIdeal.Pool.unchanged m h).1 c⟩
  · refine (θ_run Cert.ReferenceIdeal.defs _ _).mono (fun r h c => ?_) (Cert.ReferenceIdeal.Value.run (F := Ideal) m' g')
    obtain ⟨a0, a1, a2, a3, a4, a5, a6⟩ := hag c
    refine ⟨(h c).1.trans ?_, (h c).2.1.trans ?_, (h c).2.2⟩
    · rw [Cert.ReferenceIdeal.Read.val_main_v93_eq, a0, a1, a2, a3, a4, a5, a6]
      funext i
      obtain ⟨b, t, d, rfl⟩ : ∃ (b : Fin 8) (t : Fin 2048) (d : Fin 1024), i = ix3 b t d :=
        ⟨i 0, i 1, i 2, Cert.ReferenceIdeal.Pool.eq_ix3 _ _ _ _ rfl rfl rfl⟩
      have hR := fun e t => real_of_pre m hp c b e t
      refine Eq.trans ?_ (Cert.KernelIdeal.Pool.yAll_read m c b hR t d).symm
      rw [aX_eq, aG_eq, aW_eq] at hR
      rw [aX_eq, aG_eq, aS_eq, aF_eq, aW_eq, aWg_eq, aWo_eq]
      exact Cert.ReferenceIdeal.Pool.v93_read _ _ _ _ _ _ _ b hR t d
    · refine (Cert.ReferenceIdeal.Read.val_main_v79_eq _ _ _).trans ?_
      rw [a0, a1, a4]
      funext i
      obtain ⟨b, t, d, rfl⟩ : ∃ (b : Fin 8) (t : Fin 16) (d : Fin 2048), i = ix3 b t d :=
        ⟨i 0, i 1, i 2, Cert.ReferenceIdeal.Pool.eq_ix3 _ _ _ _ rfl rfl rfl⟩
      refine Eq.trans ?_ (Cert.KernelIdeal.Pool.stAll_read m c b t d).symm
      rw [aX_eq, aG_eq, aW_eq]
      exact Cert.ReferenceIdeal.Pool.v79_read _ _ _ b t d

end Cert.PoolAlg
-- ==== Proof.SguDefs.lean ====
module

public import proofs.«01_k».proof.Proof.Gen.Kernel2Ideal.Frame
public import proofs.«01_k».proof.Proof.Gen.Kernel2Ideal.Skeleton
public import Idealize.ShloMosaic.Lib.Pipeline.Value
public import Idealize.ShloMosaic.Lib.VecWindow

@[expose] public section

set_option maxRecDepth 16384

noncomputable section

namespace Cert.Kernel2Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal.Gen

variable {F : FTy → Type} [FloatOps F]

local notation "𝕄" => MT nD τ sig Unit (Elt F) ℕ (UR sig nD τ) ℕ

/-- One group's mixing matrix, as the body loads it. -/
abbrev mix (w : Vec F S4x128x128 .f32) (g : Nat) (inb : ∀ a, (![g, 0, 0] : Fin 3 → Nat) a + S1x128x128.size a ≤ S4x128x128.size a) : Vec F S1x128x128 .f32 :=
  VecWindow.window w ![g, 0, 0] S1x128x128.size inb

/-- The gate's normalised half of a tile. -/
abbrev gateOf (x : Vec F S512x1024 .f32) (gain : Vec F S1x1024 .f32) (lng lnb : Vec F S1x2048 .f32) (w : Vec F S1024x6144 .bf16) :
    FVec F S512x2048 .f32 :=
  k0_pay11 (k0_pay9 x gain w) lng lnb

/-- The tile the body writes, from its activations, the row vectors, the mixing matrices, the spread bias and the two resident
    weights. -/
def yOf (x : Vec F S512x1024 .f32) (gain : Vec F S1x1024 .f32) (lng lnb : Vec F S1x2048 .f32) (ws : Vec F S4x128x128 .f32)
    (bsb : Vec F S128x2048 .f32) (w : Vec F S1024x6144 .bf16) (o : Vec F S2048x1024 .bf16) : Vec F S512x1024 .f32 :=
  k0_pay5 (k0_pay6 x) (k0_pay8 x gain w) (k0_pay10 x gain w)
    (k0_pay12 (mix ws 0 inb_S4x128x128_S1x128x128_0_0_0)) (k0_pay13 (mix ws 1 inb_S4x128x128_S1x128x128_1_0_0))
    (k0_pay15 k0_pay14 (mix ws 2 inb_S4x128x128_S1x128x128_2_0_0))
    (k0_pay16 (iota .tc S128x128 32 [0] iota_S128x128_d0_w32) (iota .tc S128x128 32 [1] iota_S128x128_d1_w32) (mix ws 3 inb_S4x128x128_S1x128x128_3_0_0))
    (k0_pay17 (gateOf x gain lng lnb w)) (k0_pay18 bsb)
    (k0_pay19 (gateOf x gain lng lnb w) (iota .tc S128x128 32 [0] iota_S128x128_d0_w32) (iota .tc S128x128 32 [1] iota_S128x128_d1_w32)
      (k0_pay12 (mix ws 0 inb_S4x128x128_S1x128x128_0_0_0)) (k0_pay13 (mix ws 1 inb_S4x128x128_S1x128x128_1_0_0)) k0_pay14
      (mix ws 2 inb_S4x128x128_S1x128x128_2_0_0) (mix ws 3 inb_S4x128x128_S1x128x128_3_0_0) bsb)
    (k0_pay20 (gateOf x gain lng lnb w) (iota .tc S128x128 32 [0] iota_S128x128_d0_w32) (iota .tc S128x128 32 [1] iota_S128x128_d1_w32)
      (k0_pay12 (mix ws 0 inb_S4x128x128_S1x128x128_0_0_0)) (k0_pay13 (mix ws 1 inb_S4x128x128_S1x128x128_1_0_0)) k0_pay14
      (mix ws 2 inb_S4x128x128_S1x128x128_2_0_0) (mix ws 3 inb_S4x128x128_S1x128x128_3_0_0) bsb)
    (k0_pay21 (gateOf x gain lng lnb w) (k0_pay12 (mix ws 0 inb_S4x128x128_S1x128x128_0_0_0)))
    (k0_pay22 (gateOf x gain lng lnb w) (k0_pay13 (mix ws 1 inb_S4x128x128_S1x128x128_1_0_0)))
    (k0_pay23 (gateOf x gain lng lnb w) k0_pay14 (mix ws 2 inb_S4x128x128_S1x128x128_2_0_0))
    (k0_pay24 (gateOf x gain lng lnb w) (iota .tc S128x128 32 [0] iota_S128x128_d0_w32) (iota .tc S128x128 32 [1] iota_S128x128_d1_w32)
      (mix ws 3 inb_S4x128x128_S1x128x128_3_0_0)) o

/-- A whole load of contents read as `x` gives `x`. -/
theorem ld1 (m : Memref sig Kind.tc Space.vmem S512x1024 .f32) (h : m.IsWhole) (x : Vec F S512x1024 .f32) :
    View.readAt (Elt F) m.view (Rect.unit (s := S512x1024) ![0, 0] ![512, 1024] inb_S512x1024_S512x1024_0_0).toLoadRect (h.unread x) = x :=
  (View.readAt_full _ _ _).trans (h.read_unread _)

/-- A whole load of contents read as `x` gives `x`. -/
theorem ld2 (m : Memref sig Kind.tc Space.vmem S1x1024 .f32) (h : m.IsWhole) (x : Vec F S1x1024 .f32) :
    View.readAt (Elt F) m.view (Rect.unit (s := S1x1024) ![0, 0] ![1, 1024] inb_S1x1024_S1x1024_0_0).toLoadRect (h.unread x) = x :=
  (View.readAt_full _ _ _).trans (h.read_unread _)

/-- A whole load of contents read as `x` gives `x`. -/
theorem ld3 (m : Memref sig Kind.tc Space.vmem S1x2048 .f32) (h : m.IsWhole) (x : Vec F S1x2048 .f32) :
    View.readAt (Elt F) m.view (Rect.unit (s := S1x2048) ![0, 0] ![1, 2048] inb_S1x2048_S1x2048_0_0).toLoadRect (h.unread x) = x :=
  (View.readAt_full _ _ _).trans (h.read_unread _)

/-- A whole load of contents read as `x` gives `x`. -/
theorem ld6 (m : Memref sig Kind.tc Space.vmem S128x2048 .f32) (h : m.IsWhole) (x : Vec F S128x2048 .f32) :
    View.readAt (Elt F) m.view (Rect.unit (s := S128x2048) ![0, 0] ![128, 2048] inb_S128x2048_S128x2048_0_0).toLoadRect (h.unread x) = x :=
  (View.readAt_full _ _ _).trans (h.read_unread _)

/-- A whole load of contents read as `x` gives `x`. -/
theorem ld7 (m : Memref sig Kind.tc Space.vmem S128x6144 .f32) (h : m.IsWhole) (x : Vec F S128x6144 .f32) :
    View.readAt (Elt F) m.view (Rect.unit (s := S128x6144) ![0, 0] ![128, 6144] inb_S128x6144_S128x6144_0_0).toLoadRect (h.unread x) = x :=
  (View.readAt_full _ _ _).trans (h.read_unread _)

/-- A whole load of contents read as `x` gives `x`. -/
theorem ld8 (m : Memref sig Kind.tc Space.vmem S256x1024 .f32) (h : m.IsWhole) (x : Vec F S256x1024 .f32) :
    View.readAt (Elt F) m.view (Rect.unit (s := S256x1024) ![0, 0] ![256, 1024] inb_S256x1024_S256x1024_0_0).toLoadRect (h.unread x) = x :=
  (View.readAt_full _ _ _).trans (h.read_unread _)

/-- A whole load of contents read as `x` gives `x`. -/
theorem ld12 (m : Memref sig Kind.tc Space.vmem S1024x6144 .bf16) (h : m.IsWhole) (x : Vec F S1024x6144 .bf16) :
    View.readAt (Elt F) m.view (Rect.unit (s := S1024x6144) ![0, 0] ![1024, 6144] inb_S1024x6144_S1024x6144_0_0).toLoadRect (h.unread x) = x :=
  (View.readAt_full _ _ _).trans (h.read_unread _)

/-- A whole load of contents read as `x` gives `x`. -/
theorem ld13 (m : Memref sig Kind.tc Space.vmem S2048x1024 .bf16) (h : m.IsWhole) (x : Vec F S2048x1024 .bf16) :
    View.readAt (Elt F) m.view (Rect.unit (s := S2048x1024) ![0, 0] ![2048, 1024] inb_S2048x1024_S2048x1024_0_0).toLoadRect (h.unread x) = x :=
  (View.readAt_full _ _ _).trans (h.read_unread _)

/-- A load of one group's mixing matrix. -/
theorem ldm0 (m : Memref sig Kind.tc Space.vmem S4x128x128 .f32) (h : m.IsWhole) (x : Vec F S4x128x128 .f32) :
    View.readAt (Elt F) m.view (Rect.unit (s := S4x128x128) ![0, 0, 0] ![1, 128, 128] inb_S4x128x128_S1x128x128_0_0_0).toLoadRect (h.unread x) = mix x 0 inb_S4x128x128_S1x128x128_0_0_0 :=
  (View.readAt_unit _ _ _ rfl _).trans (congrArg (fun z => mix z 0 inb_S4x128x128_S1x128x128_0_0_0) (h.read_unread _))

/-- A load of one group's mixing matrix. -/
theorem ldm1 (m : Memref sig Kind.tc Space.vmem S4x128x128 .f32) (h : m.IsWhole) (x : Vec F S4x128x128 .f32) :
    View.readAt (Elt F) m.view (Rect.unit (s := S4x128x128) ![1, 0, 0] ![1, 128, 128] inb_S4x128x128_S1x128x128_1_0_0).toLoadRect (h.unread x) = mix x 1 inb_S4x128x128_S1x128x128_1_0_0 :=
  (View.readAt_unit _ _ _ rfl _).trans (congrArg (fun z => mix z 1 inb_S4x128x128_S1x128x128_1_0_0) (h.read_unread _))

/-- A load of one group's mixing matrix. -/
theorem ldm2 (m : Memref sig Kind.tc Space.vmem S4x128x128 .f32) (h : m.IsWhole) (x : Vec F S4x128x128 .f32) :
    View.readAt (Elt F) m.view (Rect.unit (s := S4x128x128) ![2, 0, 0] ![1, 128, 128] inb_S4x128x128_S1x128x128_2_0_0).toLoadRect (h.unread x) = mix x 2 inb_S4x128x128_S1x128x128_2_0_0 :=
  (View.readAt_unit _ _ _ rfl _).trans (congrArg (fun z => mix z 2 inb_S4x128x128_S1x128x128_2_0_0) (h.read_unread _))

/-- A load of one group's mixing matrix. -/
theorem ldm3 (m : Memref sig Kind.tc Space.vmem S4x128x128 .f32) (h : m.IsWhole) (x : Vec F S4x128x128 .f32) :
    View.readAt (Elt F) m.view (Rect.unit (s := S4x128x128) ![3, 0, 0] ![1, 128, 128] inb_S4x128x128_S1x128x128_3_0_0).toLoadRect (h.unread x) = mix x 3 inb_S4x128x128_S1x128x128_3_0_0 :=
  (View.readAt_unit _ _ _ rfl _).trans (congrArg (fun z => mix z 3 inb_S4x128x128_S1x128x128_3_0_0) (h.read_unread _))

end Cert.Kernel2Ideal.Sgu

end
-- ==== Proof.SguPrep.lean ====
module

public import proofs.«01_k».proof.Proof.Gen.Kernel2Ideal.Frame
public import proofs.«01_k».proof.Proof.Gen.Kernel2Ideal.Skeleton
public import Idealize.ShloMosaic.Lib.Pipeline.Value
public import Idealize.ShloMosaic.Lib.VecWindow
public import proofs.«01_k».proof.Proof.SguDefs

@[expose] public section

set_option maxRecDepth 16384

noncomputable section

namespace Cert.Kernel2Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal.Gen

variable {F : FTy → Type} [FloatOps F]

local notation "𝕄" => MT nD τ sig Unit (Elt F) ℕ (UR sig nD τ) ℕ

set_option maxHeartbeats 8000000 in
/-- A weight-preparation point: each resident weight receives the rounded chunk in its rows, its copy block the same chunk; everything else stays. -/
theorem run_prep (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S4x128x128 .f32) (harg5 : arg5.IsWhole) (arg6 : Memref sig .tc .vmem S128x2048 .f32) (harg6 : arg6.IsWhole) (arg7 : Memref sig .tc .vmem S128x6144 .f32) (harg7 : arg7.IsWhole) (arg8 : Memref sig .tc .vmem S256x1024 .f32) (harg8 : arg8.IsWhole) (arg9 : Memref sig .tc .vmem S512x1024 .f32) (harg9 : arg9.IsWhole) (arg10 : Memref sig .tc .vmem S128x6144 .bf16) (harg10 : arg10.IsWhole) (arg11 : Memref sig .tc .vmem S256x1024 .bf16) (harg11 : arg11.IsWhole) (arg12 : Memref sig .tc .vmem S1024x6144 .bf16) (harg12 : arg12.IsWhole) (arg13 : Memref sig .tc .vmem S2048x1024 .bf16) (harg13 : arg13.IsWhole)
    (hc0 : k0_cond1 i = 1#1) (hc1 : ¬ k0_cond2 i = 1#1) (x1 : Vec F S512x1024 .f32) (x2 : Vec F S1x1024 .f32) (x3 : Vec F S1x2048 .f32) (x4 : Vec F S1x2048 .f32) (x5 : Vec F S4x128x128 .f32) (x6 : Vec F S128x2048 .f32) (x7 : Vec F S128x6144 .f32) (x8 : Vec F S256x1024 .f32) (x9 : Vec F S512x1024 .f32) (x10 : Vec F S128x6144 .bf16) (x11 : Vec F S256x1024 .bf16) (x12 : Vec F S1024x6144 .bf16) (x13 : Vec F S2048x1024 .bf16) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay1 x7) ∗ owns (c : Thread nD τ) arg11 fullShare (k0_pay3 x8) ∗ owns (c : Thread nD τ) arg12 fullShare (VecWindow.put x12 (k0_off1 i) S128x6144.size (k0_pay2 x7)) ∗ owns (c : Thread nD τ) arg13 fullShare (VecWindow.put x13 (k0_off2 i) S256x1024.size (k0_pay4 x8))) -∗ K ⟨⟩))
      ⊢ wp frame (wpE (defs₀ (F := F)) Variants.none c none) E (cc0_sgu_prompt i arg1 harg1 arg2 harg2 arg3 harg3 arg4 harg4 arg5 harg5 arg6 harg6 arg7 harg7 arg8 harg8 arg9 harg9 arg10 harg10 arg11 harg11 arg12 harg12 arg13 harg13) K := by
  intro E K
  simp only [cc0_sgu_prompt_eq_skeleton]; unfold cc0_sgu_prompt_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  iapply Hk
  isplitl [H1]
  · iexists _; isplitr; swap; iexact H1
    ipureintro; exact harg1.read_unread _
  isplitl [H2]
  · iexists _; isplitr; swap; iexact H2
    ipureintro; exact harg2.read_unread _
  isplitl [H3]
  · iexists _; isplitr; swap; iexact H3
    ipureintro; exact harg3.read_unread _
  isplitl [H4]
  · iexists _; isplitr; swap; iexact H4
    ipureintro; exact harg4.read_unread _
  isplitl [H5]
  · iexists _; isplitr; swap; iexact H5
    ipureintro; exact harg5.read_unread _
  isplitl [H6]
  · iexists _; isplitr; swap; iexact H6
    ipureintro; exact harg6.read_unread _
  isplitl [H7]
  · iexists _; isplitr; swap; iexact H7
    ipureintro; exact harg7.read_unread _
  isplitl [H8]
  · iexists _; isplitr; swap; iexact H8
    ipureintro; exact harg8.read_unread _
  isplitl [H9]
  · iexists _; isplitr; swap; iexact H9
    ipureintro; exact harg9.read_unread _
  isplitl [H10]
  · iexists _; isplitr; swap; iexact H10
    ipureintro; refine (View.read_writes_full _ _ _ _ _).trans ?_; simp only [ld1, ld2, ld3, ld6, ld7, ld8, ld12, ld13, ldm0, ldm1, ldm2, ldm3]
  isplitl [H11]
  · iexists _; isplitr; swap; iexact H11
    ipureintro; refine (View.read_writes_full _ _ _ _ _).trans ?_; simp only [ld1, ld2, ld3, ld6, ld7, ld8, ld12, ld13, ldm0, ldm1, ldm2, ldm3]
  isplitl [H12]
  · iexists _; isplitr; swap; iexact H12
    ipureintro; rw [View.read_writes_cons_put _ _ _ _ _ rfl, View.writes_nil, harg12.read_unread]; simp only [ld7, ld8]
  iexists _; isplitr; swap; iexact H13
  ipureintro; rw [View.read_writes_cons_put _ _ _ _ _ rfl, View.writes_nil, harg13.read_unread]; simp only [ld7, ld8]

end Cert.Kernel2Ideal.Sgu

end
-- ==== Proof.SguTile.lean ====
module

public import proofs.«01_k».proof.Proof.Gen.Kernel2Ideal.Frame
public import proofs.«01_k».proof.Proof.Gen.Kernel2Ideal.Skeleton
public import Idealize.ShloMosaic.Lib.Pipeline.Value
public import Idealize.ShloMosaic.Lib.VecWindow
public import proofs.«01_k».proof.Proof.SguDefs

@[expose] public section

set_option maxRecDepth 16384

noncomputable section

namespace Cert.Kernel2Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal.Gen

variable {F : FTy → Type} [FloatOps F]

local notation "𝕄" => MT nD τ sig Unit (Elt F) ℕ (UR sig nD τ) ℕ

set_option maxHeartbeats 8000000 in
/-- A tile: its block of the result is written from the resident weights. -/
theorem run_tile (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S4x128x128 .f32) (harg5 : arg5.IsWhole) (arg6 : Memref sig .tc .vmem S128x2048 .f32) (harg6 : arg6.IsWhole) (arg7 : Memref sig .tc .vmem S128x6144 .f32) (harg7 : arg7.IsWhole) (arg8 : Memref sig .tc .vmem S256x1024 .f32) (harg8 : arg8.IsWhole) (arg9 : Memref sig .tc .vmem S512x1024 .f32) (harg9 : arg9.IsWhole) (arg10 : Memref sig .tc .vmem S128x6144 .bf16) (harg10 : arg10.IsWhole) (arg11 : Memref sig .tc .vmem S256x1024 .bf16) (harg11 : arg11.IsWhole) (arg12 : Memref sig .tc .vmem S1024x6144 .bf16) (harg12 : arg12.IsWhole) (arg13 : Memref sig .tc .vmem S2048x1024 .bf16) (harg13 : arg13.IsWhole)
    (hc0 : ¬ k0_cond1 i = 1#1) (hc1 : k0_cond2 i = 1#1) (x1 : Vec F S512x1024 .f32) (x2 : Vec F S1x1024 .f32) (x3 : Vec F S1x2048 .f32) (x4 : Vec F S1x2048 .f32) (x5 : Vec F S4x128x128 .f32) (x6 : Vec F S128x2048 .f32) (x7 : Vec F S128x6144 .f32) (x8 : Vec F S256x1024 .f32) (x9 : Vec F S512x1024 .f32) (x10 : Vec F S128x6144 .bf16) (x11 : Vec F S256x1024 .bf16) (x12 : Vec F S1024x6144 .bf16) (x13 : Vec F S2048x1024 .bf16) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (yOf x1 x2 x3 x4 x5 x6 x12 x13) ∗ owns (c : Thread nD τ) arg10 fullShare x10 ∗ owns (c : Thread nD τ) arg11 fullShare x11 ∗ owns (c : Thread nD τ) arg12 fullShare x12 ∗ owns (c : Thread nD τ) arg13 fullShare x13) -∗ K ⟨⟩))
      ⊢ wp frame (wpE (defs₀ (F := F)) Variants.none c none) E (cc0_sgu_prompt i arg1 harg1 arg2 harg2 arg3 harg3 arg4 harg4 arg5 harg5 arg6 harg6 arg7 harg7 arg8 harg8 arg9 harg9 arg10 harg10 arg11 harg11 arg12 harg12 arg13 harg13) K := by
  intro E K
  simp only [cc0_sgu_prompt_eq_skeleton]; unfold cc0_sgu_prompt_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  iapply Hk
  isplitl [H1]
  · iexists _; isplitr; swap; iexact H1
    ipureintro; exact harg1.read_unread _
  isplitl [H2]
  · iexists _; isplitr; swap; iexact H2
    ipureintro; exact harg2.read_unread _
  isplitl [H3]
  · iexists _; isplitr; swap; iexact H3
    ipureintro; exact harg3.read_unread _
  isplitl [H4]
  · iexists _; isplitr; swap; iexact H4
    ipureintro; exact harg4.read_unread _
  isplitl [H5]
  · iexists _; isplitr; swap; iexact H5
    ipureintro; exact harg5.read_unread _
  isplitl [H6]
  · iexists _; isplitr; swap; iexact H6
    ipureintro; exact harg6.read_unread _
  isplitl [H7]
  · iexists _; isplitr; swap; iexact H7
    ipureintro; exact harg7.read_unread _
  isplitl [H8]
  · iexists _; isplitr; swap; iexact H8
    ipureintro; exact harg8.read_unread _
  isplitl [H9]
  · iexists _; isplitr; swap; iexact H9
    ipureintro; refine (View.read_writes_full _ _ _ _ _).trans ?_; unfold yOf; simp only [ld1, ld2, ld3, ld6, ld7, ld8, ld12, ld13, ldm0, ldm1, ldm2, ldm3]; rfl
  isplitl [H10]
  · iexists _; isplitr; swap; iexact H10
    ipureintro; exact harg10.read_unread _
  isplitl [H11]
  · iexists _; isplitr; swap; iexact H11
    ipureintro; exact harg11.read_unread _
  isplitl [H12]
  · iexists _; isplitr; swap; iexact H12
    ipureintro; exact harg12.read_unread _
  iexists _; isplitr; swap; iexact H13
  ipureintro; exact harg13.read_unread _

end Cert.Kernel2Ideal.Sgu

end
-- ==== Proof.SguRun.lean ====
module

public import proofs.«01_k».proof.Proof.Gen.Kernel2Ideal.Frame
public import proofs.«01_k».proof.Proof.Gen.Kernel2Ideal.Skeleton
public import Idealize.ShloMosaic.Lib.Pipeline.Value
public import Idealize.ShloMosaic.Lib.VecWindow
public import proofs.«01_k».proof.Proof.SguPrep
public import proofs.«01_k».proof.Proof.SguTile

@[expose] public section

set_option maxRecDepth 16384

noncomputable section

namespace Cert.Kernel2Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point finds -/

/-- Input window 0's block at point `t`. -/
def b1 (c : Dev nD) (t : Fin cfg0.N) : Vec F S512x1024 .f32 := iblk m c 0 t

/-- Input window 1's block at point `t`. -/
def b2 (c : Dev nD) (t : Fin cfg0.N) : Vec F S1x1024 .f32 := iblk m c 1 t

/-- Input window 2's block at point `t`. -/
def b3 (c : Dev nD) (t : Fin cfg0.N) : Vec F S1x2048 .f32 := iblk m c 2 t

/-- Input window 3's block at point `t`. -/
def b4 (c : Dev nD) (t : Fin cfg0.N) : Vec F S1x2048 .f32 := iblk m c 3 t

/-- Input window 4's block at point `t`. -/
def b5 (c : Dev nD) (t : Fin cfg0.N) : Vec F S4x128x128 .f32 := iblk m c 4 t

/-- Input window 5's block at point `t`. -/
def b6 (c : Dev nD) (t : Fin cfg0.N) : Vec F S128x2048 .f32 := iblk m c 5 t

/-- Input window 6's block at point `t`. -/
def b7 (c : Dev nD) (t : Fin cfg0.N) : Vec F S128x6144 .f32 := iblk m c 6 t

/-- Input window 7's block at point `t`. -/
def b8 (c : Dev nD) (t : Fin cfg0.N) : Vec F S256x1024 .f32 := iblk m c 7 t

/-- The point of number `n`, for `n` below the number of points (the first point for others). -/
def pt (n : ℕ) : Fin cfg0.N := if h : n < cfg0.N then ⟨n, h⟩ else ⟨0, by rw [show cfg0.N = 40 from N_0]; omega⟩

theorem pt_val (t : Fin cfg0.N) : pt t.val = t := by unfold pt; rw [dif_pos t.isLt]

/-- The resident input weight once it is complete: chunk `r / 128` rounded. -/
def wn (c : Dev nD) : Vec F S1024x6144 .bf16 := fun j =>
  k0_pay2 (b7 m c (pt ((j 0).val / 128))) (fun a => match a with
    | ⟨0, _⟩ => ⟨(j 0).val % 128, Nat.mod_lt _ (by decide)⟩
    | ⟨1, _⟩ => j 1)

/-- The resident output weight once it is complete. -/
def wo (c : Dev nD) : Vec F S2048x1024 .bf16 := fun j =>
  k0_pay4 (b8 m c (pt ((j 0).val / 256))) (fun a => match a with
    | ⟨0, _⟩ => ⟨(j 0).val % 256, Nat.mod_lt _ (by decide)⟩
    | ⟨1, _⟩ => j 1)

/-- The tile point `t` writes. -/
def tileY (c : Dev nD) (t : Fin cfg0.N) : Vec F S512x1024 .f32 :=
  yOf (b1 m c t) (b2 m c t) (b3 m c t) (b4 m c t) (b5 m c t) (b6 m c t) (wn m c) (wo m c)

/-! ## The points' cases -/

theorem coord_val : ∀ t : Fin cfg0.N, ((grid0.coords t) 0).val = t.val := (by decide +kernel : ∀ t : Fin grid0.N, ((grid0.coords t) 0).val = t.val)
theorem cond1_iff : ∀ t : Fin cfg0.N, k0_cond1 (grid0.coords t) = 1#1 ↔ t.val < 8 := (by decide +kernel : ∀ t : Fin grid0.N, k0_cond1 (grid0.coords t) = 1#1 ↔ t.val < 8)
theorem cond2_iff : ∀ t : Fin cfg0.N, k0_cond2 (grid0.coords t) = 1#1 ↔ 8 ≤ t.val := (by decide +kernel : ∀ t : Fin grid0.N, k0_cond2 (grid0.coords t) = 1#1 ↔ 8 ≤ t.val)

/-! ## The invariant over the scratch -/

abbrev scM0_0 : Memref sig .tc .vmem S1024x6144 .bf16 := Memref.whole cc0_scratch0
abbrev scM0_1 : Memref sig .tc .vmem S2048x1024 .bf16 := Memref.whole cc0_scratch1

/-- The class invariant with the scratch as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the scratch holds before point `n`: the rows of the weights the points so far have prepared. -/
structure Inv (c : Dev nD) (n : ℕ) (d0 : Vec F S1024x6144 .bf16) (d1 : Vec F S2048x1024 .bf16) : Prop where
  h0 : ∀ j, (j 0).val < 128 * n → d0 j = wn m c j
  h1 : ∀ j, (j 0).val < 256 * n → d1 j = wo m c j

theorem Inv.zero (c : Dev nD) (d0 : Vec F S1024x6144 .bf16) (d1 : Vec F S2048x1024 .bf16) : Inv m c 0 d0 d1 :=
  ⟨fun _ h => absurd h (by omega), fun _ h => absurd h (by omega)⟩

/-- From the first tile on the weights are complete. -/
theorem Inv.full {c : Dev nD} {n : ℕ} {d0 : Vec F S1024x6144 .bf16} {d1 : Vec F S2048x1024 .bf16}
    (h : Inv m c n d0 d1) (hn : 8 ≤ n) : d0 = wn m c ∧ d1 = wo m c :=
  ⟨funext fun j => h.h0 j (by have : (j 0).val < 1024 := (j 0).isLt; omega), funext fun j => h.h1 j (by have : (j 0).val < 2048 := (j 0).isLt; omega)⟩

/-- One preparation point completes the next 128 rows of this weight. -/
theorem put_wn (c : Dev nD) (t : Fin cfg0.N) (ht : t.val < 8) (d : Vec F S1024x6144 .bf16) (h : ∀ j, (j 0).val < 128 * t.val → d j = wn m c j) :
    ∀ j, (j 0).val < 128 * (t.val + 1) → VecWindow.put d (k0_off1 (grid0.coords t)) S128x6144.size (k0_pay2 (b7 m c t)) j = wn m c j := by
  intro j hj
  have hv := coord_val t
  have hoff : k0_off1 (grid0.coords t) = ![128 * t.val, 0] := by rw [k0_off1_eq, hv]
  rw [hoff]
  unfold VecWindow.put
  have hj0 : (j 0).val < 1024 := (j 0).isLt
  have hj1 : (j 1).val < 6144 := (j 1).isLt
  by_cases hin : 128 * t.val ≤ (j 0).val
  · have hw : ∀ a, (![128 * t.val, 0] : Fin 2 → ℕ) a ≤ (j a).val ∧ (j a).val < (![128 * t.val, 0] : Fin 2 → ℕ) a + S128x6144.size a := by
      intro a
      match a with
      | ⟨0, _⟩ => exact ⟨hin, by show (j 0).val < 128 * t.val + 128; omega⟩
      | ⟨1, _⟩ => exact ⟨Nat.zero_le _, by show (j 1).val < 0 + 6144; omega⟩
    rw [dif_pos hw]
    unfold wn
    have hd : (j 0).val / 128 = t.val := by omega
    have hpt : pt ((j 0).val / 128) = t := by rw [hd]; exact pt_val t
    rw [hpt]
    refine congrArg (k0_pay2 (b7 m c t)) (funext fun a => Fin.ext ?_)
    match a with
    | ⟨0, _⟩ => show (j 0).val - 128 * t.val = (j 0).val % 128; omega
    | ⟨1, _⟩ => show (j 1).val - 0 = (j 1).val; omega
  · rw [dif_neg (fun hw => hin (hw 0).1)]
    exact h j (by omega)

/-- One preparation point completes the next 256 rows of this weight. -/
theorem put_wo (c : Dev nD) (t : Fin cfg0.N) (ht : t.val < 8) (d : Vec F S2048x1024 .bf16) (h : ∀ j, (j 0).val < 256 * t.val → d j = wo m c j) :
    ∀ j, (j 0).val < 256 * (t.val + 1) → VecWindow.put d (k0_off2 (grid0.coords t)) S256x1024.size (k0_pay4 (b8 m c t)) j = wo m c j := by
  intro j hj
  have hv := coord_val t
  have hoff : k0_off2 (grid0.coords t) = ![256 * t.val, 0] := by rw [k0_off2_eq, hv]
  rw [hoff]
  unfold VecWindow.put
  have hj0 : (j 0).val < 2048 := (j 0).isLt
  have hj1 : (j 1).val < 1024 := (j 1).isLt
  by_cases hin : 256 * t.val ≤ (j 0).val
  · have hw : ∀ a, (![256 * t.val, 0] : Fin 2 → ℕ) a ≤ (j a).val ∧ (j a).val < (![256 * t.val, 0] : Fin 2 → ℕ) a + S256x1024.size a := by
      intro a
      match a with
      | ⟨0, _⟩ => exact ⟨hin, by show (j 0).val < 256 * t.val + 256; omega⟩
      | ⟨1, _⟩ => exact ⟨Nat.zero_le _, by show (j 1).val < 0 + 1024; omega⟩
    rw [dif_pos hw]
    unfold wo
    have hd : (j 0).val / 256 = t.val := by omega
    have hpt : pt ((j 0).val / 256) = t := by rw [hd]; exact pt_val t
    rw [hpt]
    refine congrArg (k0_pay4 (b8 m c t)) (funext fun a => Fin.ext ?_)
    match a with
    | ⟨0, _⟩ => show (j 0).val - 256 * t.val = (j 0).val % 256; omega
    | ⟨1, _⟩ => show (j 1).val - 0 = (j 1).val; omega
  · rw [dif_neg (fun hw => hin (hw 0).1)]
    exact h j (by omega)

/-- The tracking invariant before point `n`. -/
def track (c : Dev nD) (n : ℕ) : sProp 𝕄 :=
  iprop((∃ d0 d1, ⌜Inv m c n d0 d1⌝ ∗ owns (c : Thread nD τ) scM0_0 fullShare d0 ∗ owns (c : Thread nD τ) scM0_1 fullShare d1) ∗ (∃ r, prngReg c r))

theorem track_in (c : Dev nD) : (Pipeline.ΦA spec0 c : sProp 𝕄) ⊢ track m c 0 := by
  rw [PhiA0_eq]; unfold track
  iintro ⟨⟨⟨%d0, H0⟩, ⟨%d1, H1⟩⟩, Hg⟩
  isplitl [H0 H1]
  · iexists d0; iexists d1
    isplitr
    · ipureintro; exact Inv.zero m c d0 d1
    isplitl [H0]; · iexact H0
    iexact H1
  iexact Hg

theorem track_out (c : Dev nD) (n : ℕ) : track m c n ⊢ (Pipeline.ΦA spec0 c : sProp 𝕄) := by
  rw [PhiA0_eq]; unfold track
  iintro ⟨⟨%d0, %d1, -, H0, H1⟩, Hg⟩
  isplitl [H0 H1]
  · isplitl [H0]; · iexists _; iexact H0
    iexists _; iexact H1
  iexact Hg

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)

abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)

abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)

abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)

abbrev ms0_4 (t : Fin cfg0.N) : Memref sig .tc .vmem S4x128x128 .f32 := win0_4.stage (cfg0.slots t 4)
abbrev hs0_4 (t : Fin cfg0.N) : (ms0_4 t).IsWhole := hstage0_4 ((cfg0.slots t 4).cast nbuf0_4)

abbrev ms0_5 (t : Fin cfg0.N) : Memref sig .tc .vmem S128x2048 .f32 := win0_5.stage (cfg0.slots t 5)
abbrev hs0_5 (t : Fin cfg0.N) : (ms0_5 t).IsWhole := hstage0_5 ((cfg0.slots t 5).cast nbuf0_5)

abbrev ms0_6 (t : Fin cfg0.N) : Memref sig .tc .vmem S128x6144 .f32 := win0_6.stage (cfg0.slots t 6)
abbrev hs0_6 (t : Fin cfg0.N) : (ms0_6 t).IsWhole := hstage0_6 ((cfg0.slots t 6).cast nbuf0_6)

abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)

abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)

abbrev ms0_9 (t : Fin cfg0.N) : Memref sig .tc .vmem S128x6144 .bf16 := win0_9.stage (cfg0.slots t 9)
abbrev hs0_9 (t : Fin cfg0.N) : (ms0_9 t).IsWhole := hstage0_9 ((cfg0.slots t 9).cast nbuf0_9)

abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)

set_option maxHeartbeats 1600000 in
/-- A preparation point. -/
theorem sound_prep (c : Dev nD) (t : Fin cfg0.N) (ht : t.val < 8) (P : sProp 𝕄) (x9 : Vec F S512x1024 .f32) (x10 : Vec F S128x6144 .bf16) (x11 : Vec F S256x1024 .bf16) :
    iprop(track m c t.val ∗ P ∗ owns (c : Thread nD τ) (ms0_0 t) fullShare (b1 m c t) ∗ owns (c : Thread nD τ) (ms0_1 t) fullShare (b2 m c t) ∗ owns (c : Thread nD τ) (ms0_2 t) fullShare (b3 m c t) ∗ owns (c : Thread nD τ) (ms0_3 t) fullShare (b4 m c t) ∗ owns (c : Thread nD τ) (ms0_4 t) fullShare (b5 m c t) ∗ owns (c : Thread nD τ) (ms0_5 t) fullShare (b6 m c t) ∗ owns (c : Thread nD τ) (ms0_6 t) fullShare (b7 m c t) ∗ owns (c : Thread nD τ) (ms0_7 t) fullShare (b8 m c t) ∗ owns (c : Thread nD τ) (ms0_8 t) fullShare x9 ∗ owns (c : Thread nD τ) (ms0_9 t) fullShare x10 ∗ owns (c : Thread nD τ) (ms0_10 t) fullShare x11)
      ⊢ wp frame (wpE (defs₀ (F := F)) Variants.none c none) Set.univ (bodyAt0 t) (fun _ => iprop(track m c (t.val + 1) ∗ P ∗ (∃ X, ⌜X = b1 m c t⌝ ∗ owns (c : Thread nD τ) (ms0_0 t) fullShare X) ∗ (∃ X, ⌜X = b2 m c t⌝ ∗ owns (c : Thread nD τ) (ms0_1 t) fullShare X) ∗ (∃ X, ⌜X = b3 m c t⌝ ∗ owns (c : Thread nD τ) (ms0_2 t) fullShare X) ∗ (∃ X, ⌜X = b4 m c t⌝ ∗ owns (c : Thread nD τ) (ms0_3 t) fullShare X) ∗ (∃ X, ⌜X = b5 m c t⌝ ∗ owns (c : Thread nD τ) (ms0_4 t) fullShare X) ∗ (∃ X, ⌜X = b6 m c t⌝ ∗ owns (c : Thread nD τ) (ms0_5 t) fullShare X) ∗ (∃ X, ⌜X = b7 m c t⌝ ∗ owns (c : Thread nD τ) (ms0_6 t) fullShare X) ∗ (∃ X, ⌜X = b8 m c t⌝ ∗ owns (c : Thread nD τ) (ms0_7 t) fullShare X) ∗ (∃ X, ⌜8 ≤ t.val → X = tileY m c t⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X))) := by
  unfold track bodyAt0
  iintro ⟨⟨⟨%d0, %d1, %hI, S0, S1⟩, Hg⟩, HP, H1, H2, H3, H4, H5, H6, H7, H8, H9, H10, H11⟩
  skip
  iapply (run_prep c (grid0.coords t) _ _ _ _ _ _ _ _ _ _ _ _ _ _ _ _ _ _ _ _ _ _ _ _ _ _ ((cond1_iff t).mpr ht) (fun h => absurd ((cond2_iff t).mp h) (by omega)) (b1 m c t) (b2 m c t) (b3 m c t) (b4 m c t) (b5 m c t) (b6 m c t) (b7 m c t) (b8 m c t) x9 x10 x11 d0 d1 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  iintro ⟨H1, H2, H3, H4, H5, H6, H7, H8, H9, H10, H11, S0, S1⟩
  isplitl [S0 S1 Hg]
  · isplitl [S0 S1]
    · iexists _; iexists _
      isplitr; swap
      · isplitl [S0]; · iexact S0
        iexact S1
      ipureintro
      exact ⟨put_wn m c t ht d0 hI.h0, put_wo m c t ht d1 hI.h1⟩
    iexact Hg
  isplitl [HP]; · iexact HP
  isplitl [H1]
  · iexists _; isplitr; swap; iexact H1
    ipureintro; exact rfl
  isplitl [H2]
  · iexists _; isplitr; swap; iexact H2
    ipureintro; exact rfl
  isplitl [H3]
  · iexists _; isplitr; swap; iexact H3
    ipureintro; exact rfl
  isplitl [H4]
  · iexists _; isplitr; swap; iexact H4
    ipureintro; exact rfl
  isplitl [H5]
  · iexists _; isplitr; swap; iexact H5
    ipureintro; exact rfl
  isplitl [H6]
  · iexists _; isplitr; swap; iexact H6
    ipureintro; exact rfl
  isplitl [H7]
  · iexists _; isplitr; swap; iexact H7
    ipureintro; exact rfl
  isplitl [H8]
  · iexists _; isplitr; swap; iexact H8
    ipureintro; exact rfl
  isplitl [H9]
  · iexists _; isplitr; swap; iexact H9
    ipureintro; exact fun h => absurd h (by omega)
  isplitl [H10]
  · iexists _; isplitr; swap; iexact H10
    ipureintro; exact trivial
  iexists _; isplitr; swap; iexact H11
  ipureintro; exact trivial

set_option maxHeartbeats 1600000 in
/-- A tile. -/
theorem sound_tile (c : Dev nD) (t : Fin cfg0.N) (ht : 8 ≤ t.val) (P : sProp 𝕄) (x9 : Vec F S512x1024 .f32) (x10 : Vec F S128x6144 .bf16) (x11 : Vec F S256x1024 .bf16) :
    iprop(track m c t.val ∗ P ∗ owns (c : Thread nD τ) (ms0_0 t) fullShare (b1 m c t) ∗ owns (c : Thread nD τ) (ms0_1 t) fullShare (b2 m c t) ∗ owns (c : Thread nD τ) (ms0_2 t) fullShare (b3 m c t) ∗ owns (c : Thread nD τ) (ms0_3 t) fullShare (b4 m c t) ∗ owns (c : Thread nD τ) (ms0_4 t) fullShare (b5 m c t) ∗ owns (c : Thread nD τ) (ms0_5 t) fullShare (b6 m c t) ∗ owns (c : Thread nD τ) (ms0_6 t) fullShare (b7 m c t) ∗ owns (c : Thread nD τ) (ms0_7 t) fullShare (b8 m c t) ∗ owns (c : Thread nD τ) (ms0_8 t) fullShare x9 ∗ owns (c : Thread nD τ) (ms0_9 t) fullShare x10 ∗ owns (c : Thread nD τ) (ms0_10 t) fullShare x11)
      ⊢ wp frame (wpE (defs₀ (F := F)) Variants.none c none) Set.univ (bodyAt0 t) (fun _ => iprop(track m c (t.val + 1) ∗ P ∗ (∃ X, ⌜X = b1 m c t⌝ ∗ owns (c : Thread nD τ) (ms0_0 t) fullShare X) ∗ (∃ X, ⌜X = b2 m c t⌝ ∗ owns (c : Thread nD τ) (ms0_1 t) fullShare X) ∗ (∃ X, ⌜X = b3 m c t⌝ ∗ owns (c : Thread nD τ) (ms0_2 t) fullShare X) ∗ (∃ X, ⌜X = b4 m c t⌝ ∗ owns (c : Thread nD τ) (ms0_3 t) fullShare X) ∗ (∃ X, ⌜X = b5 m c t⌝ ∗ owns (c : Thread nD τ) (ms0_4 t) fullShare X) ∗ (∃ X, ⌜X = b6 m c t⌝ ∗ owns (c : Thread nD τ) (ms0_5 t) fullShare X) ∗ (∃ X, ⌜X = b7 m c t⌝ ∗ owns (c : Thread nD τ) (ms0_6 t) fullShare X) ∗ (∃ X, ⌜X = b8 m c t⌝ ∗ owns (c : Thread nD τ) (ms0_7 t) fullShare X) ∗ (∃ X, ⌜8 ≤ t.val → X = tileY m c t⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X))) := by
  unfold track bodyAt0
  iintro ⟨⟨⟨%d0, %d1, %hI, S0, S1⟩, Hg⟩, HP, H1, H2, H3, H4, H5, H6, H7, H8, H9, H10, H11⟩
  obtain ⟨rfl, rfl⟩ := hI.full m ht
  iapply (run_tile c (grid0.coords t) _ _ _ _ _ _ _ _ _ _ _ _ _ _ _ _ _ _ _ _ _ _ _ _ _ _ (fun h => absurd ((cond1_iff t).mp h) (by omega)) ((cond2_iff t).mpr ht) (b1 m c t) (b2 m c t) (b3 m c t) (b4 m c t) (b5 m c t) (b6 m c t) (b7 m c t) (b8 m c t) x9 x10 x11 (wn m c) (wo m c) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  iintro ⟨H1, H2, H3, H4, H5, H6, H7, H8, H9, H10, H11, S0, S1⟩
  isplitl [S0 S1 Hg]
  · isplitl [S0 S1]
    · iexists _; iexists _
      isplitr; swap
      · isplitl [S0]; · iexact S0
        iexact S1
      ipureintro
      exact ⟨fun _ _ => rfl, fun _ _ => rfl⟩
    iexact Hg
  isplitl [HP]; · iexact HP
  isplitl [H1]
  · iexists _; isplitr; swap; iexact H1
    ipureintro; exact rfl
  isplitl [H2]
  · iexists _; isplitr; swap; iexact H2
    ipureintro; exact rfl
  isplitl [H3]
  · iexists _; isplitr; swap; iexact H3
    ipureintro; exact rfl
  isplitl [H4]
  · iexists _; isplitr; swap; iexact H4
    ipureintro; exact rfl
  isplitl [H5]
  · iexists _; isplitr; swap; iexact H5
    ipureintro; exact rfl
  isplitl [H6]
  · iexists _; isplitr; swap; iexact H6
    ipureintro; exact rfl
  isplitl [H7]
  · iexists _; isplitr; swap; iexact H7
    ipureintro; exact rfl
  isplitl [H8]
  · iexists _; isplitr; swap; iexact H8
    ipureintro; exact rfl
  isplitl [H9]
  · iexists _; isplitr; swap; iexact H9
    ipureintro; exact fun _ => rfl
  isplitl [H10]
  · iexists _; isplitr; swap; iexact H10
    ipureintro; exact trivial
  iexists _; isplitr; swap; iexact H11
  ipureintro; exact trivial

/-! ## The proof data -/

/-- The region's data: the arrays as the region finds them, the tracking invariant, each input left as found, the tiles' output
    what `tileY` names, nothing said of the weight copies. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ X => 8 ≤ t.val → X = tileY m c t
    | ⟨9, _⟩ => fun _ _ => True
    | ⟨10, _⟩ => fun _ _ => True
  Φ n := track m c n.val
  q _ := fullShare
  owed _ := 0

theorem A_eq (c : Dev nD) (w : Fin cfg0.W) : (rdat m c).A w = V m c (Pipeline.arrRef spec0 w) := by dsimp only [rdat]

/-- Window 0 holds its block at every point. -/
theorem finds_0 (c : Dev nD) (t : Fin cfg0.N) (Y) (h : (rdat m c).Finds 0 t Y) : Y = b1 m c t := by
  obtain ⟨d, hd⟩ := (rdat m c).finds_in_eq_fetched 0 rfl (fun _ _ _ => rfl) (fun t Y X h => h) t Y h
  rw [hd]; unfold RDat.fetched RDat.blockOf b1 iblk; rw [A_eq]; try rfl

/-- Window 1 holds its block at every point. -/
theorem finds_1 (c : Dev nD) (t : Fin cfg0.N) (Y) (h : (rdat m c).Finds 1 t Y) : Y = b2 m c t := by
  obtain ⟨d, hd⟩ := (rdat m c).finds_in_eq_fetched 1 rfl (fun _ _ _ => rfl) (fun t Y X h => h) t Y h
  rw [hd]; unfold RDat.fetched RDat.blockOf b2 iblk; rw [A_eq]; try rfl

/-- Window 2 holds its block at every point. -/
theorem finds_2 (c : Dev nD) (t : Fin cfg0.N) (Y) (h : (rdat m c).Finds 2 t Y) : Y = b3 m c t := by
  obtain ⟨d, hd⟩ := (rdat m c).finds_in_eq_fetched 2 rfl (fun _ _ _ => rfl) (fun t Y X h => h) t Y h
  rw [hd]; unfold RDat.fetched RDat.blockOf b3 iblk; rw [A_eq]; try rfl

/-- Window 3 holds its block at every point. -/
theorem finds_3 (c : Dev nD) (t : Fin cfg0.N) (Y) (h : (rdat m c).Finds 3 t Y) : Y = b4 m c t := by
  obtain ⟨d, hd⟩ := (rdat m c).finds_in_eq_fetched 3 rfl (fun _ _ _ => rfl) (fun t Y X h => h) t Y h
  rw [hd]; unfold RDat.fetched RDat.blockOf b4 iblk; rw [A_eq]; try rfl

/-- Window 4 holds its block at every point. -/
theorem finds_4 (c : Dev nD) (t : Fin cfg0.N) (Y) (h : (rdat m c).Finds 4 t Y) : Y = b5 m c t := by
  obtain ⟨d, hd⟩ := (rdat m c).finds_in_eq_fetched 4 rfl (fun _ _ _ => rfl) (fun t Y X h => h) t Y h
  rw [hd]; unfold RDat.fetched RDat.blockOf b5 iblk; rw [A_eq]; try rfl

/-- Window 5 holds its block at every point. -/
theorem finds_5 (c : Dev nD) (t : Fin cfg0.N) (Y) (h : (rdat m c).Finds 5 t Y) : Y = b6 m c t := by
  obtain ⟨d, hd⟩ := (rdat m c).finds_in_eq_fetched 5 rfl (fun _ _ _ => rfl) (fun t Y X h => h) t Y h
  rw [hd]; unfold RDat.fetched RDat.blockOf b6 iblk; rw [A_eq]; try rfl

/-- Window 6 holds its block at every point. -/
theorem finds_6 (c : Dev nD) (t : Fin cfg0.N) (Y) (h : (rdat m c).Finds 6 t Y) : Y = b7 m c t := by
  obtain ⟨d, hd⟩ := (rdat m c).finds_in_eq_fetched 6 rfl (fun _ _ _ => rfl) (fun t Y X h => h) t Y h
  rw [hd]; unfold RDat.fetched RDat.blockOf b7 iblk; rw [A_eq]; try rfl

/-- Window 7 holds its block at every point. -/
theorem finds_7 (c : Dev nD) (t : Fin cfg0.N) (Y) (h : (rdat m c).Finds 7 t Y) : Y = b8 m c t := by
  obtain ⟨d, hd⟩ := (rdat m c).finds_in_eq_fetched 7 rfl (fun _ _ _ => rfl) (fun t Y X h => h) t Y h
  rw [hd]; unfold RDat.fetched RDat.blockOf b8 iblk; rw [A_eq]; try rfl

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body's obligation at every point, by its two cases. -/
theorem body_obligation (c : Dev nD) : (rdat (F := F) m c).BodyObligation (defs₀ (F := F)) Variants.none () Set.univ := fun t Y hY => by
  have hs : ∀ P : sProp 𝕄, iprop(track m c t.val ∗ P ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10))
      ⊢ wp frame (wpE (defs₀ (F := F)) Variants.none c none) Set.univ (bodyAt0 t) (fun _ => iprop(track m c (t.val + 1) ∗ P ∗ (∃ X, ⌜X = Y 0⌝ ∗ owns (c : Thread nD τ) (ms0_0 t) fullShare X) ∗ (∃ X, ⌜X = Y 1⌝ ∗ owns (c : Thread nD τ) (ms0_1 t) fullShare X) ∗ (∃ X, ⌜X = Y 2⌝ ∗ owns (c : Thread nD τ) (ms0_2 t) fullShare X) ∗ (∃ X, ⌜X = Y 3⌝ ∗ owns (c : Thread nD τ) (ms0_3 t) fullShare X) ∗ (∃ X, ⌜X = Y 4⌝ ∗ owns (c : Thread nD τ) (ms0_4 t) fullShare X) ∗ (∃ X, ⌜X = Y 5⌝ ∗ owns (c : Thread nD τ) (ms0_5 t) fullShare X) ∗ (∃ X, ⌜X = Y 6⌝ ∗ owns (c : Thread nD τ) (ms0_6 t) fullShare X) ∗ (∃ X, ⌜X = Y 7⌝ ∗ owns (c : Thread nD τ) (ms0_7 t) fullShare X) ∗ (∃ X, ⌜8 ≤ t.val → X = tileY m c t⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X))) := by
    intro P
    rw [finds_0 m c t (Y 0) (hY 0), finds_1 m c t (Y 1) (hY 1), finds_2 m c t (Y 2) (hY 2), finds_3 m c t (Y 3) (hY 3), finds_4 m c t (Y 4) (hY 4), finds_5 m c t (Y 5) (hY 5), finds_6 m c t (Y 6) (hY 6), finds_7 m c t (Y 7) (hY 7)]
    rcases Nat.lt_or_ge t.val 8 with ht | ht
    · exact sound_prep m c t ht P _ _ _
    · exact sound_tile m c t ht P _ _ _
  rw [bigSep_W0, bigSep_W0, defs₀_row]
  exact triple_restated (hs ((rdat m c).owesAt () t.castSucc)) rfl .rfl fun _ => .rfl

set_option backward.isDefEq.respectTransparency.types false in
/-- THE RUN: every execution ends, the arrays as the region's data say, every semaphore counter at zero. -/
theorem run_main : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := A_eq m)
    (hin := fun c => track_in m c) (hout := fun c => track_out m c _)

end Cert.Kernel2Ideal.Sgu

end
-- ==== Proof.SguOut.lean ====
module

public import proofs.«01_k».proof.Proof.Gen.Kernel2Ideal.Frame
public import proofs.«01_k».proof.Proof.Gen.Kernel2Ideal.Skeleton
public import Idealize.ShloMosaic.Lib.Pipeline.Value
public import Idealize.ShloMosaic.Lib.Pipeline.ArrRel
public import Idealize.ShloMosaic.Lib.Pipeline.ValueKit
public import Idealize.ShloMosaic.Lib.VecWindow
public import proofs.«01_k».proof.Proof.SguRun

@[expose] public section

set_option maxRecDepth 16384

noncomputable section

namespace Cert.Kernel2Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the claims ask besides the values: the arguments end unchanged, the counters at zero. -/
theorem unchanged {r : PUnit × MemSt nD τ sig (Elt F)}
    (h : (Pipeline.RDat.FramePost (cfgs 0) (fun c => rdat m c) (V m)) r ∧ r.2.sem = fun _ => 0) :
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0 :=
  ⟨fun c => ⟨(((h.1 c).2 main_arg0 (Pipeline.mem_restRefs_of main_arg0 (by decide) (by decide))).trans (V_main_arg0 m c)), (((h.1 c).2 main_arg1 (Pipeline.mem_restRefs_of main_arg1 (by decide) (by decide))).trans (V_main_arg1 m c)), (((h.1 c).2 main_arg2 (Pipeline.mem_restRefs_of main_arg2 (by decide) (by decide))).trans (V_main_arg2 m c)), (((h.1 c).2 main_arg3 (Pipeline.mem_restRefs_of main_arg3 (by decide) (by decide))).trans (V_main_arg3 m c)), ((Pipeline.RDat.FramePost.arr_in h.1 c 4 rfl).trans ((A_eq m c 4).trans (V_main_arg4 m c))), (((h.1 c).2 main_arg5 (Pipeline.mem_restRefs_of main_arg5 (by decide) (by decide))).trans (V_main_arg5 m c)), ((Pipeline.RDat.FramePost.arr_in h.1 c 6 rfl).trans ((A_eq m c 6).trans (V_main_arg6 m c))), ((Pipeline.RDat.FramePost.arr_in h.1 c 7 rfl).trans ((A_eq m c 7).trans (V_main_arg7 m c)))⟩, h.2⟩

/-- THE FRAME, at any reading of the floats. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun _ h => unchanged m h) (run_main m ρ)

/-! ## What the result array holds -/

theorem index0 : ∀ t : Fin cfg0.N, 8 ≤ t.val → (cfg0.win 0).index t = ![t.val - 8, 0] :=
  (by decide +kernel : ∀ t : Fin grid0.N, 8 ≤ t.val → cc0_transform_0 (grid0.coords t) = ![t.val - 8, 0])
theorem index1 : ∀ t : Fin cfg0.N, (cfg0.win 1).index t = ![0, 0] :=
  (by decide +kernel : ∀ t : Fin grid0.N, cc0_transform_1 (grid0.coords t) = ![0, 0])
theorem index2 : ∀ t : Fin cfg0.N, (cfg0.win 2).index t = ![0, 0] :=
  (by decide +kernel : ∀ t : Fin grid0.N, cc0_transform_2 (grid0.coords t) = ![0, 0])
theorem index3 : ∀ t : Fin cfg0.N, (cfg0.win 3).index t = ![0, 0] :=
  (by decide +kernel : ∀ t : Fin grid0.N, cc0_transform_3 (grid0.coords t) = ![0, 0])
theorem index5 : ∀ t : Fin cfg0.N, (cfg0.win 5).index t = ![0, 0] :=
  (by decide +kernel : ∀ t : Fin grid0.N, cc0_transform_5 (grid0.coords t) = ![0, 0])
theorem index4 : ∀ t : Fin cfg0.N, (cfg0.win 4).index t = ![0, 0, 0] :=
  (by decide +kernel : ∀ t : Fin grid0.N, cc0_transform_4 (grid0.coords t) = ![0, 0, 0])
theorem index6 : ∀ t : Fin cfg0.N, t.val < 8 → (cfg0.win 6).index t = ![t.val, 0] :=
  (by decide +kernel : ∀ t : Fin grid0.N, t.val < 8 → cc0_transform_6 (grid0.coords t) = ![t.val, 0])
theorem index7 : ∀ t : Fin cfg0.N, t.val < 8 → (cfg0.win 7).index t = ![t.val, 0] :=
  (by decide +kernel : ∀ t : Fin grid0.N, t.val < 8 → cc0_transform_7 (grid0.coords t) = ![t.val, 0])
theorem index8 : ∀ t : Fin cfg0.N, 8 ≤ t.val → (cfg0.win 8).index t = ![t.val - 8, 0] :=
  (by decide +kernel : ∀ t : Fin grid0.N, 8 ≤ t.val → cc0_transform_8 (grid0.coords t) = ![t.val - 8, 0])
theorem flush8 : ∀ t : Fin cfg0.N, (cfg0.win 8).flush t = true → 8 ≤ t.val :=
  (by decide +kernel : ∀ t : Fin grid0.N, win0_8.flush t = true → 8 ≤ t.val)

/-- The whole result: rows `512 * i` on are point `8 + i`'s. -/
def yAll (c : Dev nD) : Vec F S16384x1024 .f32 := fun j =>
  tileY m c (pt (8 + (j 0).val / 512)) (ValueIdx.ix2 (n0 := 512) (n1 := 1024) ⟨(j 0).val % 512, Nat.mod_lt _ (by decide)⟩ (j 1))

theorem yAll_at (c : Dev nD) (t : Fin cfg0.N) (ht : 8 ≤ t.val) (y : S512x1024.Idx) (j : S16384x1024.Idx)
    (e0 : (j 0).val = (t.val - 8) * 512 + (y 0).val) (e1 : (j 1).val = 0 * 1024 + (y 1).val) : tileY m c t y = yAll m c j := by
  have h0 : (y 0).val < 512 := (y 0).isLt
  have hN : t.val < 40 := lt_of_lt_of_eq t.isLt (show cfg0.N = 40 from N_0)
  unfold yAll
  have hn : t.val = 8 + (j 0).val / 512 := by omega
  refine congr (congrArg (tileY m c) ((pt_val t).symm.trans (congrArg pt hn))) (funext fun a => Fin.ext ?_)
  match a with
    | ⟨0, _⟩ => show (y 0).val = (j 0).val % 512; omega
    | ⟨1, _⟩ => show (y 1).val = (j 1).val; omega

theorem out8 (c : Dev nD) (dat : Dat τ (Elt F) Unit ℕ (UR sig nD τ) ℕ cfg0 c)
    (h : ∀ t, (cfg0.win 8).flush t = true → dat.after 8 t = tileY m c t) : dat.arrAt 8 cfg0.N = yAll m c := by
  refine dat.arrAt_eq_of_covers 8 _ (by decide +kernel) fun t hf y => ?_
  rw [h t hf]
  have ht := flush8 t hf
  have hb : ∀ a, (((win0_8.blk t).view.emb y) a).val = win0_8.index t a * win0_8.size a + (y a).val := Window.rect_emb_val win0_8 t y
  rw [show win0_8.index t = ![t.val - 8, 0] from index8 t ht] at hb
  blk_simp
  exact yAll_at m c t ht y _ (hb 0) (hb 1)

/-- What a run leaves in the result array. -/
theorem results {r : PUnit × MemSt nD τ sig (Elt F)}
    (h : (Pipeline.RDat.FramePost (cfgs 0) (fun c => rdat m c) (V m)) r) (c : Dev nD) :
    r.2.mem ((c.tc : Thread nD τ).loc main_v7_0) = yAll m c := by
  obtain ⟨after, hL, hA⟩ := Pipeline.RDat.FramePost.exists_exact h c
  refine (hA 8).trans (out8 m c _ fun t hf => ?_)
  obtain ⟨Y, -, hX⟩ := hL 8 t hf
  exact hX (flush8 t hf)

/-! ## What the blocks hold -/

theorem lt40 (t : Fin cfg0.N) : t.val < 40 := lt_of_lt_of_eq t.isLt (show cfg0.N = 40 from N_0)

theorem b1_apply (c : Dev nD) (t : Fin cfg0.N) (ht : 8 ≤ t.val) (r : Fin 512) (d : Fin 1024) :
    b1 m c t (ValueIdx.ix2 r d) = V m c main_v3 (ValueIdx.ix2 (n0 := 16384) (n1 := 1024) ⟨(t.val - 8) * 512 + r.val, by have := lt40 t; omega⟩ d) := by
  unfold b1 iblk
  have hix := index0 t ht
  blk_simp
  refine congrArg _ (funext fun a => Fin.ext ((Window.rect_emb_val win0_0 t _ a).trans ?_))
  rw [hix]
  fin_cases a <;> simp

theorem b2_apply (c : Dev nD) (t : Fin cfg0.N) (u : Fin 1) (d : Fin 1024) :
    b2 m c t (ValueIdx.ix2 u d) = V m c main_v4 (ValueIdx.ix2 (n0 := 1) (n1 := 1024) u d) := by
  unfold b2 iblk
  have hix := index1 t
  blk_simp
  refine congrArg _ (funext fun a => Fin.ext ((Window.rect_emb_val win0_1 t _ a).trans ?_))
  rw [hix]
  fin_cases a <;> simp

theorem b3_apply (c : Dev nD) (t : Fin cfg0.N) (u : Fin 1) (d : Fin 2048) :
    b3 m c t (ValueIdx.ix2 u d) = V m c main_v5 (ValueIdx.ix2 (n0 := 1) (n1 := 2048) u d) := by
  unfold b3 iblk
  have hix := index2 t
  blk_simp
  refine congrArg _ (funext fun a => Fin.ext ((Window.rect_emb_val win0_2 t _ a).trans ?_))
  rw [hix]
  fin_cases a <;> simp

theorem b4_apply (c : Dev nD) (t : Fin cfg0.N) (u : Fin 1) (d : Fin 2048) :
    b4 m c t (ValueIdx.ix2 u d) = V m c main_v6 (ValueIdx.ix2 (n0 := 1) (n1 := 2048) u d) := by
  unfold b4 iblk
  have hix := index3 t
  blk_simp
  refine congrArg _ (funext fun a => Fin.ext ((Window.rect_emb_val win0_3 t _ a).trans ?_))
  rw [hix]
  fin_cases a <;> simp

theorem b5_apply (c : Dev nD) (t : Fin cfg0.N) (g : Fin 4) (i j : Fin 128) :
    b5 m c t (ValueIdx.ix3 g i j) = V m c main_arg4 (ValueIdx.ix3 (n0 := 4) (n1 := 128) (n2 := 128) g i j) := by
  unfold b5 iblk
  have hix := index4 t
  blk_simp
  refine congrArg _ (funext fun a => Fin.ext ((Window.rect_emb_val win0_4 t _ a).trans ?_))
  rw [hix]
  fin_cases a <;> simp

theorem b6_apply (c : Dev nD) (t : Fin cfg0.N) (i : Fin 128) (d : Fin 2048) :
    b6 m c t (ValueIdx.ix2 i d) = V m c main_v2 (ValueIdx.ix2 (n0 := 128) (n1 := 2048) i d) := by
  unfold b6 iblk
  have hix := index5 t
  blk_simp
  refine congrArg _ (funext fun a => Fin.ext ((Window.rect_emb_val win0_5 t _ a).trans ?_))
  rw [hix]
  fin_cases a <;> simp

theorem b7_apply (c : Dev nD) (t : Fin cfg0.N) (ht : t.val < 8) (r : Fin 128) (d : Fin 6144) :
    b7 m c t (ValueIdx.ix2 r d) = V m c main_arg6 (ValueIdx.ix2 (n0 := 1024) (n1 := 6144) ⟨t.val * 128 + r.val, by omega⟩ d) := by
  unfold b7 iblk
  have hix := index6 t ht
  blk_simp
  refine congrArg _ (funext fun a => Fin.ext ((Window.rect_emb_val win0_6 t _ a).trans ?_))
  rw [hix]
  fin_cases a <;> simp

theorem b8_apply (c : Dev nD) (t : Fin cfg0.N) (ht : t.val < 8) (r : Fin 256) (d : Fin 1024) :
    b8 m c t (ValueIdx.ix2 r d) = V m c main_arg7 (ValueIdx.ix2 (n0 := 2048) (n1 := 1024) ⟨t.val * 256 + r.val, by omega⟩ d) := by
  unfold b8 iblk
  have hix := index7 t ht
  blk_simp
  refine congrArg _ (funext fun a => Fin.ext ((Window.rect_emb_val win0_7 t _ a).trans ?_))
  rw [hix]
  fin_cases a <;> simp

end Cert.Kernel2Ideal.Sgu

end
-- ==== Proof.SguBits.lean ====
module

public import proofs.«01_k».proof.Defs
public import proofs.«01_k».proof.Proof.Gen.Kernel2
public import proofs.«01_k».proof.Proof.SguOut

/-!
The spatial-gating layer's kernel at bit patterns: its text is the idealized one's, so its frame is the one run read there.
-/

@[expose] public section

set_option maxRecDepth 16384
set_option maxHeartbeats 4000000

noncomputable section

namespace Cert.Kernel2.Sgu

open Idealize.ShloMosaic Idealize.ShloMosaic.TcCoe Idealize.SL.Sem

/-- The two programs' body tables are one. -/
theorem bodies_eq : Cert.Kernel2.defs₀ (F := Bits) = Cert.Kernel2Ideal.defs₀ (F := Bits) := by
  unfold Cert.Kernel2.defs₀ Cert.Kernel2Ideal.defs₀
  refine congrArg _ (funext fun l => ?_)
  fin_cases l
  funext x
  obtain ⟨t, s⟩ := x
  show Cert.Kernel2.cc0_sgu_prompt _ _ _ _ _ _ _ _ _ _ _ _ _ _ _ _ _ _ _ _ _ _ _ _ _ _ _
    = Cert.Kernel2Ideal.cc0_sgu_prompt _ _ _ _ _ _ _ _ _ _ _ _ _ _ _ _ _ _ _ _ _ _ _ _ _ _ _
  rfl

/-- So are the tables with the pipeline in them. -/
theorem defs_eq : Cert.Kernel2.defs (F := Bits) = Cert.Kernel2Ideal.defs (F := Bits) :=
  congrArg (Pipeline.defs (Cert.Kernel2.pcfgs (F := Bits))) bodies_eq

/-- THE FRAME of the kernel at bit patterns. -/
theorem frame : Cert.quiescent_Kernel2 (hKernel2 := Cert.Kernel2.Gen.facts) := by
  intro m ρ _
  rw [defs_eq]
  exact Cert.Kernel2Ideal.Sgu.frame (F := Bits) m ρ

end Cert.Kernel2.Sgu

end
-- ==== Proof.SguSpec.lean ====
module

public import proofs.«01_k».proof.Proof.Spec

/-! The arithmetic of the spatial-gating layer on one chunk of 128 positions. -/

@[expose] public section

set_option maxRecDepth 16384

noncomputable section

namespace Cert.Spec

open Idealize.ShloMosaic

/-- The gelu with the error function. -/
def gelu (a : EReal) : EReal :=
  Ideal.ofBits .f32 0x3F000000#32 * a * (1 + Ideal.erf (a * Ideal.ofBits .f32 0x3F3504F3#32))

/-- The mean of 2048 entries. -/
def mean (v : Fin 2048 → EReal) : EReal := Ideal.div (∑ k, v k) (Ideal.ofBits .f32 0x45000000#32)

/-- The layer norm of 2048 entries, with a gain and an offset. -/
def lnorm (v g b : Fin 2048 → EReal) (k : Fin 2048) : EReal :=
  (v k - mean v) * Ideal.rsqrt (mean (fun j => (v j - mean v) * (v j - mean v)) + Ideal.ofBits .f32 0x358637BD#32) * g k + b k

/-- A mixing matrix below its diagonal. -/
def lower (w : Fin 128 → Fin 128 → EReal) (i j : Fin 128) : EReal := if j.val ≤ i.val then w i j else 0

/-- A chunk's streams, each mixed over the earlier positions of the chunk by its group's matrix, plus the bias. -/
def smix (Ws : Fin 4 → Fin 128 → Fin 128 → EReal) (Bs : Fin 4 → Fin 128 → EReal) (v : Fin 128 → Fin 2048 → EReal)
    (i : Fin 128) (k : Fin 2048) : EReal :=
  (∑ j, lower (Ws ⟨k.val / 512, by omega⟩) i j * v j k) + Bs ⟨k.val / 512, by omega⟩ i

/-- A mixed stream, by its group and its place inside the group. -/
theorem smix_at (Ws : Fin 4 → Fin 128 → Fin 128 → EReal) (Bs : Fin 4 → Fin 128 → EReal) (v : Fin 128 → Fin 2048 → EReal)
    (i : Fin 128) (g : Fin 4) (c : Fin 512) :
    smix Ws Bs v i ⟨512 * g.val + c.val, by omega⟩ = (∑ j, lower (Ws g) i j * v j ⟨512 * g.val + c.val, by omega⟩) + Bs g i := by
  have hc := c.isLt
  have e : (⟨(512 * g.val + c.val) / 512, by omega⟩ : Fin 4) = g := Fin.ext (by dsimp only; omega)
  unfold smix
  dsimp only
  rw [e]

section Sgu
variable (G : Fin 1024 → EReal) (lg lb : Fin 2048 → EReal) (Ws : Fin 4 → Fin 128 → Fin 128 → EReal) (Bs : Fin 4 → Fin 128 → EReal)
  (W : Fin 1024 → Fin 6144 → EReal) (Wo : Fin 2048 → Fin 1024 → EReal)

/-- A column of one position's projection. -/
def sprj (x : Fin 1024 → EReal) (e : Fin 6144) : EReal := proj x G (fun d => W d e)

/-- The first third of the projection, through the gelu. -/
def rowU (x : Fin 1024 → EReal) (k : Fin 2048) : EReal := gelu (sprj G W x ⟨k.val, by omega⟩)

/-- The second third of the projection, through the gelu. -/
def rowV (x : Fin 1024 → EReal) (k : Fin 2048) : EReal := gelu (sprj G W x ⟨2048 + k.val, by omega⟩)

/-- The last third of the projection. -/
def rowZ (x : Fin 1024 → EReal) (k : Fin 2048) : EReal := sprj G W x ⟨4096 + k.val, by omega⟩

/-- The layer's output at position `i` of a chunk of rows `x`. -/
def sgu (x : Fin 128 → Fin 1024 → EReal) (i : Fin 128) (d : Fin 1024) : EReal :=
  (∑ k, rowU G W (x i) k * smix Ws Bs (fun j => lnorm (rowV G W (x j)) lg lb) i k * silu (rowZ G W (x i) k) * Wo k d) + x i d

end Sgu

/-- Comparing two small counters as signed words is comparing them as numbers. -/
theorem sge_select {α : Type} (i j : ℕ) (hi : i < 128) (hj : j < 128) (a b : α) :
    Scalar.select (IntOp.cmpi .sge (BitVec.ofNat 32 i) (BitVec.ofNat 32 j)) a b = if j ≤ i then a else b := by
  have h : (BitVec.ofNat 32 j).sle (BitVec.ofNat 32 i) = decide (j ≤ i) := by
    rw [BitVec.sle, BitVec.toInt_eq_toNat_of_lt (by simp; omega), BitVec.toInt_eq_toNat_of_lt (by simp; omega)]
    simp only [BitVec.toNat_ofNat]
    rw [Nat.mod_eq_of_lt (by omega), Nat.mod_eq_of_lt (by omega)]
    norm_cast
  unfold Scalar.select IntOp.cmpi
  by_cases hji : j ≤ i
  · simp [h, hji]
  · simp [h, hji]

end Cert.Spec
-- ==== Proof.SguVal.lean ====
module

public import proofs.«01_k».proof.Proof.Gen.Kernel2Ideal.Frame
public import proofs.«01_k».proof.Proof.Gen.Kernel2Ideal.Skeleton
public import Idealize.ShloMosaic.Lib.Pipeline.Value
public import Idealize.ShloMosaic.Lib.KernelVsHost
public import Idealize.ShloMosaic.Lib.Pointwise
public import Idealize.ShloMosaic.Lib.PlanTiles.Rows
public import Idealize.ShloMosaic.Lib.WordArith
public import proofs.«01_k».proof.Proof.SguSpec
public import proofs.«01_k».proof.Proof.SguDefs

/-! What a tile of the spatial-gating call holds, entry by entry. -/

@[expose] public section

set_option maxRecDepth 16384

noncomputable section

namespace Cert.Kernel2Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen Cert.Spec

/-! ## The projection and what is read off it -/

/-- The input projection. -/
theorem pay7_read (xb : Vec Ideal S512x1024 .f32) (gain : Vec Ideal S1x1024 .f32) (w : Vec Ideal S1024x6144 .bf16) (r : Fin 512) (e : Fin 6144) :
    k0_pay7 xb gain w (ix2 r e) = sprj (fun d => gain (ix2 0 d)) (fun d e => w (ix2 d e)) (fun d => xb (ix2 r d)) e := by
  pointwise [k0_pay7, k0_pay6]
  rfl

/-- The first third of the projection, through the gelu. -/
theorem pay8_read (xb : Vec Ideal S512x1024 .f32) (gain : Vec Ideal S1x1024 .f32) (w : Vec Ideal S1024x6144 .bf16) (r : Fin 512) (k : Fin 2048) :
    k0_pay8 xb gain w (ix2 r k) = rowU (fun d => gain (ix2 0 d)) (fun d e => w (ix2 d e)) (fun d => xb (ix2 r d)) k := by
  unfold rowU gelu
  rw [← pay7_read, ← Ideal.ofBits_one_f32]
  unfold k0_pay8
  generalize k0_pay7 xb gain w = A
  pointwise
  rfl

/-- The second third of the projection, through the gelu. -/
theorem pay9_read (xb : Vec Ideal S512x1024 .f32) (gain : Vec Ideal S1x1024 .f32) (w : Vec Ideal S1024x6144 .bf16) (r : Fin 512) (k : Fin 2048) :
    k0_pay9 xb gain w (ix2 r k) = rowV (fun d => gain (ix2 0 d)) (fun d e => w (ix2 d e)) (fun d => xb (ix2 r d)) k := by
  unfold rowV gelu
  rw [← pay7_read, ← Ideal.ofBits_one_f32]
  unfold k0_pay9
  generalize k0_pay7 xb gain w = A
  pointwise
  rfl

/-- The last third of the projection, through the half-angle form of its gate. -/
theorem pay10_read (xb : Vec Ideal S512x1024 .f32) (gain : Vec Ideal S1x1024 .f32) (w : Vec Ideal S1024x6144 .bf16) (r : Fin 512) (k : Fin 2048)
    (hR : IsR (rowZ (fun d => gain (ix2 0 d)) (fun d e => w (ix2 d e)) (fun d => xb (ix2 r d)) k)) :
    k0_pay10 xb gain w (ix2 r k) = silu (rowZ (fun d => gain (ix2 0 d)) (fun d e => w (ix2 d e)) (fun d => xb (ix2 r d)) k) := by
  unfold silu
  rw [← silu_eq hR]
  unfold rowZ
  rw [← pay7_read]
  unfold k0_pay10
  generalize k0_pay7 xb gain w = A
  pointwise

/-- The layer norm of a tile's rows. -/
theorem pay11_read (v : FVec Ideal S512x2048 .f32) (lg lb : Vec Ideal S1x2048 .f32) (r : Fin 512) (k : Fin 2048) :
    k0_pay11 v lg lb (ix2 r k) = lnorm (fun k => v (ix2 r k)) (fun k => lg (ix2 0 k)) (fun k => lb (ix2 0 k)) k := by
  pointwise [k0_pay11]
  rfl

/-- The tile's own rows. -/
theorem pay6_read (xb : Vec Ideal S512x1024 .f32) (r : Fin 512) (d : Fin 1024) : k0_pay6 xb (ix2 r d) = xb (ix2 r d) := by
  pointwise [k0_pay6]

/-! ## The mixing -/

/-- A group's mixing matrix below its diagonal. -/
theorem pay12_read (w : Vec Ideal S1x128x128 .f32) (i j : Fin 128) : k0_pay12 w (ix2 i j) = lower (fun i j => w (ix3 0 i j)) i j := by
  unfold lower
  rw [← sge_select i.val j.val i.isLt j.isLt]
  pointwise [k0_pay12]

theorem pay13_eq (w : Vec Ideal S1x128x128 .f32) : k0_pay13 w = k0_pay12 w := rfl
theorem pay15_eq (w : Vec Ideal S1x128x128 .f32) : k0_pay15 k0_pay14 w = k0_pay12 w := rfl
theorem pay16_eq (w : Vec Ideal S1x128x128 .f32) :
    k0_pay16 (iota .tc S128x128 32 [0] iota_S128x128_d0_w32) (iota .tc S128x128 32 [1] iota_S128x128_d1_w32) w = k0_pay12 w := rfl

/-- One group's product at one chunk. -/
def mmg (a : FVec Ideal S128x128 .bf16) (v : FVec Ideal S128x512 .bf16) : FVec Ideal S128x512 .f32 :=
  matmul dot_S128x128_S128x512_S128x512_1_0_0_1_n_n none a v (constant S128x512 .f32 0x00000000#32)

/-- One group's product at the chunk starting at row `o`. -/
theorem mmg_read (a : FVec Ideal S128x128 .bf16) (v : FVec Ideal S512x2048 .bf16) (o g : ℕ) (ho : o + 128 ≤ 512) (hg : g < 4)
    (hs : S512x2048.Slices ![o, 512 * g] S128x512) (i : Fin 128) (c : Fin 512) :
    mmg a (extractStridedSlice S128x512 ![o, 512 * g] v hs) (ix2 i c)
      = ∑ j : Fin 128, a (ix2 i j) * v (ix2 ⟨o + j.val, by omega⟩ ⟨512 * g + c.val, by omega⟩) := by
  pointwise [mmg]

/-- Four groups side by side. -/
def cat (a b c d : FVec Ideal S128x512 .f32) : FVec Ideal S128x2048 .f32 :=
  concatenate S128x2048 1 [⟨S128x512, a⟩, ⟨S128x512, b⟩, ⟨S128x512, c⟩, ⟨S128x512, d⟩] concatenates_S128x512_S128x512_S128x512_S128x512_S128x2048_d1

/-- Reading four groups side by side. -/
theorem cat_read (a b c d : FVec Ideal S128x512 .f32) (r : Fin 128) (M : Fin 2048 → EReal)
    (ha : ∀ j : Fin 512, a (ix2 r j) = M ⟨512 * 0 + j.val, by omega⟩) (hb : ∀ j : Fin 512, b (ix2 r j) = M ⟨512 * 1 + j.val, by omega⟩)
    (hc : ∀ j : Fin 512, c (ix2 r j) = M ⟨512 * 2 + j.val, by omega⟩) (hd : ∀ j : Fin 512, d (ix2 r j) = M ⟨512 * 3 + j.val, by omega⟩) (k : Fin 2048) :
    cat a b c d (ix2 r k) = M k := by
  have hk := k.isLt
  pointwise [cat]
  split_ifs
  all_goals first
    | exact (ha _).trans (congrArg M (Fin.ext (by dsimp only; omega)))
    | exact (hb _).trans (congrArg M (Fin.ext (by dsimp only; omega)))
    | exact (hc _).trans (congrArg M (Fin.ext (by dsimp only; omega)))
    | exact (hd _).trans (congrArg M (Fin.ext (by dsimp only; omega)))

/-- Four chunks below each other. -/
def rows (a b c d : FVec Ideal S128x2048 .f32) : FVec Ideal S512x2048 .f32 :=
  concatenate S512x2048 0 [⟨S128x2048, a⟩, ⟨S128x2048, b⟩, ⟨S128x2048, c⟩, ⟨S128x2048, d⟩] concatenates_S128x2048_S128x2048_S128x2048_S128x2048_S512x2048_d0

/-- Reading four chunks below each other. -/
theorem rows_read (a b c d : FVec Ideal S128x2048 .f32) (k : Fin 2048) (M : Fin 512 → EReal)
    (ha : ∀ i : Fin 128, a (ix2 i k) = M ⟨128 * 0 + i.val, by omega⟩) (hb : ∀ i : Fin 128, b (ix2 i k) = M ⟨128 * 1 + i.val, by omega⟩)
    (hc : ∀ i : Fin 128, c (ix2 i k) = M ⟨128 * 2 + i.val, by omega⟩) (hd : ∀ i : Fin 128, d (ix2 i k) = M ⟨128 * 3 + i.val, by omega⟩) (r : Fin 512) :
    rows a b c d (ix2 r k) = M r := by
  have hr := r.isLt
  pointwise [rows]
  split_ifs
  all_goals first
    | exact (ha _).trans (congrArg M (Fin.ext (by dsimp only; omega)))
    | exact (hb _).trans (congrArg M (Fin.ext (by dsimp only; omega)))
    | exact (hc _).trans (congrArg M (Fin.ext (by dsimp only; omega)))
    | exact (hd _).trans (congrArg M (Fin.ext (by dsimp only; omega)))

/-- One chunk of the mixed streams: the four groups' products side by side, plus the bias. -/
def blk (a0 a1 a2 a3 : FVec Ideal S128x128 .bf16) (v : FVec Ideal S512x2048 .bf16) (o : ℕ)
    (h0 : S512x2048.Slices ![o, 0] S128x512) (h1 : S512x2048.Slices ![o, 512] S128x512)
    (h2 : S512x2048.Slices ![o, 1024] S128x512) (h3 : S512x2048.Slices ![o, 1536] S128x512) (b : FVec Ideal S128x2048 .f32) : FVec Ideal S128x2048 .f32 :=
  addf (cat (mmg a0 (extractStridedSlice S128x512 ![o, 0] v h0)) (mmg a1 (extractStridedSlice S128x512 ![o, 512] v h1))
    (mmg a2 (extractStridedSlice S128x512 ![o, 1024] v h2)) (mmg a3 (extractStridedSlice S128x512 ![o, 1536] v h3))) b

/-- A chunk of the mixed streams is the layer's. -/
theorem blk_read (a0 a1 a2 a3 : FVec Ideal S128x128 .bf16) (v : FVec Ideal S512x2048 .bf16) (o : ℕ) (ho : o + 128 ≤ 512)
    (h0 : S512x2048.Slices ![o, 0] S128x512) (h1 : S512x2048.Slices ![o, 512] S128x512)
    (h2 : S512x2048.Slices ![o, 1024] S128x512) (h3 : S512x2048.Slices ![o, 1536] S128x512) (b : FVec Ideal S128x2048 .f32)
    (Ws : Fin 4 → Fin 128 → Fin 128 → EReal) (Bs : Fin 4 → Fin 128 → EReal)
    (w0 : ∀ i j, a0 (ix2 i j) = lower (Ws 0) i j) (w1 : ∀ i j, a1 (ix2 i j) = lower (Ws 1) i j)
    (w2 : ∀ i j, a2 (ix2 i j) = lower (Ws 2) i j) (w3 : ∀ i j, a3 (ix2 i j) = lower (Ws 3) i j)
    (hb : ∀ (i : Fin 128) (k : Fin 2048), b (ix2 i k) = Bs ⟨k.val / 512, by omega⟩ i) (i : Fin 128) (k : Fin 2048) :
    blk a0 a1 a2 a3 v o h0 h1 h2 h3 b (ix2 i k) = smix Ws Bs (fun j k => v (ix2 ⟨o + j.val, by omega⟩ k)) i k := by
  unfold blk
  rw [addf_apply, Ideal.addf_def, hb]
  unfold smix
  refine congrArg (· + _) ?_
  refine cat_read _ _ _ _ i (fun k : Fin 2048 => ∑ j, lower (Ws ⟨k.val / 512, by omega⟩) i j * v (ix2 ⟨o + j.val, by omega⟩ k)) ?_ ?_ ?_ ?_ k
  · intro c
    have hc := c.isLt
    refine (mmg_read a0 v o 0 ho (by omega) h0 i c).trans (Finset.sum_congr rfl fun j _ => ?_)
    rw [w0]
    refine congrArg (fun g => lower (Ws g) i j * _) (Fin.ext ?_)
    show 0 = (512 * 0 + c.val) / 512; omega
  · intro c
    have hc := c.isLt
    refine (mmg_read a1 v o 1 ho (by omega) h1 i c).trans (Finset.sum_congr rfl fun j _ => ?_)
    rw [w1]
    refine congrArg (fun g => lower (Ws g) i j * _) (Fin.ext ?_)
    show 1 = (512 * 1 + c.val) / 512; omega
  · intro c
    have hc := c.isLt
    refine (mmg_read a2 v o 2 ho (by omega) h2 i c).trans (Finset.sum_congr rfl fun j _ => ?_)
    rw [w2]
    refine congrArg (fun g => lower (Ws g) i j * _) (Fin.ext ?_)
    show 2 = (512 * 2 + c.val) / 512; omega
  · intro c
    have hc := c.isLt
    refine (mmg_read a3 v o 3 ho (by omega) h3 i c).trans (Finset.sum_congr rfl fun j _ => ?_)
    rw [w3]
    refine congrArg (fun g => lower (Ws g) i j * _) (Fin.ext ?_)
    show 3 = (512 * 3 + c.val) / 512; omega

/-! ## The tile -/

/-- The end of a tile over the mixed streams. -/
def tail (x : FVec Ideal S512x1024 .f32) (u z s : FVec Ideal S512x2048 .f32) (o : Vec Ideal S2048x1024 .bf16) : FVec Ideal S512x1024 .f32 :=
  have p : FVec Ideal S512x2048 .bf16 := truncf .bf16 (mulf (mulf u s) z) bitsLt_bf16_f32
  have o' : FVec Ideal S2048x1024 .bf16 := o
  addf (matmul dot_S512x2048_S2048x1024_S512x1024_1_0_0_1_n_n none p o' (constant S512x1024 .f32 0x00000000#32)) x

/-- The end of a tile, entry by entry. -/
theorem tail_read (x : FVec Ideal S512x1024 .f32) (u z s : FVec Ideal S512x2048 .f32) (o : Vec Ideal S2048x1024 .bf16) (r : Fin 512) (d : Fin 1024) :
    tail x u z s o (ix2 r d) = (∑ k : Fin 2048, u (ix2 r k) * s (ix2 r k) * z (ix2 r k) * o (ix2 k d)) + x (ix2 r d) := by
  pointwise [tail]

/-- The tile's four chunks of mixed streams. -/
def mixes (a0 a1 a2 a3 : FVec Ideal S128x128 .bf16) (v : FVec Ideal S512x2048 .f32) (b : Vec Ideal S128x2048 .f32) : FVec Ideal S512x2048 .f32 :=
  rows
    (blk a0 a1 a2 a3 (k0_pay17 v) 0 slices_S512x2048_o0_0_S128x512 slices_S512x2048_o0_512_S128x512 slices_S512x2048_o0_1024_S128x512 slices_S512x2048_o0_1536_S128x512 (k0_pay18 b))
    (blk a0 a1 a2 a3 (k0_pay17 v) 128 slices_S512x2048_o128_0_S128x512 slices_S512x2048_o128_512_S128x512 slices_S512x2048_o128_1024_S128x512 slices_S512x2048_o128_1536_S128x512 (k0_pay18 b))
    (blk a0 a1 a2 a3 (k0_pay17 v) 256 slices_S512x2048_o256_0_S128x512 slices_S512x2048_o256_512_S128x512 slices_S512x2048_o256_1024_S128x512 slices_S512x2048_o256_1536_S128x512 (k0_pay18 b))
    (blk a0 a1 a2 a3 (k0_pay17 v) 384 slices_S512x2048_o384_0_S128x512 slices_S512x2048_o384_512_S128x512 slices_S512x2048_o384_1024_S128x512 slices_S512x2048_o384_1536_S128x512 (k0_pay18 b))

/-- What the body writes, its pieces named. -/
theorem yOf_eq (x : Vec Ideal S512x1024 .f32) (gain : Vec Ideal S1x1024 .f32) (lng lnb : Vec Ideal S1x2048 .f32) (ws : Vec Ideal S4x128x128 .f32)
    (bsb : Vec Ideal S128x2048 .f32) (w : Vec Ideal S1024x6144 .bf16) (o : Vec Ideal S2048x1024 .bf16) :
    yOf x gain lng lnb ws bsb w o
      = tail (k0_pay6 x) (k0_pay8 x gain w) (k0_pay10 x gain w)
        (mixes (k0_pay12 (mix ws 0 inb_S4x128x128_S1x128x128_0_0_0)) (k0_pay12 (mix ws 1 inb_S4x128x128_S1x128x128_1_0_0))
          (k0_pay12 (mix ws 2 inb_S4x128x128_S1x128x128_2_0_0)) (k0_pay12 (mix ws 3 inb_S4x128x128_S1x128x128_3_0_0)) (k0_pay11 (k0_pay9 x gain w) lng lnb) bsb) o := by
  unfold yOf
  rw [pay13_eq, pay15_eq, pay16_eq]
  unfold gateOf
  generalize k0_pay11 (k0_pay9 x gain w) lng lnb = v
  generalize k0_pay8 x gain w = u
  generalize k0_pay10 x gain w = z
  rfl

theorem pay17_read (v : FVec Ideal S512x2048 .f32) (r : Fin 512) (k : Fin 2048) : k0_pay17 v (ix2 r k) = v (ix2 r k) := rfl
theorem pay18_read (b : Vec Ideal S128x2048 .f32) (i : Fin 128) (k : Fin 2048) : k0_pay18 b (ix2 i k) = b (ix2 i k) := by
  pointwise [k0_pay18]

/-- The mixed streams of a tile, row by row. -/
theorem mixes_read (a0 a1 a2 a3 : FVec Ideal S128x128 .bf16) (v : FVec Ideal S512x2048 .f32) (b : Vec Ideal S128x2048 .f32)
    (Ws : Fin 4 → Fin 128 → Fin 128 → EReal) (Bs : Fin 4 → Fin 128 → EReal)
    (w0 : ∀ i j, a0 (ix2 i j) = lower (Ws 0) i j) (w1 : ∀ i j, a1 (ix2 i j) = lower (Ws 1) i j)
    (w2 : ∀ i j, a2 (ix2 i j) = lower (Ws 2) i j) (w3 : ∀ i j, a3 (ix2 i j) = lower (Ws 3) i j)
    (hb : ∀ (i : Fin 128) (k : Fin 2048), b (ix2 i k) = Bs ⟨k.val / 512, by omega⟩ i) (r : Fin 512) (k : Fin 2048) :
    mixes a0 a1 a2 a3 v b (ix2 r k)
      = smix Ws Bs (fun j k => v (ix2 ⟨128 * (r.val / 128) + j.val, by omega⟩ k)) ⟨r.val % 128, by omega⟩ k := by
  have hb' : ∀ (i : Fin 128) (k : Fin 2048), k0_pay18 b (ix2 i k) = Bs ⟨k.val / 512, by omega⟩ i := fun i k => (pay18_read b i k).trans (hb i k)
  have key : ∀ (q : ℕ) (hq : q < 4) (i : Fin 128),
      smix Ws Bs (fun j k => k0_pay17 v (ix2 ⟨128 * q + j.val, by omega⟩ k)) i k
        = smix Ws Bs (fun j k => v (ix2 ⟨128 * ((128 * q + i.val) / 128) + j.val, by omega⟩ k)) ⟨(128 * q + i.val) % 128, by omega⟩ k := by
    intro q hq i
    have hi := i.isLt
    refine congr (congr (congrArg (smix Ws Bs) (funext fun j => funext fun k => ?_)) (Fin.ext ?_)) rfl
    · rw [pay17_read]
      refine congrArg (fun n => v (ix2 n k)) (Fin.ext ?_)
      show 128 * q + j.val = 128 * ((128 * q + i.val) / 128) + j.val
      omega
    · show i.val = (128 * q + i.val) % 128
      omega
  unfold mixes
  refine rows_read _ _ _ _ k (fun r => smix Ws Bs (fun j k => v (ix2 ⟨128 * (r.val / 128) + j.val, by omega⟩ k)) ⟨r.val % 128, by omega⟩ k) ?_ ?_ ?_ ?_ r
  · exact fun i => (blk_read a0 a1 a2 a3 _ (128 * 0) (by omega) _ _ _ _ _ Ws Bs w0 w1 w2 w3 hb' i k).trans (key 0 (by omega) i)
  · exact fun i => (blk_read a0 a1 a2 a3 _ (128 * 1) (by omega) _ _ _ _ _ Ws Bs w0 w1 w2 w3 hb' i k).trans (key 1 (by omega) i)
  · exact fun i => (blk_read a0 a1 a2 a3 _ (128 * 2) (by omega) _ _ _ _ _ Ws Bs w0 w1 w2 w3 hb' i k).trans (key 2 (by omega) i)
  · exact fun i => (blk_read a0 a1 a2 a3 _ (128 * 3) (by omega) _ _ _ _ _ Ws Bs w0 w1 w2 w3 hb' i k).trans (key 3 (by omega) i)

/-- One group's mixing matrix. -/
theorem mix_read (ws : Vec Ideal S4x128x128 .f32) (g : ℕ) (hg : g < 4) (inb : ∀ a, (![g, 0, 0] : Fin 3 → Nat) a + S1x128x128.size a ≤ S4x128x128.size a)
    (i j : Fin 128) : mix ws g inb (ix3 0 i j) = ws (ix3 ⟨g, hg⟩ i j) := by
  unfold mix VecWindow.window
  refine congrArg ws (funext fun a => Fin.ext ?_)
  match a with
  | ⟨0, _⟩ => show g + 1 * 0 = g; omega
  | ⟨1, _⟩ => show 0 + 1 * i.val = i.val; omega
  | ⟨2, _⟩ => show 0 + 1 * j.val = j.val; omega

/-- What a tile's body writes is the layer's output at the tile's rows, when its blocks hold the layer's arguments. -/
theorem yOf_read (xb : Vec Ideal S512x1024 .f32) (gain : Vec Ideal S1x1024 .f32) (lng lnb : Vec Ideal S1x2048 .f32) (ws : Vec Ideal S4x128x128 .f32)
    (bsb : Vec Ideal S128x2048 .f32) (w : Vec Ideal S1024x6144 .bf16) (o : Vec Ideal S2048x1024 .bf16)
    (x : Fin 512 → Fin 1024 → EReal) (G : Fin 1024 → EReal) (lg lb : Fin 2048 → EReal) (Ws : Fin 4 → Fin 128 → Fin 128 → EReal) (Bs : Fin 4 → Fin 128 → EReal)
    (W : Fin 1024 → Fin 6144 → EReal) (Wo : Fin 2048 → Fin 1024 → EReal)
    (hX : ∀ r d, xb (ix2 r d) = x r d) (hG : ∀ d, gain (ix2 0 d) = G d) (hg : ∀ k, lng (ix2 0 k) = lg k) (hl : ∀ k, lnb (ix2 0 k) = lb k)
    (hws : ∀ g i j, ws (ix3 g i j) = Ws g i j) (hb : ∀ (i : Fin 128) (k : Fin 2048), bsb (ix2 i k) = Bs ⟨k.val / 512, by omega⟩ i)
    (hW : ∀ d e, w (ix2 d e) = W d e) (ho : ∀ k d, o (ix2 k d) = Wo k d)
    (hR : ∀ r k, IsR (rowZ G W (x r) k)) (r : Fin 512) (d : Fin 1024) :
    yOf xb gain lng lnb ws bsb w o (ix2 r d)
      = sgu G lg lb Ws Bs W Wo (fun j => x ⟨128 * (r.val / 128) + j.val, by omega⟩) ⟨r.val % 128, by omega⟩ d := by
  have hr := r.isLt
  have eG : (fun d => gain (ix2 0 d)) = G := funext hG
  have eW : (fun d e => w (ix2 d e)) = W := funext fun d => funext fun e => hW d e
  have eX : ∀ r, (fun d => xb (ix2 r d)) = x r := fun r => funext fun d => hX r d
  have er : (⟨128 * (r.val / 128) + r.val % 128, by omega⟩ : Fin 512) = r := Fin.ext (by dsimp only; omega)
  have hm : ∀ (g : ℕ) (hg : g < 4) (inb : ∀ a, (![g, 0, 0] : Fin 3 → Nat) a + S1x128x128.size a ≤ S4x128x128.size a) (i j : Fin 128),
      k0_pay12 (mix ws g inb) (ix2 i j) = lower (Ws ⟨g, hg⟩) i j := by
    intro g hg inb i j
    rw [pay12_read]
    refine congr (congr (congrArg lower (funext fun i => funext fun j => ?_)) rfl) rfl
    rw [mix_read ws g hg, hws]
  rw [yOf_eq, tail_read, pay6_read, hX]
  unfold sgu
  dsimp only
  rw [er]
  refine congrArg (· + _) (Finset.sum_congr rfl fun k _ => ?_)
  have hz := pay10_read xb gain w r k (by rw [eG, eW, eX]; exact hR r k)
  rw [pay8_read, hz, ho, eG, eW, eX,
    mixes_read _ _ _ _ _ bsb Ws Bs (hm 0 (by omega) _) (hm 1 (by omega) _) (hm 2 (by omega) _) (hm 3 (by omega) _) hb r k]
  refine congrArg (fun s : EReal => rowU G W (x r) k * s * silu (rowZ G W (x r) k) * Wo k d) ?_
  refine congr (congr (congrArg (smix Ws Bs) (funext fun j => funext fun k => ?_)) rfl) rfl
  rw [pay11_read]
  refine congr (congr (congr (congrArg lnorm (funext fun k => ?_)) (funext hg)) (funext hl)) rfl
  rw [pay9_read, eG, eW, eX]

end Cert.Kernel2Ideal.Sgu
-- ==== Proof.SguKer.lean ====
module

public import proofs.«01_k».proof.Proof.Gen.Kernel2Ideal.Frame
public import proofs.«01_k».proof.Proof.Gen.Kernel2Ideal.Skeleton
public import Idealize.ShloMosaic.Lib.Pipeline.Value
public import Idealize.ShloMosaic.Lib.KernelVsHost
public import Idealize.ShloMosaic.Lib.Pointwise
public import Idealize.ShloMosaic.Lib.PlanTiles.Rows
public import Idealize.ShloMosaic.Lib.WordArith
public import proofs.«01_k».proof.Proof.SguSpec
public import proofs.«01_k».proof.Proof.SguOut
public import proofs.«01_k».proof.Proof.SguVal

/-! What the spatial-gating call returns, as the layer's arithmetic. -/

@[expose] public section

set_option maxRecDepth 16384

noncomputable section

namespace Cert.Kernel2Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen Cert.Spec

variable (m : (ℓ : Loc nD τ sig) → Buf (Elt Ideal) ℓ)

theorem ix2_eq {n0 n1 : ℕ} (a : Fin n0) (b : Fin n1) : ix2 a b = ValueIdx.ix2 (n0 := n0) (n1 := n1) a b := rfl
theorem ix3_eq {n0 n1 n2 : ℕ} (a : Fin n0) (b : Fin n1) (c : Fin n2) : ix3 a b c = ValueIdx.ix3 (n0 := n0) (n1 := n1) (n2 := n2) a b c := rfl

/-! ## The region's arguments as plain functions -/

/-- The activations, all rows. -/
abbrev aX (c : Dev nD) : Fin 16384 → Fin 1024 → EReal := fun n d => V m c main_v3 (ix2 n d)
/-- The input gain. -/
abbrev aG (c : Dev nD) : Fin 1024 → EReal := fun d => V m c main_v4 (ix2 (0 : Fin 1) d)
/-- The layer norm's gain. -/
abbrev aLg (c : Dev nD) : Fin 2048 → EReal := fun d => V m c main_v5 (ix2 (0 : Fin 1) d)
/-- The layer norm's offset. -/
abbrev aLb (c : Dev nD) : Fin 2048 → EReal := fun d => V m c main_v6 (ix2 (0 : Fin 1) d)
/-- The mixing matrices. -/
abbrev aWs (c : Dev nD) : Fin 4 → Fin 128 → Fin 128 → EReal := fun g i j => V m c main_arg4 (ix3 g i j)
/-- The bias, by group and position, read where the group's first stream has it. -/
abbrev aBs (c : Dev nD) : Fin 4 → Fin 128 → EReal := fun g i => V m c main_v2 (ix2 i (⟨512 * g.val, by omega⟩ : Fin 2048))
/-- The input weight. -/
abbrev aW (c : Dev nD) : Fin 1024 → Fin 6144 → EReal := fun d e => V m c main_arg6 (ix2 d e)
/-- The output weight. -/
abbrev aWo (c : Dev nD) : Fin 2048 → Fin 1024 → EReal := fun k d => V m c main_arg7 (ix2 k d)

theorem pt_of (n : ℕ) (h : n < 40) : (pt n).val = n := by
  unfold pt
  rw [dif_pos (show n < cfg0.N from lt_of_lt_of_eq h (show cfg0.N = 40 from N_0).symm)]

theorem pay2_read (x : Vec Ideal S128x6144 .f32) (r : Fin 128) (e : Fin 6144) : k0_pay2 x (ix2 r e) = x (ix2 r e) := by
  pointwise [k0_pay2, k0_pay1]
theorem pay4_read (x : Vec Ideal S256x1024 .f32) (r : Fin 256) (e : Fin 1024) : k0_pay4 x (ix2 r e) = x (ix2 r e) := by
  pointwise [k0_pay4, k0_pay3]

/-- The resident input weight is the argument. -/
theorem wn_read (c : Dev nD) (d : Fin 1024) (e : Fin 6144) : wn m c (ix2 d e) = aW m c d e := by
  have hd := d.isLt
  have hp := pt_of (d.val / 128) (by omega)
  refine (pay2_read (b7 m c (pt (d.val / 128))) ⟨d.val % 128, by omega⟩ e).trans ?_
  refine (b7_apply m c _ (by omega) _ _).trans ?_
  refine congrArg (V m c main_arg6) ((ix2_eq _ _).symm.trans (congrArg (fun i => ix2 i e) (Fin.ext ?_)))
  show (pt (d.val / 128)).val * 128 + d.val % 128 = d.val
  omega

/-- The resident output weight is the argument. -/
theorem wo_read (c : Dev nD) (d : Fin 2048) (e : Fin 1024) : wo m c (ix2 d e) = aWo m c d e := by
  have hd := d.isLt
  have hp := pt_of (d.val / 256) (by omega)
  refine (pay4_read (b8 m c (pt (d.val / 256))) ⟨d.val % 256, by omega⟩ e).trans ?_
  refine (b8_apply m c _ (by omega) _ _).trans ?_
  refine congrArg (V m c main_arg7) ((ix2_eq _ _).symm.trans (congrArg (fun i => ix2 i e) (Fin.ext ?_)))
  show (pt (d.val / 256)).val * 256 + d.val % 256 = d.val
  omega

/-- A tile is the layer's output at its rows. The bias reaching the call is one vector per group, spread over the group's streams. -/
theorem tileY_read (c : Dev nD) (t : Fin cfg0.N) (ht : 8 ≤ t.val)
    (hB : ∀ (i : Fin 128) (k : Fin 2048), V m c main_v2 (ix2 i k) = aBs m c ⟨k.val / 512, by omega⟩ i)
    (hR : ∀ n k, IsR (rowZ (aG m c) (aW m c) (aX m c n) k)) (r : Fin 512) (d : Fin 1024) :
    tileY m c t (ix2 r d)
      = sgu (aG m c) (aLg m c) (aLb m c) (aWs m c) (aBs m c) (aW m c) (aWo m c)
        (fun j => aX m c ⟨(t.val - 8) * 512 + (128 * (r.val / 128) + j.val), by have := lt40 t; omega⟩) ⟨r.val % 128, by omega⟩ d := by
  unfold tileY
  exact yOf_read _ _ _ _ _ _ _ _ (fun r => aX m c ⟨(t.val - 8) * 512 + r.val, by have := lt40 t; omega⟩) _ _ _ _ _ _ _
    (fun r d => b1_apply m c t ht r d) (fun d => b2_apply m c t 0 d) (fun k => b3_apply m c t 0 k) (fun k => b4_apply m c t 0 k)
    (fun g i j => b5_apply m c t g i j) (fun i k => (b6_apply m c t i k).trans (hB i k)) (fun d e => wn_read m c d e) (fun k d => wo_read m c k d)
    (fun r k => hR _ k) r d

/-- The returned array is the layer's output, row by row. -/
theorem yAll_read (c : Dev nD)
    (hB : ∀ (i : Fin 128) (k : Fin 2048), V m c main_v2 (ix2 i k) = aBs m c ⟨k.val / 512, by omega⟩ i)
    (hR : ∀ n k, IsR (rowZ (aG m c) (aW m c) (aX m c n) k)) (n : Fin 16384) (d : Fin 1024) :
    yAll m c (ix2 n d)
      = sgu (aG m c) (aLg m c) (aLb m c) (aWs m c) (aBs m c) (aW m c) (aWo m c)
        (fun j => aX m c ⟨128 * (n.val / 128) + j.val, by omega⟩) ⟨n.val % 128, by omega⟩ d := by
  have hn := n.isLt
  have hp := pt_of (8 + n.val / 512) (by omega)
  refine (tileY_read m c (pt (8 + n.val / 512)) (by omega) hB hR ⟨n.val % 512, by omega⟩ d).trans ?_
  refine congr (congr (congrArg _ (funext fun j => congrArg (aX m c) (Fin.ext ?_))) (Fin.ext ?_)) rfl
  · show ((pt (8 + n.val / 512)).val - 8) * 512 + (128 * (n.val % 512 / 128) + j.val) = 128 * (n.val / 128) + j.val
    omega
  · show n.val % 512 % 128 = n.val % 128
    omega

end Cert.Kernel2Ideal.Sgu
-- ==== Proof.SguRef.lean ====
module

public import proofs.«01_k».proof.Proof.Gen.Reference2Ideal.Read
public import Idealize.ShloMosaic.Lib.KernelVsHost
public import Idealize.ShloMosaic.Lib.Pointwise
public import Idealize.ShloMosaic.Lib.WordArith
public import proofs.«01_k».proof.Proof.SguSpec
public import proofs.«01_k».proof.Proof.PoolRef

/-! The spatial-gating reference, read as the arithmetic of `SguSpec`. -/

@[expose] public section

set_option maxRecDepth 16384

noncomputable section

namespace Cert.Reference2Ideal.Sgu

open Idealize.ShloMosaic Cert.Reference2Ideal Cert.Reference2Ideal.Gen Cert.Reference2Ideal.Read Cert.Spec
open Cert.ReferenceIdeal.Pool (eq_ix1 eq_ix2 eq_ix3 rX rV rM)

/-- The gelu through the complementary error function. -/
theorem gelu_eq (a : EReal) :
    Ideal.ofBits .f32 0x3F000000#32 * a * Ideal.erfc (-a * Ideal.ofBits .f32 0x3F3504F3#32) = gelu a := by
  unfold gelu
  rw [neg_mul, Ideal.erfc_neg]

section
variable (x0 : (⟨S8x2048x1024, .f32⟩ : BufTy).Contents (Elt Ideal)) (x1 : (⟨S1024, .f32⟩ : BufTy).Contents (Elt Ideal))
  (x2 x3 : (⟨S2048, .f32⟩ : BufTy).Contents (Elt Ideal)) (x4 : (⟨S4x128x128, .f32⟩ : BufTy).Contents (Elt Ideal))
  (x5 : (⟨S4x128, .f32⟩ : BufTy).Contents (Elt Ideal)) (x6 : (⟨S1024x6144, .f32⟩ : BufTy).Contents (Elt Ideal))
  (x7 : (⟨S2048x1024, .f32⟩ : BufTy).Contents (Elt Ideal))

/-- The mixing matrices. -/
abbrev rT : Fin 4 → Fin 128 → Fin 128 → EReal := fun g i j => x4 (ix3 g i j)

/-- The input projection. -/
theorem v13_read (b : Fin 8) (t : Fin 2048) (e : Fin 6144) :
    val_main_v13 (F := Ideal) x0 x1 x6 (ix3 b t e) = sprj (rV x1) (rM x6) (rX x0 b t) e := by
  rw [val_main_v13_apply]
  unfold sprj proj
  refine Finset.sum_congr rfl fun k _ => ?_
  refine congr (congrArg _ ?_) (congrArg x6 (funext fun a => Fin.ext (by match a with | ⟨0, _⟩ => rfl | ⟨1, _⟩ => rfl)))
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, Ideal.mulf_def, Ideal.addf_def, Ideal.hostDivf_def, Ideal.hostUnary_rsqrt_def, Ideal.ofBits_def,
    Ideal.ofBits_zero_f32, zero_add]
  have e1 : lidx_main_v13 (ix3 b t e) k = ix3 b t k := eq_ix3 _ _ _ _ rfl rfl rfl
  have e2 : ∀ j, idx_main_v1 (idx_main_v2 (idx_main_v8 (ix3 b t k))) j = ix3 b t j := fun j => eq_ix3 _ _ _ _ rfl rfl rfl
  have e3 : idx_main_v10 (idx_main_v11 (ix3 b t k)) = ix1 k := eq_ix1 _ _ rfl
  simp only [e1, e2, e3]
  rfl

/-- The first third of the projection. -/
theorem v14_read (b : Fin 8) (t k : Fin 2048) :
    val_main_v14 (F := Ideal) x0 x1 x6 (ix3 b t k) = sprj (rV x1) (rM x6) (rX x0 b t) ⟨k.val, by omega⟩ := by
  rw [val_main_v14_apply, ← v13_read]
  exact congrArg _ (funext fun a => Fin.ext (by match a with | ⟨0, _⟩ => rfl | ⟨1, _⟩ => rfl | ⟨2, _⟩ => rfl))

/-- The second third of the projection. -/
theorem v15_read (b : Fin 8) (t k : Fin 2048) :
    val_main_v15 (F := Ideal) x0 x1 x6 (ix3 b t k) = sprj (rV x1) (rM x6) (rX x0 b t) ⟨2048 + k.val, by omega⟩ := by
  rw [val_main_v15_apply, ← v13_read]
  exact congrArg _ (funext fun a => Fin.ext (by match a with | ⟨0, _⟩ => rfl | ⟨1, _⟩ => rfl | ⟨2, _⟩ => first | rfl | exact Nat.add_comm _ _))

/-- The last third of the projection. -/
theorem v16_read (b : Fin 8) (t k : Fin 2048) :
    val_main_v16 (F := Ideal) x0 x1 x6 (ix3 b t k) = rowZ (rV x1) (rM x6) (rX x0 b t) k := by
  unfold rowZ
  rw [val_main_v16_apply, ← v13_read]
  exact congrArg _ (funext fun a => Fin.ext (by match a with | ⟨0, _⟩ => rfl | ⟨1, _⟩ => rfl | ⟨2, _⟩ => first | rfl | exact Nat.add_comm _ _))

/-- The streams that are gated. -/
theorem v23_read (b : Fin 8) (t k : Fin 2048) :
    val_main_v23 (F := Ideal) x0 x1 x6 (ix3 b t k) = rowU (rV x1) (rM x6) (rX x0 b t) k := by
  unfold rowU
  rw [← v14_read, ← gelu_eq]
  simp only [val_main_v23_apply, val_main_v22_apply, val_main_v21_apply, val_main_v20_apply, val_main_v19_apply, val_main_v18_apply, val_main_v17_apply,
    val_main_cst_2_apply, val_main_cst_3_apply, Ideal.mulf_def, Ideal.hostUnary_erfc_def, Ideal.hostNegf_def, Ideal.negf_def, Ideal.ofBits_def]

/-- The streams that gate, before their norm. -/
theorem v30_read (b : Fin 8) (t k : Fin 2048) :
    val_main_v30 (F := Ideal) x0 x1 x6 (ix3 b t k) = rowV (rV x1) (rM x6) (rX x0 b t) k := by
  unfold rowV
  rw [← v15_read, ← gelu_eq]
  simp only [val_main_v30_apply, val_main_v29_apply, val_main_v28_apply, val_main_v27_apply, val_main_v26_apply, val_main_v25_apply, val_main_v24_apply,
    val_main_cst_4_apply, val_main_cst_5_apply, Ideal.mulf_def, Ideal.hostUnary_erfc_def, Ideal.hostNegf_def, Ideal.negf_def, Ideal.ofBits_def]

/-- The mean of the gating streams. -/
theorem v34_read (b : Fin 8) (t : Fin 2048) :
    val_main_v34 (F := Ideal) x0 x1 x6 (ix3 b t (0 : Fin 1)) = mean (rowV (rV x1) (rM x6) (rX x0 b t)) := by
  unfold mean
  simp only [val_main_v34_apply, val_main_v33_apply, val_main_v32_apply, val_main_v31_apply, val_main_cst_6_apply, val_main_cst_7_apply,
    Ideal.hostDivf_def, Ideal.ofBits_def, Ideal.ofBits_zero_f32, zero_add]
  have e1 : ∀ k, idx_main_v31 (idx_main_v32 (ix3 b t (0 : Fin 1))) k = ix3 b t k := fun k => eq_ix3 _ _ _ _ rfl rfl rfl
  simp only [e1, v30_read]

/-- Their variance. -/
theorem v41_read (b : Fin 8) (t : Fin 2048) :
    val_main_v41 (F := Ideal) x0 x1 x6 (ix3 b t (0 : Fin 1))
      = mean (fun j => (rowV (rV x1) (rM x6) (rX x0 b t) j - mean (rowV (rV x1) (rM x6) (rX x0 b t))) * (rowV (rV x1) (rM x6) (rX x0 b t) j - mean (rowV (rV x1) (rM x6) (rX x0 b t)))) := by
  have e2 : ∀ k : Fin 2048, idx_main_v35 (ix3 b t k) = ix3 b t (0 : Fin 1) := fun k => eq_ix3 _ _ _ _ rfl rfl rfl
  have e1 : ∀ k, idx_main_v38 (idx_main_v39 (ix3 b t (0 : Fin 1))) k = ix3 b t k := fun k => eq_ix3 _ _ _ _ rfl rfl rfl
  rw [show ∀ f : Fin 2048 → EReal, mean f = Ideal.div (∑ k, f k) (Ideal.ofBits .f32 0x45000000#32) from fun _ => rfl]
  simp only [val_main_v41_apply, val_main_v40_apply, val_main_v39_apply, val_main_v38_apply, val_main_cst_8_apply, val_main_cst_9_apply,
    Ideal.hostDivf_def, Ideal.ofBits_def, Ideal.ofBits_zero_f32, zero_add]
  simp only [e1, val_main_v37_apply, val_main_v36_apply, val_main_v35_apply, Ideal.mulf_def, Ideal.subf_def, e2, v34_read, v30_read]

/-- The normalised gating streams. -/
theorem v54_read (b : Fin 8) (t k : Fin 2048) :
    val_main_v54 (F := Ideal) x0 x1 x2 x3 x6 (ix3 b t k) = lnorm (rowV (rV x1) (rM x6) (rX x0 b t)) (rV x2) (rV x3) k := by
  unfold lnorm
  have e1 : idx_main_v42 (ix3 b t k) = ix3 b t (0 : Fin 1) := eq_ix3 _ _ _ _ rfl rfl rfl
  have e2 : idx_main_v47 (ix3 b t k) = ix3 b t (0 : Fin 1) := eq_ix3 _ _ _ _ rfl rfl rfl
  have e3 : idx_main_v49 (idx_main_v50 (ix3 b t k)) = ix1 k := eq_ix1 _ _ rfl
  have e4 : idx_main_v52 (idx_main_v53 (ix3 b t k)) = ix1 k := eq_ix1 _ _ rfl
  simp only [val_main_v54_apply, val_main_v53_apply, val_main_v52_apply, val_main_v51_apply, val_main_v50_apply, val_main_v49_apply, val_main_v48_apply,
    val_main_v47_apply, val_main_v46_apply, val_main_v45_apply, val_main_v44_apply, val_main_v43_apply, val_main_v42_apply, val_main_cst_10_apply,
    Ideal.mulf_def, Ideal.addf_def, Ideal.subf_def, Ideal.hostUnary_rsqrt_def, Ideal.ofBits_def, e1, e2, e3, e4, v30_read, v34_read, v41_read]

/-- The mixing matrices below their diagonals. -/
theorem v58_read (g : Fin 4) (i j : Fin 128) : val_main_v58 (F := Ideal) x4 (ix3 g i j) = lower (rT x4 g) i j := by
  unfold lower
  have h0 : Ideal.ofBits .f32 0x00000000#32 = 0 := Ideal.ofBits_zero_f32
  have hadd : ∀ v : BitVec 32, IntOp.addi v 0#32 = v := fun v => by simp [IntOp.addi]
  simp only [val_main_v58_apply, val_main_call1_v1_apply, val_main_call1_v2_apply, val_main_call1_v0_apply, val_main_cst_11_apply, val_main_v57_apply,
    val_main_v56_apply, val_main_c_apply, val_main_call0_v5_apply, val_main_call0_c_0_apply, val_main_call0_v4_apply, val_main_call0_v3_apply,
    val_main_call0_v2_apply, val_main_call0_v1_apply, val_main_call0_v0_apply, val_main_call0_c_apply, Ideal.ofBits_def, h0, hadd]
  refine Eq.trans (congrArg (fun c => Scalar.select c _ _) (sge_select i.val j.val i.isLt j.isLt (1#1) (0#1))) ?_
  by_cases h : j.val ≤ i.val
  · rw [if_pos h, if_pos h]
    rfl
  · rw [if_neg h, if_neg h]
    rfl

/-- The mixed streams. -/
theorem v65_read (b : Fin 8) (t k : Fin 2048) :
    val_main_v65 (F := Ideal) x0 x1 x2 x3 x4 x5 x6 (ix3 b t k)
      = smix (rT x4) (rM x5) (fun j => lnorm (rowV (rV x1) (rM x6) (rX x0 b ⟨128 * (t.val / 128) + j.val, by omega⟩)) (rV x2) (rV x3)) ⟨t.val % 128, by omega⟩ k := by
  have hb := b.isLt
  have ht := t.isLt
  have hk := k.isLt
  have e0 : ((b.val * 2048 + t.val) * 2048 + k.val) / 4194304 = b.val := by omega
  have e1 : ((b.val * 2048 + t.val) * 2048 + k.val) / 262144 % 16 = t.val / 128 := by omega
  have e2 : ((b.val * 2048 + t.val) * 2048 + k.val) / 2048 % 128 = t.val % 128 := by omega
  have e3 : ((b.val * 2048 + t.val) * 2048 + k.val) / 512 % 4 = k.val / 512 := by omega
  have e4 : ((b.val * 2048 + t.val) * 2048 + k.val) % 512 = k.val % 512 := by omega
  rw [val_main_v65_apply, val_main_v64_apply, Ideal.addf_def, val_main_v60_apply, val_main_v59_apply, val_main_v63_apply, val_main_v62_apply, val_main_v61_apply]
  unfold smix
  refine congr (congrArg HAdd.hAdd (Finset.sum_congr rfl fun j _ => ?_)) ?_
  · have hj := j.isLt
    rw [mul_comm, val_main_v55_apply]
    refine congr (congrArg HMul.hMul ?_) ?_
    · rw [← v58_read]
      refine congrArg _ (eq_ix3 _ _ _ _ ?_ ?_ ?_)
      · exact e3
      · exact e2
      · rfl
    · dsimp only
      rw [← v54_read]
      refine congrArg _ (eq_ix3 _ _ _ _ ?_ ?_ ?_)
      · show ((((((b.val * 2048 + t.val) * 2048 + k.val) / 4194304 * 16 + ((b.val * 2048 + t.val) * 2048 + k.val) / 262144 % 16) * 128 + j.val) * 4 + ((b.val * 2048 + t.val) * 2048 + k.val) / 512 % 4) * 512 + ((b.val * 2048 + t.val) * 2048 + k.val) % 512) / 4194304 = b.val
        rw [e0, e1, e3, e4]; omega
      · show ((((((b.val * 2048 + t.val) * 2048 + k.val) / 4194304 * 16 + ((b.val * 2048 + t.val) * 2048 + k.val) / 262144 % 16) * 128 + j.val) * 4 + ((b.val * 2048 + t.val) * 2048 + k.val) / 512 % 4) * 512 + ((b.val * 2048 + t.val) * 2048 + k.val) % 512) / 2048 % 2048 = 128 * (t.val / 128) + j.val
        rw [e0, e1, e3, e4]; omega
      · show ((((((b.val * 2048 + t.val) * 2048 + k.val) / 4194304 * 16 + ((b.val * 2048 + t.val) * 2048 + k.val) / 262144 % 16) * 128 + j.val) * 4 + ((b.val * 2048 + t.val) * 2048 + k.val) / 512 % 4) * 512 + ((b.val * 2048 + t.val) * 2048 + k.val) % 512) % 2048 = k.val
        rw [e0, e1, e3, e4]; omega
  · refine congrArg x5 (eq_ix2 _ _ _ ?_ ?_)
    · exact e3
    · exact e2

/-- The last third of the projection, through its gate. -/
theorem v67_read (b : Fin 8) (t k : Fin 2048) :
    val_main_v67 (F := Ideal) x0 x1 x6 (ix3 b t k) = silu (rowZ (rV x1) (rM x6) (rX x0 b t) k) := by
  unfold silu
  simp only [val_main_v67_apply, val_main_call2_v5_apply, val_main_call2_v4_apply, val_main_call2_v3_apply, val_main_call2_v2_apply, val_main_call2_v1_apply,
    val_main_call2_v0_apply, val_main_call2_cst_apply, val_main_call2_cst_0_apply, v16_read, Ideal.mulf_def, Ideal.addf_def, Ideal.hostDivf_def,
    Ideal.hostUnary_exp_def, Ideal.hostNegf_def, Ideal.negf_def, Ideal.ofBits_def, Ideal.ofBits_one_f32]

/-- The reference's array, row by row. -/
theorem v71_read (n : Fin 16384) (d : Fin 1024) :
    val_main_v71 (F := Ideal) x0 x1 x2 x3 x4 x5 x6 x7 (ix2 n d)
      = sgu (rV x1) (rV x2) (rV x3) (rT x4) (rM x5) (rM x6) (rM x7)
        (fun j => rX x0 ⟨n.val / 2048, by omega⟩ ⟨128 * (n.val % 2048 / 128) + j.val, by omega⟩) ⟨n.val % 128, by omega⟩ d := by
  have hn := n.isLt
  have hd := d.isLt
  have e0 : idx_main_v71 (ix2 n d) = ix3 (⟨n.val / 2048, by omega⟩ : Fin 8) (⟨n.val % 2048, by omega⟩ : Fin 2048) d := by
    refine eq_ix3 _ _ _ _ ?_ ?_ ?_
    · show (n.val * 1024 + d.val) / 2097152 = n.val / 2048; omega
    · show (n.val * 1024 + d.val) / 1024 % 2048 = n.val % 2048; omega
    · show (n.val * 1024 + d.val) % 1024 = d.val; omega
  have em : (⟨n.val % 2048 % 128, by omega⟩ : Fin 128) = ⟨n.val % 128, by omega⟩ := Fin.ext (by dsimp only; omega)
  have er : (⟨128 * (n.val % 2048 / 128) + n.val % 128, by omega⟩ : Fin 2048) = ⟨n.val % 2048, by omega⟩ := Fin.ext (by dsimp only; omega)
  rw [val_main_v71_apply, e0, val_main_v70_apply, Ideal.addf_def, add_comm, val_main_v69_apply]
  unfold sgu
  dsimp only
  rw [er]
  refine congrArg (· + _) (Finset.sum_congr rfl fun k _ => ?_)
  have e1 : lidx_main_v69 (ix3 (⟨n.val / 2048, by omega⟩ : Fin 8) (⟨n.val % 2048, by omega⟩ : Fin 2048) d) k = ix3 (⟨n.val / 2048, by omega⟩ : Fin 8) (⟨n.val % 2048, by omega⟩ : Fin 2048) k :=
    eq_ix3 _ _ _ _ rfl rfl rfl
  have e2 : ridx_main_v69 (ix3 (⟨n.val / 2048, by omega⟩ : Fin 8) (⟨n.val % 2048, by omega⟩ : Fin 2048) d) k = ix2 k d := eq_ix2 _ _ _ rfl rfl
  rw [e1, e2, val_main_v68_apply, val_main_v66_apply, Ideal.mulf_def, Ideal.mulf_def, v23_read, v65_read, v67_read]
  dsimp only
  rw [em]
end

end Cert.Reference2Ideal.Sgu
-- ==== Proof.SguAlg.lean ====
module

public import proofs.«01_k».proof.Defs
public import proofs.«01_k».proof.Proof.SguKer
public import proofs.«01_k».proof.Proof.SguRef
public import proofs.«01_k».proof.Proof.Gen.Reference2Ideal.Run
public import proofs.«01_k».proof.Proof.Finite
public import Idealize.ShloMosaic.Lib.Quiescent

/-! The spatial-gating call's array and the reference's are equal. -/

@[expose] public section

set_option maxRecDepth 16384

noncomputable section

namespace Cert.SguAlg

open Idealize.ShloMosaic Idealize.ShloMosaic.TcCoe Idealize.SL.Sem Cert.Spec

/-! ## The arguments the host lays out before the call -/

section
open Cert.Kernel2Ideal Cert.Kernel2Ideal.Gen Cert.Kernel2Ideal.Sgu
open Cert.ReferenceIdeal.Pool (eq_ix1 eq_ix2 eq_ix3 rX rV rM)

variable (m : (ℓ : Loc nD τ sig) → Buf (Elt Ideal) ℓ)

/-- The bias as the call finds it. -/
theorem V_main_v2 (c : Dev nD) : V m c main_v2
    = shapeCast S128x2048 (broadcastInDim S128x4x512 ![0, 1] bcast_S128x4_S128x4x512_0_1
        (transpose S128x4 [1, 0] (m ((c : Thread nD τ).loc main_arg5)) transposes_S4x128_S128x4_1_0)) shapeCasts_S128x4x512_S128x2048 := by
  show StableHlo.after hostOps0 _ (Proc.devRef .tc main_v2) = _
  after_results
  rfl
/-- The activations as the call finds them. -/
theorem V_main_v3 (c : Dev nD) : V m c main_v3 = shapeCast S16384x1024 (m ((c : Thread nD τ).loc main_arg0)) shapeCasts_S8x2048x1024_S16384x1024 := by
  show StableHlo.after hostOps0 _ (Proc.devRef .tc main_v3) = _
  after_results
  rfl
/-- The input gain as the call finds it. -/
theorem V_main_v4 (c : Dev nD) : V m c main_v4 = shapeCast S1x1024 (m ((c : Thread nD τ).loc main_arg1)) shapeCasts_S1024_S1x1024 := by
  show StableHlo.after hostOps0 _ (Proc.devRef .tc main_v4) = _
  after_results
  rfl
/-- The layer norm's gain as the call finds it. -/
theorem V_main_v5 (c : Dev nD) : V m c main_v5 = shapeCast S1x2048 (m ((c : Thread nD τ).loc main_arg2)) shapeCasts_S2048_S1x2048 := by
  show StableHlo.after hostOps0 _ (Proc.devRef .tc main_v5) = _
  after_results
  rfl
/-- The layer norm's offset as the call finds it. -/
theorem V_main_v6 (c : Dev nD) : V m c main_v6 = shapeCast S1x2048 (m ((c : Thread nD τ).loc main_arg3)) shapeCasts_S2048_S1x2048 := by
  show StableHlo.after hostOps0 _ (Proc.devRef .tc main_v6) = _
  after_results
  rfl

/-- A vector laid out as one row. -/
theorem row_read {n : ℕ} (v : (⟨1, ![n]⟩ : Shape).Idx → EReal) (h : (⟨1, ![n]⟩ : Shape).ShapeCasts ⟨2, ![1, n]⟩) (d : Fin n) :
    shapeCast ⟨2, ![1, n]⟩ v h (ix2 (0 : Fin 1) d) = v (ix1 d) :=
  shapeCast_apply v h _ _ (by
    rewrite [Shape.rowMajor_val_one, Shape.rowMajor_val_two]
    show d.val = 0 * n + d.val
    omega)

/-- The batches' rows below each other. -/
theorem rows_read (v : (⟨3, ![8, 2048, 1024]⟩ : Shape).Idx → EReal) (h : (⟨3, ![8, 2048, 1024]⟩ : Shape).ShapeCasts ⟨2, ![16384, 1024]⟩) (n : Fin 16384) (d : Fin 1024) :
    shapeCast ⟨2, ![16384, 1024]⟩ v h (ix2 n d) = v (ix3 ⟨n.val / 2048, by omega⟩ ⟨n.val % 2048, by omega⟩ d) :=
  shapeCast_apply v h _ _ (by
    rewrite [Shape.rowMajor_val_three, Shape.rowMajor_val_two]
    show (n.val / 2048 * 2048 + n.val % 2048) * 1024 + d.val = n.val * 1024 + d.val
    omega)

/-- The groups' streams side by side. -/
theorem groups_read (v : (⟨3, ![128, 4, 512]⟩ : Shape).Idx → EReal) (h : (⟨3, ![128, 4, 512]⟩ : Shape).ShapeCasts ⟨2, ![128, 2048]⟩) (i : Fin 128) (k : Fin 2048) :
    shapeCast ⟨2, ![128, 2048]⟩ v h (ix2 i k) = v (ix3 i ⟨k.val / 512, by omega⟩ ⟨k.val % 512, by omega⟩) :=
  shapeCast_apply v h _ _ (by
    rewrite [Shape.rowMajor_val_three, Shape.rowMajor_val_two]
    show (i.val * 4 + k.val / 512) * 512 + k.val % 512 = i.val * 2048 + k.val
    omega)

/-- The bias at a position and a stream is its group's at the position. -/
theorem bias_read (c : Dev nD) (i : Fin 128) (k : Fin 2048) :
    V m c main_v2 (ix2 i k) = rM (m ((c : Thread nD τ).loc main_arg5)) ⟨k.val / 512, by omega⟩ i := by
  rw [V_main_v2]
  refine (groups_read _ _ i k).trans ?_
  refine (broadcastInDim_apply _ bcast_S128x4_S128x4x512_0_1 _ _ (ix2 i (⟨k.val / 512, by omega⟩ : Fin 4)) (fun a => match a with
    | ⟨0, _⟩ => by show i.val = if (128 : Nat) = 1 then 0 else i.val; rw [if_neg (by decide)]
    | ⟨1, _⟩ => by show k.val / 512 = if (4 : Nat) = 1 then 0 else k.val / 512; rw [if_neg (by decide)])).trans ?_
  exact transpose_apply [1, 0] _ transposes_S4x128_S128x4_1_0 _ _ (fun b => match b with
    | ⟨0, _⟩ => rfl
    | ⟨1, _⟩ => rfl)

theorem aX_eq (c : Dev nD) (n : Fin 16384) : aX m c n = rX (m ((c : Thread nD τ).loc main_arg0)) ⟨n.val / 2048, by omega⟩ ⟨n.val % 2048, by omega⟩ := by
  funext d; unfold aX; rw [V_main_v3]; exact rows_read _ _ n d
theorem aG_eq (c : Dev nD) : aG m c = rV (m ((c : Thread nD τ).loc main_arg1)) := by
  funext d; unfold aG; rw [V_main_v4]; exact row_read _ _ d
theorem aLg_eq (c : Dev nD) : aLg m c = rV (m ((c : Thread nD τ).loc main_arg2)) := by
  funext d; unfold aLg; rw [V_main_v5]; exact row_read _ _ d
theorem aLb_eq (c : Dev nD) : aLb m c = rV (m ((c : Thread nD τ).loc main_arg3)) := by
  funext d; unfold aLb; rw [V_main_v6]; exact row_read _ _ d
theorem aWs_eq (c : Dev nD) : aWs m c = Cert.Reference2Ideal.Sgu.rT (m ((c : Thread nD τ).loc main_arg4)) := by
  unfold aWs; rw [V_main_arg4]
theorem aBs_eq (c : Dev nD) : aBs m c = rM (m ((c : Thread nD τ).loc main_arg5)) := by
  funext g i
  refine (bias_read m c i _).trans (congrArg (fun g => rM (m ((c : Thread nD τ).loc main_arg5)) g i) (Fin.ext ?_))
  show 512 * g.val / 512 = g.val
  omega
theorem aW_eq (c : Dev nD) : aW m c = rM (m ((c : Thread nD τ).loc main_arg6)) := by
  unfold aW; rw [V_main_arg6]
theorem aWo_eq (c : Dev nD) : aWo m c = rM (m ((c : Thread nD τ).loc main_arg7)) := by
  unfold aWo; rw [V_main_arg7]

/-- What the precondition says: the activations, the input gain and the input weight are real numbers. -/
theorem real_of_pre [Cert.Pre_finite_sgu.Facts] (hp : Cert.Pre_Kernel2Ideal_finite_sgu m) (c : Dev nD) (n : Fin 16384) (k : Fin 2048) :
    IsR (rowZ (aG m c) (aW m c) (aX m c n) k) := by
  have h := congrFun (hp c) (Shape.Idx.first Cert.Pre_finite_sgu.Facts.h_S_)
  dsimp only [Cert.Pre_finite_sgu.fn] at h
  obtain ⟨h1, h3⟩ := IntOp.andi_eq_one.1 h
  obtain ⟨h1, h2⟩ := IntOp.andi_eq_one.1 h1
  rw [aX_eq, aG_eq, aW_eq]
  unfold rowZ sprj
  exact IsR.proj (fun d => real_of_all _ _ _ _ _ h1 _) (fun d => real_of_all _ _ _ _ _ h2 _) (fun d => real_of_all _ _ _ _ _ h3 _)
end

/-- The frame of the spatial-gating call under the precondition. -/
theorem frame_pre [Cert.Pre_finite_sgu.Facts] : Cert.quiescent_Kernel2Ideal_pre_finite_sgu (hKernel2Ideal := Cert.Kernel2Ideal.Gen.facts) :=
  fun m g _ => Cert.Kernel2Ideal.Sgu.frame m g

/-- The frame of the spatial-gating call. -/
theorem frame_plain : Cert.quiescent_Kernel2Ideal (hKernel2Ideal := Cert.Kernel2Ideal.Gen.facts) :=
  fun m g _ => Cert.Kernel2Ideal.Sgu.frame m g

/-- The reference's frame. -/
theorem frame_ref : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The reference's frame under the precondition. -/
theorem frame_ref_pre [Cert.Pre_finite_sgu.Facts] : Cert.quiescent_Reference2Ideal_pre_finite_sgu (hReference2Ideal := Cert.Reference2Ideal.Gen.facts) :=
  fun m g _ => frame_ref m g trivial

/-- The spatial-gating call's array is the reference's. -/
theorem algebraic [Cert.Pre_finite_sgu.Facts] :
    Cert.algebraic_Kernel2Ideal_Reference2Ideal_pre_finite_sgu (hKernel2Ideal := Cert.Kernel2Ideal.Gen.facts) (hReference2Ideal := Cert.Reference2Ideal.Gen.facts) := by
  intro m g m' g' hp hag
  refine ⟨fun c => Cert.Kernel2Ideal.Sgu.yAll m c, ?_, ?_⟩
  · refine (θ_run Cert.Kernel2Ideal.defs _ _).mono (fun r h c => ?_) (Cert.Kernel2Ideal.Sgu.run_main m g)
    exact ⟨Cert.Kernel2Ideal.Sgu.results m h.1 c, (Cert.Kernel2Ideal.Sgu.unchanged m h).1 c⟩
  · refine (θ_run Cert.Reference2Ideal.defs _ _).mono (fun r h c => ?_) (Cert.Reference2Ideal.Value.run (F := Ideal) m' g')
    obtain ⟨a0, a1, a2, a3, a4, a5, a6, a7⟩ := hag c
    refine ⟨(h c).1.trans ?_, (h c).2⟩
    rw [Cert.Reference2Ideal.Read.val_main_v71_eq, a0, a1, a2, a3, a4, a5, a6, a7]
    funext i
    obtain ⟨n, d, rfl⟩ : ∃ (n : Fin 16384) (d : Fin 1024), i = ix2 n d :=
      ⟨i 0, i 1, Cert.ReferenceIdeal.Pool.eq_ix2 _ _ _ rfl rfl⟩
    have hn := n.isLt
    have hB : ∀ (i : Fin 128) (k : Fin 2048), Cert.Kernel2Ideal.Gen.V m c Cert.Kernel2Ideal.main_v2 (ix2 i k) = Cert.Kernel2Ideal.Sgu.aBs m c ⟨k.val / 512, by omega⟩ i := by
      intro i k
      rw [aBs_eq]
      exact bias_read m c i k
    refine Eq.trans ?_ (Cert.Kernel2Ideal.Sgu.yAll_read m c hB (fun n k => real_of_pre m hp c n k) n d).symm
    refine (Cert.Reference2Ideal.Sgu.v71_read _ _ _ _ _ _ _ _ n d).trans ?_
    rw [aG_eq, aLg_eq, aLb_eq, aWs_eq, aBs_eq, aW_eq, aWo_eq]
    refine congr (congr (congrArg _ (funext fun j => ?_)) rfl) rfl
    have hj := j.isLt
    rw [aX_eq]
    refine congr (congrArg _ (Fin.ext ?_)) (Fin.ext ?_)
    · show n.val / 2048 = (128 * (n.val / 128) + j.val) / 2048
      omega
    · show 128 * (n.val % 2048 / 128) + j.val = (128 * (n.val / 128) + j.val) % 2048
      omega

end Cert.SguAlg
-- ==== Proof.StepBits.lean ====
module

public import proofs.«01_k».proof.Defs
public import proofs.«01_k».proof.Proof.Gen.Kernel3
public import proofs.«01_k».proof.Proof.Gen.Kernel3Ideal.Frame

/-!
The pooling layer's one-token kernel at bit patterns: its text is the idealized one's, so its frame is the one run read there.
-/

@[expose] public section

set_option maxRecDepth 16384
set_option maxHeartbeats 4000000

noncomputable section

namespace Cert.Kernel3.Step

open Idealize.ShloMosaic Idealize.ShloMosaic.TcCoe Idealize.SL.Sem

/-- The two programs' body tables are one. -/
theorem bodies_eq : Cert.Kernel3.defs₀ (F := Bits) = Cert.Kernel3Ideal.defs₀ (F := Bits) := by
  unfold Cert.Kernel3.defs₀ Cert.Kernel3Ideal.defs₀
  refine congrArg _ (funext fun l => ?_)
  fin_cases l
  funext x
  obtain ⟨t, s⟩ := x
  show Cert.Kernel3.cc0_pool_sample _ _ _ _ _ _ _ _ _ _ _ _ _ _ _ _ _ _ _ _
    = Cert.Kernel3Ideal.cc0_pool_sample _ _ _ _ _ _ _ _ _ _ _ _ _ _ _ _ _ _ _ _
  rfl

/-- So are the tables with the pipeline in them. -/
theorem defs_eq : Cert.Kernel3.defs (F := Bits) = Cert.Kernel3Ideal.defs (F := Bits) :=
  congrArg (Pipeline.defs (Cert.Kernel3.pcfgs (F := Bits))) bodies_eq

/-- THE FRAME of the kernel at bit patterns. -/
theorem frame : Cert.quiescent_Kernel3 (hKernel3 := Cert.Kernel3.Gen.facts) := by
  intro m ρ _
  rw [defs_eq]
  exact Cert.Kernel3Ideal.Gen.frame (F := Bits) m ρ

end Cert.Kernel3.Step

end
-- ==== Proof.StepOut.lean ====
module

public import proofs.«01_k».proof.Proof.Gen.Kernel3Ideal.Value
public import proofs.«01_k».proof.Proof.Gen.Kernel3Ideal.Skeleton
public import Idealize.ShloMosaic.Lib.Pointwise

/-! What the pooling layer's one-token call leaves in its two arrays, as terms over its whole arguments. -/

@[expose] public section

set_option maxRecDepth 16384

noncomputable section

namespace Cert.Kernel3Ideal.Step

open Idealize.ShloMosaic Idealize.ShloMosaic.TcCoe Idealize.ShloMosaic.Tactic Idealize.SL.Sem
open Idealize.ShloMosaic.Pipeline (Dat Window)
open Cert.Kernel3Ideal.Gen

variable {F : FTy → Type} [FloatOps F]

/-- A load from a buffer whose contents are known. -/
theorem load_eq {s : Shape} {e : EltTy} (a : Memref sig .tc .vmem s e) (h : a.IsWhole) (x : Vec F s e) (r : Rect s) :
    a.view.readAt (Elt F) r.toLoadRect (h.unread x) = View.ld x r := by
  rw [View.readAt_eq_ld, h.read_unread]

/-- One earlier row's slice of 512 columns. -/
def row (x1 : Vec F S15x128x2048 .f32) (k o : ℕ) (h : ∀ a, (![k, 0, o] : Fin 3 → ℕ) a + (![1, 128, 512] : Fin 3 → ℕ) a ≤ S15x128x2048.size a) : Vec F S1x128x512 .f32 :=
  View.ld x1 (Rect.unit ![k, 0, o] ![1, 128, 512] h)

/-- One group's weight. -/
def wgt (x4 : Vec F S2048x512 .bf16) (o : ℕ) (h : ∀ a, (![o, 0] : Fin 2 → ℕ) a + (![512, 512] : Fin 2 → ℕ) a ≤ S2048x512.size a) : Vec F S512x512 .bf16 :=
  View.ld x4 (Rect.unit ![o, 0] ![512, 512] h)

/-- The four groups' mixed columns, from the projection's first half. -/
def mixOf (x0 : Vec F S128x1024 .f32) (x1 : Vec F S15x128x2048 .f32) (x2 : Vec F S1x1024 .f32) (x3 : Vec F S1024x4096 .bf16) (x4 : Vec F S2048x512 .bf16) :
    FVec F S128x2048 .f32 :=
  k0_pay13
    (k0_pay4 x0 x2 x3 (row x1 14 0 inb_S15x128x2048_S1x128x512_14_0_0))
    (k0_pay8 (k0_pay5 x0 x2 x3) (k0_pay6 x0 x2 x3 (row x1 14 512 inb_S15x128x2048_S1x128x512_14_0_512) (row x1 13 512 inb_S15x128x2048_S1x128x512_13_0_512))
      (k0_pay7 (row x1 12 512 inb_S15x128x2048_S1x128x512_12_0_512)))
    (k0_pay9 (k0_pay2 x0 x2 x3) (row x1 14 1024 inb_S15x128x2048_S1x128x512_14_0_1024) (row x1 13 1024 inb_S15x128x2048_S1x128x512_13_0_1024)
      (row x1 12 1024 inb_S15x128x2048_S1x128x512_12_0_1024) (row x1 11 1024 inb_S15x128x2048_S1x128x512_11_0_1024)
      (row x1 10 1024 inb_S15x128x2048_S1x128x512_10_0_1024) (row x1 9 1024 inb_S15x128x2048_S1x128x512_9_0_1024)
      (row x1 8 1024 inb_S15x128x2048_S1x128x512_8_0_1024))
    (k0_pay10 (k0_pay2 x0 x2 x3))
    (k0_pay12 (k0_pay11 (k0_pay2 x0 x2 x3) (row x1 14 1536 inb_S15x128x2048_S1x128x512_14_0_1536))
      (row x1 13 1536 inb_S15x128x2048_S1x128x512_13_0_1536) (row x1 12 1536 inb_S15x128x2048_S1x128x512_12_0_1536)
      (row x1 11 1536 inb_S15x128x2048_S1x128x512_11_0_1536) (row x1 10 1536 inb_S15x128x2048_S1x128x512_10_0_1536)
      (row x1 9 1536 inb_S15x128x2048_S1x128x512_9_0_1536) (row x1 8 1536 inb_S15x128x2048_S1x128x512_8_0_1536)
      (row x1 7 1536 inb_S15x128x2048_S1x128x512_7_0_1536) (row x1 6 1536 inb_S15x128x2048_S1x128x512_6_0_1536)
      (row x1 5 1536 inb_S15x128x2048_S1x128x512_5_0_1536) (row x1 4 1536 inb_S15x128x2048_S1x128x512_4_0_1536))
    (row x1 3 1536 inb_S15x128x2048_S1x128x512_3_0_1536) (row x1 2 1536 inb_S15x128x2048_S1x128x512_2_0_1536)
    (row x1 1 1536 inb_S15x128x2048_S1x128x512_1_0_1536) (row x1 0 1536 inb_S15x128x2048_S1x128x512_0_0_1536)
    (wgt x4 0 inb_S2048x512_S512x512_0_0) (wgt x4 512 inb_S2048x512_S512x512_512_0) (wgt x4 1024 inb_S2048x512_S512x512_1024_0)
    (wgt x4 1536 inb_S2048x512_S512x512_1536_0)

/-- The call's activations. -/
def yOf (x0 : Vec F S128x1024 .f32) (x1 : Vec F S15x128x2048 .f32) (x2 : Vec F S1x1024 .f32) (x3 : Vec F S1024x4096 .bf16) (x4 : Vec F S2048x512 .bf16)
    (x5 : Vec F S1x2048 .f32) (x6 : Vec F S2048x1024 .bf16) (x7 : Vec F S1x1024 .f32) : FVec F S128x1x1024 .f32 :=
  k0_pay15 x0 (k0_pay3 x0 x2 x3) (mixOf x0 x1 x2 x3 x4) (k0_pay14 x5) x6 x7

/-- The call's new state: the old rows moved up by one, the token's own last. -/
def sOf (x0 : Vec F S128x1024 .f32) (x1 : Vec F S15x128x2048 .f32) (x2 : Vec F S1x1024 .f32) (x3 : Vec F S1024x4096 .bf16) : Vec F S15x128x2048 .f32 :=
  fun j => if h : (j 0).val < 14 then x1 (ValueIdx.ix3 (n0 := 15) (n1 := 128) (n2 := 2048) ⟨(j 0).val + 1, by omega⟩ (j 1) (j 2))
    else k0_pay2 x0 x2 x3 (ValueIdx.ix2 (n0 := 128) (n1 := 2048) (j 1) (j 2))

/-- The token's row, laid out with a leading axis of one. -/
theorem pay17_read (A : FVec F S128x2048 .f32) (u : Fin 1) (b : Fin 128) (d : Fin 2048) :
    k0_pay17 A (ValueIdx.ix3 u b d) = A (ValueIdx.ix2 b d) := by
  unfold k0_pay17
  exact shapeCast_apply A _ _ _ (by
    have hu := u.isLt
    rewrite [Shape.rowMajor_val_three, Shape.rowMajor_val_two]
    show b.val * 2048 + d.val = (u.val * 128 + b.val) * 2048 + d.val
    omega)

/-- The old rows, as loaded. -/
theorem pay16_read (A : Vec F S14x128x2048 .f32) (u : Fin 14) (b : Fin 128) (d : Fin 2048) :
    k0_pay16 A (ValueIdx.ix3 u b d) = A (ValueIdx.ix3 u b d) := by
  unfold k0_pay16
  exact shapeCast_apply A _ _ _ rfl

section
variable (c : Dev nD) (arg0 : Memref sig .tc .vmem S128x1024 .f32) (harg0 : arg0.IsWhole) (arg1 : Memref sig .tc .vmem S15x128x2048 .f32) (harg1 : arg1.IsWhole)
  (arg2 : Memref sig .tc .vmem S1x1024 .f32) (harg2 : arg2.IsWhole) (arg3 : Memref sig .tc .vmem S1024x4096 .bf16) (harg3 : arg3.IsWhole)
  (arg4 : Memref sig .tc .vmem S2048x512 .bf16) (harg4 : arg4.IsWhole) (arg5 : Memref sig .tc .vmem S1x2048 .f32) (harg5 : arg5.IsWhole)
  (arg6 : Memref sig .tc .vmem S2048x1024 .bf16) (harg6 : arg6.IsWhole) (arg7 : Memref sig .tc .vmem S1x1024 .f32) (harg7 : arg7.IsWhole)
  (arg8 : Memref sig .tc .vmem S128x1x1024 .f32) (harg8 : arg8.IsWhole) (arg9 : Memref sig .tc .vmem S15x128x2048 .f32) (harg9 : arg9.IsWhole)
  (x0 : Vec F S128x1024 .f32) (x1 : Vec F S15x128x2048 .f32) (x2 : Vec F S1x1024 .f32) (x3 : Vec F S1024x4096 .bf16) (x4 : Vec F S2048x512 .bf16)
  (x5 : Vec F S1x2048 .f32) (x6 : Vec F S2048x1024 .bf16) (x7 : Vec F S1x1024 .f32)

theorem zero2 : (![0, 0] : Fin 2 → ℕ) = fun _ => 0 := by funext a; fin_cases a <;> rfl
theorem zero3 : (![0, 0, 0] : Fin 3 → ℕ) = fun _ => 0 := by funext a; fin_cases a <;> rfl

theorem ld0 (h) : (View.ld x0 (Rect.unit (s := S128x1024) ![0, 0] ![128, 1024] h) : Vec F S128x1024 _) = x0 := View.ld_unit_zero (S := S128x1024) zero2 h x0
theorem ld2 (h) : (View.ld x2 (Rect.unit (s := S1x1024) ![0, 0] ![1, 1024] h) : Vec F S1x1024 _) = x2 := View.ld_unit_zero (S := S1x1024) zero2 h x2
theorem ld3 (h) : (View.ld x3 (Rect.unit (s := S1024x4096) ![0, 0] ![1024, 4096] h) : Vec F S1024x4096 _) = x3 := View.ld_unit_zero (S := S1024x4096) zero2 h x3
theorem ld5 (h) : (View.ld x5 (Rect.unit (s := S1x2048) ![0, 0] ![1, 2048] h) : Vec F S1x2048 _) = x5 := View.ld_unit_zero (S := S1x2048) zero2 h x5
theorem ld6 (h) : (View.ld x6 (Rect.unit (s := S2048x1024) ![0, 0] ![2048, 1024] h) : Vec F S2048x1024 _) = x6 := View.ld_unit_zero (S := S2048x1024) zero2 h x6

/-- The activations the body leaves. -/
theorem out8_eq : out0_A_8 c arg0 harg0 arg1 harg1 arg2 harg2 arg3 harg3 arg4 harg4 arg5 harg5 arg6 harg6 arg7 harg7 arg8 harg8 arg9 harg9 x0 x1 x2 x3 x4 x5 x6 x7
    = yOf x0 x1 x2 x3 x4 x5 x6 x7 := by
  unfold out0_A_8
  rw [View.read_writes_junk_eq_canon]
  unfold kernelRun0_A
  dsimp only
  refine (View.canon_unit_zero (S := S128x1x1024) zero3 _ _).trans ?_
  unfold kernelRun0_A.sl.r_12 kernelRun0_A.sl.r_13 kernelRun0_A.sl.r_11 kernelRun0_A.sl.r_10 kernelRun0_A.sl.r_9 kernelRun0_A.sl.r_8 kernelRun0_A.sl.r_7
    kernelRun0_A.sl.r_6 kernelRun0_A.sl.r_5 kernelRun0_A.sl.r_4 kernelRun0_A.sl.r_3 kernelRun0_A.sl.r_2 kernelRun0_A.sl.r_1 kernelRun0_A.sl.r
  simp only [load_eq, ld0, ld2, ld3, ld5, ld6]
  unfold yOf mixOf row wgt
  rfl

/-- The state the body leaves. -/
theorem out9_eq : out0_A_9 c arg0 harg0 arg1 harg1 arg2 harg2 arg3 harg3 arg4 harg4 arg5 harg5 arg6 harg6 arg7 harg7 arg8 harg8 arg9 harg9 x0 x1 x2 x3 x4 x5 x6 x7
    = sOf x0 x1 x2 x3 := by
  funext y
  refine Eq.trans ?_ (View.canon_apply_of_pieces (sOf x0 x1 x2 x3)
    (kernelRun0_A c arg0 harg0 arg1 harg1 arg2 harg2 arg3 harg3 arg4 harg4 arg5 harg5 arg6 harg6 arg7 harg7 arg8 harg8 arg9 harg9 x0 x1 x2 x3 x4 x5 x6 x7).2.1
    ?_ y (cover0_A_9 c arg0 harg0 arg1 harg1 arg2 harg2 arg3 harg3 arg4 harg4 arg5 harg5 arg6 harg6 arg7 harg7 arg8 harg8 arg9 harg9 x0 x1 x2 x3 x4 x5 x6 x7 y))
  · unfold out0_A_9
    rw [View.read_writes_junk_eq_canon]
  · unfold kernelRun0_A
    dsimp only
    unfold kernelRun0_A.sl.r_1
    simp only [load_eq, ld0, ld2, ld3]
    intro p hp
    rcases List.mem_cons.mp hp with rfl | hp
    · intro x
      obtain ⟨u, b, d, rfl⟩ : ∃ (u : Fin 1) (b : Fin 128) (d : Fin 2048), x = ValueIdx.ix3 (n0 := 1) (n1 := 128) (n2 := 2048) u b d :=
        ⟨x 0, x 1, x 2, funext fun a => by match a with | ⟨0, _⟩ => rfl | ⟨1, _⟩ => rfl | ⟨2, _⟩ => rfl⟩
      have hu := u.isLt
      unfold sOf
      rw [dif_neg (by show ¬ (14 + 1 * u.val < 14); omega)]
      refine (pay17_read (k0_pay2 x0 x2 x3) u b d).trans (congrArg (k0_pay2 x0 x2 x3) (funext fun a => Fin.ext ?_))
      match a with
      | ⟨0, _⟩ => show b.val = 0 + 1 * b.val; omega
      | ⟨1, _⟩ => show d.val = 0 + 1 * d.val; omega
    · obtain rfl := List.mem_singleton.mp hp
      intro x
      obtain ⟨u, b, d, rfl⟩ : ∃ (u : Fin 14) (b : Fin 128) (d : Fin 2048), x = ValueIdx.ix3 (n0 := 14) (n1 := 128) (n2 := 2048) u b d :=
        ⟨x 0, x 1, x 2, funext fun a => by match a with | ⟨0, _⟩ => rfl | ⟨1, _⟩ => rfl | ⟨2, _⟩ => rfl⟩
      have hu := u.isLt
      unfold sOf
      rw [dif_pos (by show 0 + 1 * u.val < 14; omega)]
      refine (pay16_read (View.ld x1 (Rect.unit (s := S15x128x2048) ![1, 0, 0] ![14, 128, 2048] (by decide))) u b d).trans (congrArg x1 (funext fun a => Fin.ext ?_))
      match a with
      | ⟨0, _⟩ => show 1 + 1 * u.val = 0 + 1 * u.val + 1; omega
      | ⟨1, _⟩ => rfl
      | ⟨2, _⟩ => rfl

end

end Cert.Kernel3Ideal.Step

end
-- ==== Proof.StepSpec.lean ====
module

public import proofs.«01_k».proof.Proof.Spec

/-! The arithmetic of the pooling layer on one new token, whose stream's fifteen earlier rows are given. -/

@[expose] public section

noncomputable section

namespace Cert.Spec

open Idealize.ShloMosaic

/-- The stream `k` positions back from the new token: the token's own value, or one of the fifteen before it. -/
def back (s : Fin 15 → EReal) (u : EReal) (k : ℕ) : EReal := if h : 1 ≤ k ∧ k ≤ 15 then s ⟨15 - k, by omega⟩ else u

/-- The mean of the last `w` values of the stream. -/
def lastMean (s : Fin 15 → EReal) (u : EReal) (w : ℕ) : EReal := Ideal.div (∑ k ∈ Finset.range w, back s u k) ((w : ℝ) : EReal)

/-- The mean of the last `w` values of the stream, less the token's own. -/
def spooled (s : Fin 15 → EReal) (u : EReal) (w : ℕ) : EReal := lastMean s u w - u

/-- The last `w` entries of the sixteen-row stream, in their own order, add up to the same sum. -/
theorem back_sum (s : Fin 15 → EReal) (u : EReal) (w : ℕ) (hw : w ≤ 16) (e : Fin w → EReal)
    (he : ∀ k : Fin w, e k = if h : 16 - w + k.val < 15 then s ⟨16 - w + k.val, h⟩ else u) :
    ∑ k, e k = ∑ k ∈ Finset.range w, back s u k := by
  rw [← Finset.sum_range_reflect, ← Fin.sum_univ_eq_sum_range (fun k => back s u (w - 1 - k)) w]
  refine Finset.sum_congr rfl fun k _ => ?_
  have hk := k.isLt
  rw [he]
  unfold back
  by_cases h : 16 - w + k.val < 15
  · rw [dif_pos h, dif_pos ⟨by omega, by omega⟩]
    congr 2; omega
  · rw [dif_neg h, dif_neg (by omega)]

/-- The pattern `0x3E800000` is one quarter. -/
theorem bits_quarter : Ideal.ofBits .f32 0x3E800000#32 = ((1 / 4 : ℝ) : EReal) := by
  simp [Ideal.ofBits, Ideal.ieee, -EReal.coe_mul]; norm_num
/-- The pattern `0x3E000000` is one eighth. -/
theorem bits_eighth : Ideal.ofBits .f32 0x3E000000#32 = ((1 / 8 : ℝ) : EReal) := by
  simp [Ideal.ofBits, Ideal.ieee, -EReal.coe_mul]; norm_num
/-- The pattern `0x3D800000` is one sixteenth. -/
theorem bits_sixteenth : Ideal.ofBits .f32 0x3D800000#32 = ((1 / 16 : ℝ) : EReal) := by
  simp [Ideal.ofBits, Ideal.ieee, -EReal.coe_mul]; norm_num
/-- The pattern `0x40000000` is 2. -/
theorem bits_2 : Ideal.ofBits .f32 0x40000000#32 = (((2 : ℕ) : ℝ) : EReal) := by
  simp [Ideal.ofBits, Ideal.ieee, -EReal.coe_mul]; norm_num
/-- The pattern `0x40800000` is 4. -/
theorem bits_4 : Ideal.ofBits .f32 0x40800000#32 = (((4 : ℕ) : ℝ) : EReal) := by
  simp [Ideal.ofBits, Ideal.ieee, -EReal.coe_mul]; norm_num
/-- The pattern `0x41000000` is 8. -/
theorem bits_8 : Ideal.ofBits .f32 0x41000000#32 = (((8 : ℕ) : ℝ) : EReal) := by
  simp [Ideal.ofBits, Ideal.ieee, -EReal.coe_mul]; norm_num
/-- The pattern `0x41800000` is 16. -/
theorem bits_16 : Ideal.ofBits .f32 0x41800000#32 = (((16 : ℕ) : ℝ) : EReal) := by
  simp [Ideal.ofBits, Ideal.ieee, -EReal.coe_mul]; norm_num

/-- A sum times the reciprocal of the window is the sum divided by the window. -/
theorem mul_inv_window {x b : EReal} {w : ℕ} (hw : w ≠ 0) (hb : b = ((1 / (w : ℝ) : ℝ) : EReal)) : x * b = Ideal.div x ((w : ℝ) : EReal) := by
  rw [hb, Ideal.div_coe (by exact_mod_cast hw)]

theorem back_zero (s : Fin 15 → EReal) (u : EReal) : back s u 0 = u := dif_neg (by omega)
theorem back_succ (s : Fin 15 → EReal) (u : EReal) (k : ℕ) (h : k < 15) : back s u (k + 1) = s ⟨14 - k, by omega⟩ :=
  (dif_pos ⟨by omega, by omega⟩).trans (congrArg s (Fin.ext (by dsimp only; omega)))

/-- The window of two, added up newest first and multiplied by one half. -/
theorem spooled_2 (s : Fin 15 → EReal) (u : EReal) : spooled s u (2 ^ (0 + 1)) = (u + s 14) * Ideal.ofBits .f32 0x3F000000#32 - u := by
  unfold spooled lastMean
  rw [← mul_inv_window (by decide) (bits_half.trans (by norm_num))]
  norm_num only
  simp only [Finset.sum_range_succ, Finset.sum_range_zero, zero_add, back_zero, back_succ _ _ 0 (by omega)]
  rfl

/-- The window of four, added up newest first and multiplied by one quarter. -/
theorem spooled_4 (s : Fin 15 → EReal) (u : EReal) :
    spooled s u (2 ^ (1 + 1)) = (u + s 14 + s 13 + s 12) * Ideal.ofBits .f32 0x3E800000#32 - u := by
  unfold spooled lastMean
  rw [← mul_inv_window (by decide) (bits_quarter.trans (by norm_num))]
  norm_num only
  simp only [Finset.sum_range_succ, Finset.sum_range_zero, zero_add]
  rfl

/-- The window of eight, added up newest first and multiplied by one eighth. -/
theorem spooled_8 (s : Fin 15 → EReal) (u : EReal) :
    spooled s u (2 ^ (2 + 1)) = (u + s 14 + s 13 + s 12 + s 11 + s 10 + s 9 + s 8) * Ideal.ofBits .f32 0x3E000000#32 - u := by
  unfold spooled lastMean
  rw [← mul_inv_window (by decide) (bits_eighth.trans (by norm_num))]
  norm_num only
  simp only [Finset.sum_range_succ, Finset.sum_range_zero, zero_add]
  rfl

/-- The window of sixteen, added up newest first and multiplied by one sixteenth. -/
theorem spooled_16 (s : Fin 15 → EReal) (u : EReal) :
    spooled s u (2 ^ (3 + 1)) = (u + s 14 + s 13 + s 12 + s 11 + s 10 + s 9 + s 8 + s 7 + s 6 + s 5 + s 4 + s 3 + s 2 + s 1 + s 0)
      * Ideal.ofBits .f32 0x3D800000#32 - u := by
  unfold spooled lastMean
  rw [← mul_inv_window (by decide) (bits_sixteenth.trans (by norm_num))]
  norm_num only
  simp only [Finset.sum_range_succ, Finset.sum_range_zero, zero_add]
  rfl

section Step
variable (x : Fin 1024 → EReal) (st : Fin 15 → Fin 2048 → EReal) (G : Fin 1024 → EReal) (Sc : Fin 2048 → EReal) (Fn : Fin 1024 → EReal)
  (W : Fin 1024 → Fin 4096 → EReal) (Wg : Fin 2048 → Fin 512 → EReal) (Wo : Fin 2048 → Fin 1024 → EReal)

/-- One entry of the token's input projection. -/
def tprj (e : Fin 4096) : EReal := proj x G fun d => W d e

/-- Column `k` of the token's pooled stream. -/
def tpool (k : Fin 2048) : EReal := spooled (fun i => st i k) (tprj x G W ⟨k.val, by omega⟩) (2 ^ (k.val / 512 + 1))

/-- Column `k` of the pooled columns mixed inside the group `k` belongs to. -/
def tmixed (k : Fin 2048) : EReal :=
  ∑ j : Fin 512, tpool x st G W ⟨512 * (k.val / 512) + j.val, by omega⟩ * Wg ⟨512 * (k.val / 512) + j.val, by omega⟩ ⟨k.val % 512, by omega⟩

/-- Column `j` of group `g`'s mixing. -/
theorem tmixed_at (g : ℕ) (hg : g < 4) (j : Fin 512) :
    tmixed x st G W Wg ⟨512 * g + j.val, by omega⟩
      = ∑ i : Fin 512, spooled (fun n => st n ⟨512 * g + i.val, by omega⟩) (tprj x G W ⟨512 * g + i.val, by omega⟩) (2 ^ (g + 1)) * Wg ⟨512 * g + i.val, by omega⟩ j := by
  unfold tmixed tpool
  have hj := j.isLt
  have e1 : (512 * g + j.val) / 512 = g := by omega
  have e2 : (512 * g + j.val) % 512 = j.val := by omega
  simp only [e1, e2]
  refine Finset.sum_congr rfl fun i _ => ?_
  have hi := i.isLt
  have e3 : (512 * g + i.val) / 512 = g := by omega
  simp only [e3]

/-- The mixed columns scaled and gated. -/
def tgated (k : Fin 2048) : EReal := tmixed x st G W Wg k * Sc k * silu (tprj x G W ⟨2048 + k.val, by omega⟩)

/-- The layer's output before the last normalisation. -/
def tres (d : Fin 1024) : EReal := (∑ k, tgated x st G Sc W Wg k * Wo k d) + x d

/-- The layer's output. -/
def tout (d : Fin 1024) : EReal := norm (tres x st G Sc W Wg Wo) Fn d

/-- The new state: the last fourteen of the old rows, then the token's own. -/
def tstate (i : Fin 15) (k : Fin 2048) : EReal := if h : i.val < 14 then st ⟨i.val + 1, by omega⟩ k else tprj x G W ⟨k.val, by omega⟩

end Step

end Cert.Spec
-- ==== Proof.StepVal.lean ====
module

public import proofs.«01_k».proof.Proof.StepOut
public import proofs.«01_k».proof.Proof.StepSpec
public import Idealize.ShloMosaic.Lib.KernelVsHost
public import Idealize.ShloMosaic.Lib.Pointwise

/-! What the pooling layer's one-token call computes, entry by entry. -/

@[expose] public section

set_option maxRecDepth 16384

noncomputable section

namespace Cert.Kernel3Ideal.Step

open Idealize.ShloMosaic Idealize.ShloMosaic.TcCoe Idealize.ShloMosaic.Tactic
open Cert.Kernel3Ideal.Gen Cert.Spec

/-- The input projection. -/
theorem pay1_read (xb : Vec Ideal S128x1024 .f32) (gain : Vec Ideal S1x1024 .f32) (w : Vec Ideal S1024x4096 .bf16) (b : Fin 128) (e : Fin 4096) :
    k0_pay1 xb gain w (ix2 b e) = tprj (fun d => xb (ix2 b d)) (fun d => gain (ix2 0 d)) (fun d e => w (ix2 d e)) e := by
  pointwise [k0_pay1]
  rfl

/-- The pooled half of the projection. -/
theorem pay2_read (xb : Vec Ideal S128x1024 .f32) (gain : Vec Ideal S1x1024 .f32) (w : Vec Ideal S1024x4096 .bf16) (b : Fin 128) (k : Fin 2048) :
    k0_pay2 xb gain w (ix2 b k) = tprj (fun d => xb (ix2 b d)) (fun d => gain (ix2 0 d)) (fun d e => w (ix2 d e)) ⟨k.val, by omega⟩ := by
  rw [← pay1_read]
  unfold k0_pay2
  generalize k0_pay1 xb gain w = A
  pointwise

/-- The gating half of the projection. -/
theorem pay3_read (xb : Vec Ideal S128x1024 .f32) (gain : Vec Ideal S1x1024 .f32) (w : Vec Ideal S1024x4096 .bf16) (b : Fin 128) (k : Fin 2048) :
    k0_pay3 xb gain w (ix2 b k) = tprj (fun d => xb (ix2 b d)) (fun d => gain (ix2 0 d)) (fun d e => w (ix2 d e)) ⟨2048 + k.val, by omega⟩ := by
  rw [← pay1_read]
  unfold k0_pay3
  generalize k0_pay1 xb gain w = A
  pointwise

/-- One earlier row's entry. -/
theorem row_read (x1 : Vec Ideal S15x128x2048 .f32) (k o : ℕ) (h) (b : Fin 128) (c : Fin 512) (hk : k < 15) (ho : o + c.val < 2048) :
    row x1 k o h (ix3 0 b c) = x1 (ix3 ⟨k, hk⟩ b ⟨o + c.val, ho⟩) := by
  unfold row View.ld
  refine congrArg x1 (funext fun a => Fin.ext ?_)
  match a with
  | ⟨0, _⟩ => show k + 1 * 0 = k; omega
  | ⟨1, _⟩ => show 0 + 1 * b.val = b.val; omega
  | ⟨2, _⟩ => show o + 1 * c.val = o + c.val; omega

/-- One entry of a group's weight. -/
theorem wgt_read (x4 : Vec Ideal S2048x512 .bf16) (o : ℕ) (h) (i j : Fin 512) (ho : o + i.val < 2048) :
    wgt x4 o h (ix2 i j) = x4 (ix2 ⟨o + i.val, ho⟩ j) := by
  unfold wgt View.ld
  refine congrArg x4 (funext fun a => Fin.ext ?_)
  match a with
  | ⟨0, _⟩ => show o + 1 * i.val = o + i.val; omega
  | ⟨1, _⟩ => show 0 + 1 * j.val = j.val; omega

/-- The first group's pooled columns. -/
theorem pool0_read (x0 : Vec Ideal S128x1024 .f32) (x2 : Vec Ideal S1x1024 .f32) (x3 : Vec Ideal S1024x4096 .bf16) (r14 : Vec Ideal S1x128x512 .f32)
    (b : Fin 128) (c : Fin 512) :
    k0_pay4 x0 x2 x3 r14 (ix2 b c)
      = (k0_pay2 x0 x2 x3 (ix2 b ⟨512 * 0 + c.val, by omega⟩) + r14 (ix3 0 b c)) * Ideal.ofBits .f32 0x3F000000#32
        - k0_pay2 x0 x2 x3 (ix2 b ⟨512 * 0 + c.val, by omega⟩) := by
  unfold k0_pay4
  generalize k0_pay2 x0 x2 x3 = A
  pointwise

/-- The second group's pooled columns. -/
theorem pool1_read (x0 : Vec Ideal S128x1024 .f32) (x2 : Vec Ideal S1x1024 .f32) (x3 : Vec Ideal S1024x4096 .bf16) (r14 r13 r12 : Vec Ideal S1x128x512 .f32)
    (b : Fin 128) (c : Fin 512) :
    k0_pay8 (k0_pay5 x0 x2 x3) (k0_pay6 x0 x2 x3 r14 r13) (k0_pay7 r12) (ix2 b c)
      = (k0_pay2 x0 x2 x3 (ix2 b ⟨512 * 1 + c.val, by omega⟩) + r14 (ix3 0 b c) + r13 (ix3 0 b c) + r12 (ix3 0 b c)) * Ideal.ofBits .f32 0x3E800000#32
        - k0_pay2 x0 x2 x3 (ix2 b ⟨512 * 1 + c.val, by omega⟩) := by
  unfold k0_pay8 k0_pay6 k0_pay5 k0_pay7
  generalize k0_pay2 x0 x2 x3 = A
  pointwise

/-- The third group's pooled columns. -/
theorem pool2_read (A : FVec Ideal S128x2048 .f32) (r14 r13 r12 r11 r10 r9 r8 : Vec Ideal S1x128x512 .f32) (b : Fin 128) (c : Fin 512) :
    k0_pay9 A r14 r13 r12 r11 r10 r9 r8 (ix2 b c)
      = (A (ix2 b ⟨512 * 2 + c.val, by omega⟩) + r14 (ix3 0 b c) + r13 (ix3 0 b c) + r12 (ix3 0 b c) + r11 (ix3 0 b c) + r10 (ix3 0 b c)
          + r9 (ix3 0 b c) + r8 (ix3 0 b c)) * Ideal.ofBits .f32 0x3E000000#32
        - A (ix2 b ⟨512 * 2 + c.val, by omega⟩) := by
  pointwise [k0_pay9]

/-- The fourth group's running sum, up to the row eleven positions back. -/
theorem pay12_read (A : FVec Ideal S128x2048 .f32) (r14 r13 r12 r11 r10 r9 r8 r7 r6 r5 r4 : Vec Ideal S1x128x512 .f32) (b : Fin 128) (c : Fin 512) :
    k0_pay12 (k0_pay11 A r14) r13 r12 r11 r10 r9 r8 r7 r6 r5 r4 (ix2 b c)
      = A (ix2 b ⟨512 * 3 + c.val, by omega⟩) + r14 (ix3 0 b c) + r13 (ix3 0 b c) + r12 (ix3 0 b c) + r11 (ix3 0 b c) + r10 (ix3 0 b c)
          + r9 (ix3 0 b c) + r8 (ix3 0 b c) + r7 (ix3 0 b c) + r6 (ix3 0 b c) + r5 (ix3 0 b c) + r4 (ix3 0 b c) := by
  pointwise [k0_pay12, k0_pay11, k0_pay10]

/-- The fourth group's pooled columns, from the running sum. -/
def pool3 (v66 v99 : FVec Ideal S128x512 .f32) (v100 v103 v106 v109 : Vec Ideal S1x128x512 .f32) : FVec Ideal S128x512 .f32 :=
  subf (mulf (addf (addf (addf (addf v99 (shapeCast S128x512 v100 shapeCasts_S1x128x512_S128x512)) (shapeCast S128x512 v103 shapeCasts_S1x128x512_S128x512))
    (shapeCast S128x512 v106 shapeCasts_S1x128x512_S128x512)) (shapeCast S128x512 v109 shapeCasts_S1x128x512_S128x512))
    (broadcast S128x512 (Scalar.ofBits .f32 0x3D800000#32))) v66

/-- The fourth group's pooled columns, entry by entry. -/
theorem pool3_read (v66 v99 : FVec Ideal S128x512 .f32) (r3 r2 r1 r0 : Vec Ideal S1x128x512 .f32) (b : Fin 128) (c : Fin 512) :
    pool3 v66 v99 r3 r2 r1 r0 (ix2 b c)
      = (v99 (ix2 b c) + r3 (ix3 0 b c) + r2 (ix3 0 b c) + r1 (ix3 0 b c) + r0 (ix3 0 b c)) * Ideal.ofBits .f32 0x3D800000#32 - v66 (ix2 b c) := by
  pointwise [pool3]

/-- The fourth group's own columns. -/
theorem pay10_read (A : FVec Ideal S128x2048 .f32) (b : Fin 128) (c : Fin 512) : k0_pay10 A (ix2 b c) = A (ix2 b ⟨512 * 3 + c.val, by omega⟩) := by
  pointwise [k0_pay10]

/-- One group's product. -/
def mm (a : FVec Ideal S128x512 .f32) (w : Vec Ideal S512x512 .bf16) : FVec Ideal S128x512 .f32 :=
  matmul dot_S128x512_S512x512_S128x512_1_0_0_1_n_n none (truncf .bf16 a bitsLt_bf16_f32 : FVec Ideal S128x512 .bf16)
    (shapeCast S512x512 w shapeCasts_S512x512_S512x512 : FVec Ideal S512x512 .bf16) (constant S128x512 .f32 0x00000000#32)

/-- One group's product, entry by entry. -/
theorem mm_read (a : FVec Ideal S128x512 .f32) (w : Vec Ideal S512x512 .bf16) (b : Fin 128) (j : Fin 512) :
    mm a w (ix2 b j) = ∑ i : Fin 512, a (ix2 b i) * w (ix2 i j) := by
  pointwise [mm]

/-- Four groups side by side. -/
def cat (a b c d : FVec Ideal S128x512 .f32) : FVec Ideal S128x2048 .f32 :=
  concatenate S128x2048 1 [⟨S128x512, a⟩, ⟨S128x512, b⟩, ⟨S128x512, c⟩, ⟨S128x512, d⟩] concatenates_S128x512_S128x512_S128x512_S128x512_S128x2048_d1

/-- Reading four groups side by side. -/
theorem cat_read (a b c d : FVec Ideal S128x512 .f32) (r : Fin 128) (M : Fin 2048 → EReal)
    (ha : ∀ j : Fin 512, a (ix2 r j) = M ⟨512 * 0 + j.val, by omega⟩) (hb : ∀ j : Fin 512, b (ix2 r j) = M ⟨512 * 1 + j.val, by omega⟩)
    (hc : ∀ j : Fin 512, c (ix2 r j) = M ⟨512 * 2 + j.val, by omega⟩) (hd : ∀ j : Fin 512, d (ix2 r j) = M ⟨512 * 3 + j.val, by omega⟩) (k : Fin 2048) :
    cat a b c d (ix2 r k) = M k := by
  have hk := k.isLt
  pointwise [cat]
  split_ifs
  all_goals first
    | exact (ha _).trans (congrArg M (Fin.ext (by dsimp only; omega)))
    | exact (hb _).trans (congrArg M (Fin.ext (by dsimp only; omega)))
    | exact (hc _).trans (congrArg M (Fin.ext (by dsimp only; omega)))
    | exact (hd _).trans (congrArg M (Fin.ext (by dsimp only; omega)))

/-- The mixed columns as four products side by side. -/
theorem pay13_eq (v27 v40 v65 v66 v99 : FVec Ideal S128x512 .f32) (r3 r2 r1 r0 : Vec Ideal S1x128x512 .f32) (w0 w1 w2 w3 : Vec Ideal S512x512 .bf16) :
    k0_pay13 v27 v40 v65 v66 v99 r3 r2 r1 r0 w0 w1 w2 w3 = cat (mm v27 w0) (mm v40 w1) (mm v65 w2) (mm (pool3 v66 v99 r3 r2 r1 r0) w3) := rfl

/-- Scale, gate, output product, residual and the last normalisation. -/
theorem pay15_read (x : Vec Ideal S128x1024 .f32) (z mx : FVec Ideal S128x2048 .f32) (sc : FVec Ideal S1x2048 .f32) (o : Vec Ideal S2048x1024 .bf16)
    (fn : Vec Ideal S1x1024 .f32) (b : Fin 128) (u : Fin 1) (d : Fin 1024) :
    k0_pay15 x z mx sc o fn (ix3 b u d)
      = norm (fun d => (∑ k : Fin 2048, mx (ix2 b k) * sc (ix2 0 k)
          * (Ideal.ofBits .f32 0x3F000000#32 * z (ix2 b k) + Ideal.ofBits .f32 0x3F000000#32 * z (ix2 b k) * Ideal.tanh (Ideal.ofBits .f32 0x3F000000#32 * z (ix2 b k)))
          * o (ix2 k d)) + x (ix2 b d)) (fun d => fn (ix2 0 d)) d := by
  pointwise [k0_pay15]
  rfl

theorem pay14_read (sc : Vec Ideal S1x2048 .f32) (k : Fin 2048) : k0_pay14 sc (ix2 0 k) = sc (ix2 0 k) := by
  pointwise [k0_pay14]

section
variable (x0 : Vec Ideal S128x1024 .f32) (x1 : Vec Ideal S15x128x2048 .f32) (x2 : Vec Ideal S1x1024 .f32) (x3 : Vec Ideal S1024x4096 .bf16)
  (x4 : Vec Ideal S2048x512 .bf16) (x5 : Vec Ideal S1x2048 .f32) (x6 : Vec Ideal S2048x1024 .bf16) (x7 : Vec Ideal S1x1024 .f32)
  (x : Fin 128 → Fin 1024 → EReal) (st : Fin 128 → Fin 15 → Fin 2048 → EReal) (G : Fin 1024 → EReal) (Sc : Fin 2048 → EReal) (Fn : Fin 1024 → EReal)
  (W : Fin 1024 → Fin 4096 → EReal) (Wg : Fin 2048 → Fin 512 → EReal) (Wo : Fin 2048 → Fin 1024 → EReal)
  (h0 : ∀ b d, x0 (ix2 b d) = x b d) (h1 : ∀ n b k, x1 (ix3 n b k) = st b n k) (h2 : ∀ d, x2 (ix2 0 d) = G d) (h3 : ∀ d e, x3 (ix2 d e) = W d e)
  (h4 : ∀ k j, x4 (ix2 k j) = Wg k j) (h5 : ∀ k, x5 (ix2 0 k) = Sc k) (h6 : ∀ k d, x6 (ix2 k d) = Wo k d) (h7 : ∀ d, x7 (ix2 0 d) = Fn d)

include h0 h1 h2 h3

theorem own (b : Fin 128) (k : Fin 2048) : k0_pay2 x0 x2 x3 (ix2 b k) = tprj (x b) G W ⟨k.val, by omega⟩ := by
  rw [pay2_read]; simp only [h0, h2, h3]

theorem gate (b : Fin 128) (k : Fin 2048) : k0_pay3 x0 x2 x3 (ix2 b k) = tprj (x b) G W ⟨2048 + k.val, by omega⟩ := by
  rw [pay3_read]; simp only [h0, h2, h3]

include h4 in
/-- The mixed columns are the layer's. -/
theorem mixOf_read (b : Fin 128) (k : Fin 2048) : mixOf x0 x1 x2 x3 x4 (ix2 b k) = tmixed (x b) (st b) G W Wg k := by
  have hr : ∀ (n o : ℕ) (h) (c : Fin 512) (hn : n < 15) (ho : o + c.val < 2048), row x1 n o h (ix3 0 b c) = st b ⟨n, hn⟩ ⟨o + c.val, ho⟩ :=
    fun n o h c hn ho => (row_read x1 n o h b c hn ho).trans (h1 _ _ _)
  have hw : ∀ (o : ℕ) (h) (i j : Fin 512) (ho : o + i.val < 2048), wgt x4 o h (ix2 i j) = Wg ⟨o + i.val, ho⟩ j :=
    fun o h i j ho => (wgt_read x4 o h i j ho).trans (h4 _ _)
  have ho := own x0 x1 x2 x3 x st G W h0 h1 h2 h3 b
  unfold mixOf
  rw [pay13_eq]
  refine cat_read _ _ _ _ b _ ?_ ?_ ?_ ?_ k
  · intro j
    rw [mm_read, tmixed_at (x b) (st b) G W Wg 0 (by omega) j]
    refine Finset.sum_congr rfl fun i _ => congr (congrArg _ ?_) (hw 0 _ i j (by omega))
    rw [pool0_read, ho, hr 14 0 _ i (by omega) (by omega), spooled_2]
    rfl
  · intro j
    rw [mm_read, tmixed_at (x b) (st b) G W Wg 1 (by omega) j]
    refine Finset.sum_congr rfl fun i _ => congr (congrArg _ ?_) (hw 512 _ i j (by omega))
    rw [pool1_read, ho, hr 14 512 _ i (by omega) (by omega), hr 13 512 _ i (by omega) (by omega), hr 12 512 _ i (by omega) (by omega), spooled_4]
    rfl
  · intro j
    rw [mm_read, tmixed_at (x b) (st b) G W Wg 2 (by omega) j]
    refine Finset.sum_congr rfl fun i _ => congr (congrArg _ ?_) (hw 1024 _ i j (by omega))
    rw [pool2_read, ho, hr 14 1024 _ i (by omega) (by omega), hr 13 1024 _ i (by omega) (by omega), hr 12 1024 _ i (by omega) (by omega),
      hr 11 1024 _ i (by omega) (by omega), hr 10 1024 _ i (by omega) (by omega), hr 9 1024 _ i (by omega) (by omega),
      hr 8 1024 _ i (by omega) (by omega), spooled_8]
    rfl
  · intro j
    rw [mm_read, tmixed_at (x b) (st b) G W Wg 3 (by omega) j]
    refine Finset.sum_congr rfl fun i _ => congr (congrArg _ ?_) (hw 1536 _ i j (by omega))
    rw [pool3_read, pay12_read, pay10_read, ho, hr 14 1536 _ i (by omega) (by omega), hr 13 1536 _ i (by omega) (by omega), hr 12 1536 _ i (by omega) (by omega),
      hr 11 1536 _ i (by omega) (by omega), hr 10 1536 _ i (by omega) (by omega), hr 9 1536 _ i (by omega) (by omega),
      hr 8 1536 _ i (by omega) (by omega), hr 7 1536 _ i (by omega) (by omega), hr 6 1536 _ i (by omega) (by omega), hr 5 1536 _ i (by omega) (by omega),
      hr 4 1536 _ i (by omega) (by omega), hr 3 1536 _ i (by omega) (by omega), hr 2 1536 _ i (by omega) (by omega), hr 1 1536 _ i (by omega) (by omega),
      hr 0 1536 _ i (by omega) (by omega), spooled_16]
    rfl

include h4 h5 h6 h7 in
/-- The activations are the layer's. -/
theorem yOf_read (hR : ∀ b e, IsR (tprj (x b) G W e)) (b : Fin 128) (u : Fin 1) (d : Fin 1024) :
    yOf x0 x1 x2 x3 x4 x5 x6 x7 (ix3 b u d) = tout (x b) (st b) G Sc Fn W Wg Wo d := by
  unfold yOf
  rw [pay15_read]
  unfold tout
  refine congr (congr (congrArg Spec.norm (funext fun d => ?_)) (funext h7)) rfl
  unfold tres
  rw [h0]
  refine congrArg (· + _) (Finset.sum_congr rfl fun k _ => ?_)
  rw [mixOf_read x0 x1 x2 x3 x4 x st G W Wg h0 h1 h2 h3 h4 b k, pay14_read, h5, h6, gate x0 x1 x2 x3 x st G W h0 h1 h2 h3 b k, silu_eq (hR _ _)]
  rfl

/-- The new state is the layer's. -/
theorem sOf_read (n : Fin 15) (b : Fin 128) (k : Fin 2048) : sOf x0 x1 x2 x3 (ix3 n b k) = tstate (x b) (st b) G W n k := by
  unfold sOf tstate
  by_cases h : n.val < 14
  · rw [dif_pos h]
    exact (dif_pos h).trans (h1 _ _ _)
  · rw [dif_neg h]
    exact (dif_neg h).trans (own x0 x1 x2 x3 x st G W h0 h1 h2 h3 b k)

end

end Cert.Kernel3Ideal.Step

end
-- ==== Proof.StepRef.lean ====
module

public import proofs.«01_k».proof.Proof.Gen.Reference3Ideal.Read
public import proofs.«01_k».proof.Proof.PoolRef
public import proofs.«01_k».proof.Proof.StepSpec

/-! The one-token pooling reference, read as the arithmetic of `StepSpec`. -/

@[expose] public section

set_option maxRecDepth 16384

noncomputable section

namespace Cert.Reference3Ideal.Step

open Idealize.ShloMosaic Cert.Reference3Ideal Cert.Reference3Ideal.Gen Cert.Reference3Ideal.Read Cert.Spec
open Cert.ReferenceIdeal.Pool (eq_ix1 eq_ix2 eq_ix3 rV rM rG)

section
variable (x0 : (⟨S128x1024, .f32⟩ : BufTy).Contents (Elt Ideal)) (x1 : (⟨S128x15x2048, .f32⟩ : BufTy).Contents (Elt Ideal))
  (x2 : (⟨S1024, .f32⟩ : BufTy).Contents (Elt Ideal)) (x3 : (⟨S2048, .f32⟩ : BufTy).Contents (Elt Ideal)) (x4 : (⟨S1024, .f32⟩ : BufTy).Contents (Elt Ideal))
  (x5 : (⟨S1024x4096, .f32⟩ : BufTy).Contents (Elt Ideal)) (x6 : (⟨S4x512x512, .f32⟩ : BufTy).Contents (Elt Ideal))
  (x7 : (⟨S2048x1024, .f32⟩ : BufTy).Contents (Elt Ideal))

/-- One sequence's token. -/
abbrev sX (b : Fin 128) : Fin 1024 → EReal := fun d => x0 (ix2 b d)
/-- One sequence's fifteen earlier rows. -/
abbrev sT (b : Fin 128) : Fin 15 → Fin 2048 → EReal := fun n k => x1 (ix3 b n k)

/-- The input projection. -/
theorem v13_read (b : Fin 128) (e : Fin 4096) :
    val_main_v13 (F := Ideal) x0 x2 x5 (ix2 b e) = tprj (sX x0 b) (rV x2) (rM x5) e := by
  rw [val_main_v13_apply]
  unfold tprj proj
  refine Finset.sum_congr rfl fun k _ => ?_
  refine congr (congrArg _ ?_) (congrArg x5 (funext fun a => Fin.ext (by match a with | ⟨0, _⟩ => rfl | ⟨1, _⟩ => rfl)))
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, Ideal.mulf_def, Ideal.addf_def, Ideal.hostDivf_def, Ideal.hostUnary_rsqrt_def, Ideal.ofBits_def,
    Ideal.ofBits_zero_f32, zero_add]
  have e1 : lidx_main_v13 (ix2 b e) k = ix2 b k := eq_ix2 _ _ _ rfl rfl
  have e2 : ∀ j, idx_main_v1 (idx_main_v2 (idx_main_v8 (ix2 b k))) j = ix2 b j := fun j => eq_ix2 _ _ _ rfl rfl
  have e3 : idx_main_v10 (idx_main_v11 (ix2 b k)) = ix1 k := eq_ix1 _ _ rfl
  simp only [e1, e2, e3]
  rfl

/-- The pooled half. -/
theorem v14_read (b : Fin 128) (k : Fin 2048) :
    val_main_v14 (F := Ideal) x0 x2 x5 (ix2 b k) = tprj (sX x0 b) (rV x2) (rM x5) ⟨k.val, by omega⟩ := by
  rw [val_main_v14_apply, ← v13_read]
  exact congrArg _ (funext fun a => Fin.ext (by match a with | ⟨0, _⟩ => rfl | ⟨1, _⟩ => rfl))

/-- The gating half. -/
theorem v15_read (b : Fin 128) (k : Fin 2048) :
    val_main_v15 (F := Ideal) x0 x2 x5 (ix2 b k) = tprj (sX x0 b) (rV x2) (rM x5) ⟨2048 + k.val, by omega⟩ := by
  rw [val_main_v15_apply, ← v13_read]
  exact congrArg _ (funext fun a => Fin.ext (by match a with | ⟨0, _⟩ => rfl | ⟨1, _⟩ => rfl))

/-- The sixteen rows: the fifteen earlier ones, then the token's own. -/
theorem v17_read (b : Fin 128) (n : Fin 16) (k : Fin 2048) :
    val_main_v17 (F := Ideal) x0 x1 x2 x5 (ix3 b n k)
      = if h : n.val < 15 then sT x1 b ⟨n.val, h⟩ k else tprj (sX x0 b) (rV x2) (rM x5) ⟨k.val, by omega⟩ := by
  have hn := n.isLt
  unfold val_main_v17
  have h16 : ∀ u : Fin 1, val_main_v16 (F := Ideal) x0 x2 x5 (ix3 b u k) = tprj (sX x0 b) (rV x2) (rM x5) ⟨k.val, by omega⟩ := by
    intro u
    rw [val_main_v16_apply, ← v14_read]
    exact congrArg _ (eq_ix2 _ _ _ rfl rfl)
  generalize val_main_v16 (F := Ideal) x0 x2 x5 = A at *
  pointwise
  by_cases h : n.val < 15
  · rw [dif_pos h, dif_pos h]
  · rw [dif_neg h, dif_neg h]
    exact h16 _

/-- Group 0: the mean of the last 2 rows. -/
theorem v21_read (b : Fin 128) (c : Fin 512) :
    val_main_v21 (F := Ideal) x0 x1 x2 x5 (ix2 b c)
      = lastMean (fun n => sT x1 b n ⟨512 * 0 + c.val, by omega⟩) (tprj (sX x0 b) (rV x2) (rM x5) ⟨512 * 0 + c.val, by omega⟩) 2 := by
  have hc := c.isLt
  rw [val_main_v21_apply, val_main_v19_apply, val_main_cst_2_apply, val_main_v20_apply, val_main_cst_3_apply]
  simp only [Ideal.hostDivf_def, Ideal.ofBits_def, Ideal.ofBits_zero_f32, zero_add]
  refine congr (congrArg Ideal.div (back_sum _ _ 2 (by decide) _ fun k => ?_)) bits_2
  have e : idx_main_v18 (idx_main_v19 (ix2 b c) k) = ix3 b ⟨16 - 2 + k.val, by omega⟩ ⟨512 * 0 + c.val, by omega⟩ :=
    eq_ix3 _ _ _ _ rfl (by show _ = 16 - 2 + k.val; first | rfl | exact (Nat.zero_add _).symm) (by show _ = 512 * 0 + c.val; first | rfl | exact (Nat.zero_add _).symm)
  rw [val_main_v18_apply, e, v17_read]

/-- Group 1: the mean of the last 4 rows. -/
theorem v25_read (b : Fin 128) (c : Fin 512) :
    val_main_v25 (F := Ideal) x0 x1 x2 x5 (ix2 b c)
      = lastMean (fun n => sT x1 b n ⟨512 * 1 + c.val, by omega⟩) (tprj (sX x0 b) (rV x2) (rM x5) ⟨512 * 1 + c.val, by omega⟩) 4 := by
  have hc := c.isLt
  rw [val_main_v25_apply, val_main_v23_apply, val_main_cst_4_apply, val_main_v24_apply, val_main_cst_5_apply]
  simp only [Ideal.hostDivf_def, Ideal.ofBits_def, Ideal.ofBits_zero_f32, zero_add]
  refine congr (congrArg Ideal.div (back_sum _ _ 4 (by decide) _ fun k => ?_)) bits_4
  have e : idx_main_v22 (idx_main_v23 (ix2 b c) k) = ix3 b ⟨16 - 4 + k.val, by omega⟩ ⟨512 * 1 + c.val, by omega⟩ :=
    eq_ix3 _ _ _ _ rfl (by show _ = 16 - 4 + k.val; first | rfl | exact (Nat.zero_add _).symm) (by show _ = 512 * 1 + c.val; first | rfl | exact (Nat.zero_add _).symm)
  rw [val_main_v22_apply, e, v17_read]

/-- Group 2: the mean of the last 8 rows. -/
theorem v29_read (b : Fin 128) (c : Fin 512) :
    val_main_v29 (F := Ideal) x0 x1 x2 x5 (ix2 b c)
      = lastMean (fun n => sT x1 b n ⟨512 * 2 + c.val, by omega⟩) (tprj (sX x0 b) (rV x2) (rM x5) ⟨512 * 2 + c.val, by omega⟩) 8 := by
  have hc := c.isLt
  rw [val_main_v29_apply, val_main_v27_apply, val_main_cst_6_apply, val_main_v28_apply, val_main_cst_7_apply]
  simp only [Ideal.hostDivf_def, Ideal.ofBits_def, Ideal.ofBits_zero_f32, zero_add]
  refine congr (congrArg Ideal.div (back_sum _ _ 8 (by decide) _ fun k => ?_)) bits_8
  have e : idx_main_v26 (idx_main_v27 (ix2 b c) k) = ix3 b ⟨16 - 8 + k.val, by omega⟩ ⟨512 * 2 + c.val, by omega⟩ :=
    eq_ix3 _ _ _ _ rfl (by show _ = 16 - 8 + k.val; first | rfl | exact (Nat.zero_add _).symm) (by show _ = 512 * 2 + c.val; first | rfl | exact (Nat.zero_add _).symm)
  rw [val_main_v26_apply, e, v17_read]

/-- Group 3: the mean of the last 16 rows. -/
theorem v33_read (b : Fin 128) (c : Fin 512) :
    val_main_v33 (F := Ideal) x0 x1 x2 x5 (ix2 b c)
      = lastMean (fun n => sT x1 b n ⟨512 * 3 + c.val, by omega⟩) (tprj (sX x0 b) (rV x2) (rM x5) ⟨512 * 3 + c.val, by omega⟩) 16 := by
  have hc := c.isLt
  rw [val_main_v33_apply, val_main_v31_apply, val_main_cst_8_apply, val_main_v32_apply, val_main_cst_9_apply]
  simp only [Ideal.hostDivf_def, Ideal.ofBits_def, Ideal.ofBits_zero_f32, zero_add]
  refine congr (congrArg Ideal.div (back_sum _ _ 16 (by decide) _ fun k => ?_)) bits_16
  have e : idx_main_v30 (idx_main_v31 (ix2 b c) k) = ix3 b ⟨16 - 16 + k.val, by omega⟩ ⟨512 * 3 + c.val, by omega⟩ :=
    eq_ix3 _ _ _ _ rfl (by show _ = 16 - 16 + k.val; first | rfl | exact (Nat.zero_add _).symm) (by show _ = 512 * 3 + c.val; first | rfl | exact (Nat.zero_add _).symm)
  rw [val_main_v30_apply, e, v17_read]

/-- The four groups' means side by side, less the token's own row. -/
theorem v35_read (b : Fin 128) (k : Fin 2048) :
    val_main_v35 (F := Ideal) x0 x1 x2 x5 (ix2 b k) = tpool (sX x0 b) (sT x1 b) (rV x2) (rM x5) k := by
  obtain ⟨g, j, rfl⟩ : ∃ (g : Fin 4) (j : Fin 512), k = ⟨512 * g.val + j.val, by omega⟩ :=
    ⟨⟨k.val / 512, by omega⟩, ⟨k.val % 512, by omega⟩, Fin.ext (by dsimp only; omega)⟩
  have hj := j.isLt
  unfold tpool
  have eg : (512 * g.val + j.val) / 512 = g.val := by omega
  simp only [eg]
  rw [val_main_v35_apply, v14_read, Ideal.subf_def]
  unfold spooled
  refine congrArg (fun z : EReal => z - _) ?_
  unfold val_main_v34
  have h0 := v21_read x0 x1 x2 x5 b j
  have h1 := v25_read x0 x1 x2 x5 b j
  have h2 := v29_read x0 x1 x2 x5 b j
  have h3 := v33_read x0 x1 x2 x5 b j
  generalize val_main_v21 (F := Ideal) x0 x1 x2 x5 = A0 at *
  generalize val_main_v25 (F := Ideal) x0 x1 x2 x5 = A1 at *
  generalize val_main_v29 (F := Ideal) x0 x1 x2 x5 = A2 at *
  generalize val_main_v33 (F := Ideal) x0 x1 x2 x5 = A3 at *
  have key : ∀ (A : FVec Ideal S128x512 .f32) (k : ℕ) (hk : k < 512), k = j.val → A (ix2 b ⟨k, hk⟩) = A (ix2 b j) := by
    intro A k hk e; subst e; rfl
  pointwise
  match g with
  | ⟨0, _⟩ =>
    refine Eq.trans ?_ h0
    split_ifs <;> first | exact key _ _ _ (by dsimp only; omega) | (exfalso; dsimp only at *; omega)
  | ⟨1, _⟩ =>
    refine Eq.trans ?_ h1
    split_ifs <;> first | exact key _ _ _ (by dsimp only; omega) | (exfalso; dsimp only at *; omega)
  | ⟨2, _⟩ =>
    refine Eq.trans ?_ h2
    split_ifs <;> first | exact key _ _ _ (by dsimp only; omega) | (exfalso; dsimp only at *; omega)
  | ⟨3, _⟩ =>
    refine Eq.trans ?_ h3
    split_ifs <;> first | exact key _ _ _ (by dsimp only; omega) | (exfalso; dsimp only at *; omega)

/-- The grouped projection of the pooled columns. -/
theorem v39_read (b : Fin 128) (k : Fin 2048) :
    val_main_v39 (F := Ideal) x0 x1 x2 x5 x6 (ix2 b k) = tmixed (sX x0 b) (sT x1 b) (rV x2) (rM x5) (rG x6) k := by
  have hb := b.isLt
  have hk := k.isLt
  rw [val_main_v39_apply, val_main_v38_apply, val_main_v37_apply]
  unfold tmixed
  refine Finset.sum_congr rfl fun j _ => ?_
  have hj := j.isLt
  rw [mul_comm, val_main_v36_apply]
  have e1 : idx_main_v36 (ridx_main_v37 (idx_main_v38 (idx_main_v39 (ix2 b k))) j) = ix2 b ⟨512 * (k.val / 512) + j.val, by omega⟩ := by
    refine eq_ix2 _ _ _ ?_ ?_
    · show (((b.val * 2048 + k.val) / 2048 * 4 + (b.val * 2048 + k.val) / 512 % 4) * 512 + j.val) / 2048 = b.val
      omega
    · show (((b.val * 2048 + k.val) / 2048 * 4 + (b.val * 2048 + k.val) / 512 % 4) * 512 + j.val) % 2048 = 512 * (k.val / 512) + j.val
      omega
  have e2 : lidx_main_v37 (idx_main_v38 (idx_main_v39 (ix2 b k))) j
      = ix3 ⟨(512 * (k.val / 512) + j.val) / 512, by omega⟩ ⟨(512 * (k.val / 512) + j.val) % 512, by omega⟩ ⟨k.val % 512, by omega⟩ := by
    refine eq_ix3 _ _ _ _ ?_ ?_ ?_
    · show (b.val * 2048 + k.val) / 512 % 4 = (512 * (k.val / 512) + j.val) / 512
      omega
    · show j.val = (512 * (k.val / 512) + j.val) % 512
      omega
    · show (b.val * 2048 + k.val) % 512 = k.val % 512
      omega
  rw [e1, e2, v35_read]

/-- The gated columns. -/
theorem v44_read (b : Fin 128) (k : Fin 2048) :
    val_main_v44 (F := Ideal) x0 x1 x2 x3 x5 x6 (ix2 b k) = tgated (sX x0 b) (sT x1 b) (rV x2) (rV x3) (rM x5) (rG x6) k := by
  rw [val_main_v44_apply, val_main_v42_apply, val_main_v43_apply, v39_read, val_main_v41_apply, val_main_v40_apply, val_main_call0_v5_apply,
    val_main_call0_v4_apply, val_main_call0_cst_0_apply, val_main_call0_v3_apply, val_main_call0_v2_apply, val_main_call0_cst_apply,
    val_main_call0_v1_apply, val_main_call0_v0_apply, v15_read]
  have e : idx_main_v40 (idx_main_v41 (ix2 b k)) = ix1 k := eq_ix1 _ _ rfl
  rw [e]
  simp only [Ideal.mulf_def, Ideal.addf_def, Ideal.hostDivf_def, Ideal.hostUnary_exp_def, Ideal.hostNegf_def, Ideal.ofBits_def, Ideal.ofBits_one_f32]
  rfl

/-- The output before the closing normalisation. -/
theorem v47_read (b : Fin 128) (d : Fin 1024) :
    val_main_v47 (F := Ideal) x0 x1 x2 x3 x5 x6 x7 (ix2 b d) = tres (sX x0 b) (sT x1 b) (rV x2) (rV x3) (rM x5) (rG x6) (rM x7) d := by
  rw [val_main_v47_apply, val_main_v45_apply, Ideal.addf_def, add_comm]
  unfold tres
  refine congrArg (fun z : EReal => z + _) (Finset.sum_congr rfl fun k _ => ?_)
  have e1 : lidx_main_v45 (ix2 b d) k = ix2 b k := eq_ix2 _ _ _ rfl rfl
  have e2 : ridx_main_v45 (ix2 b d) k = ix2 k d := eq_ix2 _ _ _ rfl rfl
  rw [e1, e2, v44_read]

/-- The reference's first result. -/
theorem v61_read (b : Fin 128) (u : Fin 1) (d : Fin 1024) :
    val_main_v61 (F := Ideal) x0 x1 x2 x3 x4 x5 x6 x7 (ix3 b u d) = tout (sX x0 b) (sT x1 b) (rV x2) (rV x3) (rV x4) (rM x5) (rG x6) (rM x7) d := by
  have e0 : idx_main_v61 (ix3 b u d) = ix2 b d := eq_ix2 _ _ _ rfl rfl
  rw [val_main_v61_apply, e0]
  simp only [val_main_v60_apply, val_main_v59_apply, val_main_v58_apply, val_main_v57_apply, val_main_v56_apply, val_main_v55_apply, val_main_v54_apply,
    val_main_v53_apply, val_main_v52_apply, val_main_v51_apply, val_main_v50_apply, val_main_v49_apply, val_main_v48_apply,
    val_main_cst_10_apply, val_main_cst_11_apply, val_main_cst_12_apply, Ideal.mulf_def, Ideal.addf_def, Ideal.hostDivf_def, Ideal.hostUnary_rsqrt_def, Ideal.ofBits_def,
    Ideal.ofBits_zero_f32, zero_add]
  have e2 : ∀ j, idx_main_v49 (idx_main_v50 (idx_main_v56 (ix2 b d))) j = ix2 b j := fun j => eq_ix2 _ _ _ rfl rfl
  have e3 : idx_main_v58 (idx_main_v59 (ix2 b d)) = ix1 d := eq_ix1 _ _ rfl
  simp only [e2, e3, v47_read]
  rfl

/-- The reference's second result: the last fifteen of the sixteen rows. -/
theorem v62_read (n : Fin 15) (b : Fin 128) (k : Fin 2048) :
    val_main_v62 (F := Ideal) x0 x1 x2 x5 (ix3 n b k) = tstate (sX x0 b) (sT x1 b) (rV x2) (rM x5) n k := by
  have hn := n.isLt
  rw [val_main_v62_apply, val_main_v46_apply]
  have e : idx_main_v46 (idx_main_v62 (ix3 n b k)) = ix3 b ⟨1 + n.val, by omega⟩ k := eq_ix3 _ _ _ _ rfl rfl rfl
  rw [e, v17_read]
  unfold tstate
  by_cases h : n.val < 14
  · rw [dif_pos h, dif_pos (by dsimp only; omega)]
    exact congrArg (fun i => sT x1 b i k) (Fin.ext (Nat.add_comm _ _))
  · rw [dif_neg h, dif_neg (by dsimp only; omega)]

end

end Cert.Reference3Ideal.Step

end
-- ==== Proof.StepAlg.lean ====
module

public import proofs.«01_k».proof.Defs
public import proofs.«01_k».proof.Proof.StepVal
public import proofs.«01_k».proof.Proof.StepRef
public import proofs.«01_k».proof.Proof.PoolAlg
public import proofs.«01_k».proof.Proof.Gen.Reference3Ideal.Run
public import proofs.«01_k».proof.Proof.Finite
public import Idealize.ShloMosaic.Lib.Quiescent

/-! The pooling layer's one-token call: its two arrays and the reference's are equal. -/

@[expose] public section

set_option maxRecDepth 16384

noncomputable section

namespace Cert.StepAlg

open Idealize.ShloMosaic Idealize.ShloMosaic.TcCoe Idealize.ShloMosaic.Tactic Idealize.SL.Sem Cert.Spec
open Cert.ReferenceIdeal.Pool (rV rM rG)
open Idealize.ShloMosaic.Pipeline (Dat Window)

section
open Cert.Kernel3Ideal Cert.Kernel3Ideal.Gen Cert.Kernel3Ideal.Step
open Cert.Reference3Ideal.Step (sX sT)

variable (m : (ℓ : Loc nD τ sig) → Buf (Elt Ideal) ℓ)

/-! ## The arguments the host lays out before the call -/

/-- The earlier rows as the call finds them, position first. -/
theorem V_main_v0 (c : Dev nD) : V m c main_v0
    = transpose S15x128x2048 [1, 0, 2] (m ((c : Thread nD τ).loc main_arg1)) transposes_S128x15x2048_S15x128x2048_1_0_2 := by
  show StableHlo.after hostOps0 _ (Proc.devRef .tc main_v0) = _
  after_results
/-- The input gain as the call finds it. -/
theorem V_main_v1 (c : Dev nD) : V m c main_v1 = shapeCast S1x1024 (m ((c : Thread nD τ).loc main_arg2)) shapeCasts_S1024_S1x1024 := by
  show StableHlo.after hostOps0 _ (Proc.devRef .tc main_v1) = _
  after_results
  rfl
/-- The input weight as the call finds it: the rounding to bf16 does nothing here. -/
theorem V_main_v2 (c : Dev nD) : (V m c main_v2 : S1024x4096.Idx → EReal) = m ((c : Thread nD τ).loc main_arg5) := by
  show StableHlo.after hostOps0 _ (Proc.devRef .tc main_v2) = _
  after_results
  rfl
/-- The grouped weight as the call finds it. -/
theorem V_main_v4 (c : Dev nD) : (V m c main_v4 : S2048x512.Idx → EReal)
    = shapeCast S2048x512 (m ((c : Thread nD τ).loc main_arg6) : S4x512x512.Idx → EReal) shapeCasts_S4x512x512_S2048x512 := by
  show StableHlo.after hostOps0 _ (Proc.devRef .tc main_v4) = _
  after_results
  rfl
/-- The scale as the call finds it. -/
theorem V_main_v5 (c : Dev nD) : V m c main_v5 = shapeCast S1x2048 (m ((c : Thread nD τ).loc main_arg3)) shapeCasts_S2048_S1x2048 := by
  show StableHlo.after hostOps0 _ (Proc.devRef .tc main_v5) = _
  after_results
  rfl
/-- The output weight as the call finds it. -/
theorem V_main_v6 (c : Dev nD) : (V m c main_v6 : S2048x1024.Idx → EReal) = m ((c : Thread nD τ).loc main_arg7) := by
  show StableHlo.after hostOps0 _ (Proc.devRef .tc main_v6) = _
  after_results
  rfl
/-- The last gain as the call finds it. -/
theorem V_main_v7 (c : Dev nD) : V m c main_v7 = shapeCast S1x1024 (m ((c : Thread nD τ).loc main_arg4)) shapeCasts_S1024_S1x1024 := by
  show StableHlo.after hostOps0 _ (Proc.devRef .tc main_v7) = _
  after_results
  rfl

/-! ## What the call leaves: its one point holds the whole arrays -/

/-- The output array over the arguments as the call finds them. -/
def yAll (c : Dev nD) : Vec Ideal S128x1x1024 .f32 :=
  yOf (V m c main_arg0) (V m c main_v0) (V m c main_v1) (V m c main_v2) (V m c main_v4) (V m c main_v5) (V m c main_v6) (V m c main_v7)
/-- The state array. -/
def sAll (c : Dev nD) : Vec Ideal S15x128x2048 .f32 :=
  sOf (V m c main_arg0) (V m c main_v0) (V m c main_v1) (V m c main_v2)

/-- The call's one point. -/
def p0 : Fin cfg0.N := ⟨0, by rw [show cfg0.N = 1 from N_0]; decide⟩

/-- The point's block of window 0 is the whole array. -/
theorem blk0 (c : Dev nD) (t : Fin cfg0.N) : iblk m c 0 t = V m c main_arg0 := by
  funext y
  unfold iblk
  exact congrArg (V m c main_arg0) (funext fun a => Fin.ext (Window.rect_emb_val_of_index_zero win0_0 t a rfl y))
/-- The point's block of window 1 is the whole array. -/
theorem blk1 (c : Dev nD) (t : Fin cfg0.N) : iblk m c 1 t = V m c main_v0 := by
  funext y
  unfold iblk
  exact congrArg (V m c main_v0) (funext fun a => Fin.ext (Window.rect_emb_val_of_index_zero win0_1 t a rfl y))
/-- The point's block of window 2 is the whole array. -/
theorem blk2 (c : Dev nD) (t : Fin cfg0.N) : iblk m c 2 t = V m c main_v1 := by
  funext y
  unfold iblk
  exact congrArg (V m c main_v1) (funext fun a => Fin.ext (Window.rect_emb_val_of_index_zero win0_2 t a rfl y))
/-- The point's block of window 3 is the whole array. -/
theorem blk3 (c : Dev nD) (t : Fin cfg0.N) : iblk m c 3 t = V m c main_v2 := by
  funext y
  unfold iblk
  exact congrArg (V m c main_v2) (funext fun a => Fin.ext (Window.rect_emb_val_of_index_zero win0_3 t a rfl y))
/-- The point's block of window 4 is the whole array. -/
theorem blk4 (c : Dev nD) (t : Fin cfg0.N) : iblk m c 4 t = V m c main_v4 := by
  funext y
  unfold iblk
  exact congrArg (V m c main_v4) (funext fun a => Fin.ext (Window.rect_emb_val_of_index_zero win0_4 t a rfl y))
/-- The point's block of window 5 is the whole array. -/
theorem blk5 (c : Dev nD) (t : Fin cfg0.N) : iblk m c 5 t = V m c main_v5 := by
  funext y
  unfold iblk
  exact congrArg (V m c main_v5) (funext fun a => Fin.ext (Window.rect_emb_val_of_index_zero win0_5 t a rfl y))
/-- The point's block of window 6 is the whole array. -/
theorem blk6 (c : Dev nD) (t : Fin cfg0.N) : iblk m c 6 t = V m c main_v6 := by
  funext y
  unfold iblk
  exact congrArg (V m c main_v6) (funext fun a => Fin.ext (Window.rect_emb_val_of_index_zero win0_6 t a rfl y))
/-- The point's block of window 7 is the whole array. -/
theorem blk7 (c : Dev nD) (t : Fin cfg0.N) : iblk m c 7 t = V m c main_v7 := by
  funext y
  unfold iblk
  exact congrArg (V m c main_v7) (funext fun a => Fin.ext (Window.rect_emb_val_of_index_zero win0_7 t a rfl y))

/-- The body leaves the output in window 8. -/
theorem after8 (c : Dev nD) (t : Fin cfg0.N) : (Cert.Kernel3Ideal.Gen.dats m 0 c).after 8 t = yAll m c := by
  rw [after0_8]
  simp only [outsAt0]
  rw [out8_eq, blk0, blk1, blk2, blk3, blk4, blk5, blk6, blk7]
  rfl

/-- The body leaves the state in window 9. -/
theorem after9 (c : Dev nD) (t : Fin cfg0.N) : (Cert.Kernel3Ideal.Gen.dats m 0 c).after 9 t = sAll m c := by
  rw [after0_9]
  simp only [outsAt0]
  rw [out9_eq, blk0, blk1, blk2, blk3]
  rfl

/-- The output array after the run. -/
theorem arr8 (c : Dev nD) : (Cert.Kernel3Ideal.Gen.dats m 0 c).arrAt 8 cfg0.N = yAll m c := by
  refine (Cert.Kernel3Ideal.Gen.dats m 0 c).arrAt_eq_of_covers 8 _ (by decide +kernel) fun t hf y => ?_
  rw [after8]
  exact congrArg (yAll m c) (funext fun a => Fin.ext (Window.rect_emb_val_of_index_zero win0_8 t a rfl y).symm)

/-- The state array after the run. -/
theorem arr9 (c : Dev nD) : (Cert.Kernel3Ideal.Gen.dats m 0 c).arrAt 9 cfg0.N = sAll m c := by
  refine (Cert.Kernel3Ideal.Gen.dats m 0 c).arrAt_eq_of_covers 9 _ (by decide +kernel) fun t hf y => ?_
  rw [after9]
  exact congrArg (sAll m c) (funext fun a => Fin.ext (Window.rect_emb_val_of_index_zero win0_9 t a rfl y).symm)

/-! ## The arrays in the layer's terms -/

/-- What the precondition says: the token, the input gain and the input weight are real numbers. -/
theorem real_of_pre [Cert.Pre_finite_pool_step.Facts] (hp : Cert.Pre_Kernel3Ideal_finite_pool_step m) (c : Dev nD) (b : Fin 128) (e : Fin 4096) :
    IsR (tprj (sX (m ((c : Thread nD τ).loc main_arg0)) b) (rV (m ((c : Thread nD τ).loc main_arg2))) (rM (m ((c : Thread nD τ).loc main_arg5))) e) := by
  have h := congrFun (hp c) (Shape.Idx.first Cert.Pre_finite_pool_step.Facts.h_S_)
  dsimp only [Cert.Pre_finite_pool_step.fn] at h
  obtain ⟨h1, h3⟩ := IntOp.andi_eq_one.1 h
  obtain ⟨h1, h2⟩ := IntOp.andi_eq_one.1 h1
  unfold tprj
  exact IsR.proj (fun d => real_of_all _ _ _ _ _ h1 _) (fun d => real_of_all _ _ _ _ _ h2 _) (fun d => real_of_all _ _ _ _ _ h3 _)

/-- The earlier rows as the call finds them, read at an index. -/
theorem state_read (c : Dev nD) (n : Fin 15) (b : Fin 128) (k : Fin 2048) : V m c main_v0 (ix3 n b k) = sT (m ((c : Thread nD τ).loc main_arg1)) b n k := by
  rw [V_main_v0]
  exact transpose_apply [1, 0, 2] _ transposes_S128x15x2048_S15x128x2048_1_0_2 _ _ (fun a => match a with
    | ⟨0, _⟩ => rfl
    | ⟨1, _⟩ => rfl
    | ⟨2, _⟩ => rfl)

/-- The output at an index is the layer's. -/
theorem yAll_read [Cert.Pre_finite_pool_step.Facts] (hp : Cert.Pre_Kernel3Ideal_finite_pool_step m) (c : Dev nD) (b : Fin 128) (u : Fin 1) (d : Fin 1024) :
    yAll m c (ix3 b u d) = tout (sX (m ((c : Thread nD τ).loc main_arg0)) b) (sT (m ((c : Thread nD τ).loc main_arg1)) b) (rV (m ((c : Thread nD τ).loc main_arg2)))
      (rV (m ((c : Thread nD τ).loc main_arg3))) (rV (m ((c : Thread nD τ).loc main_arg4))) (rM (m ((c : Thread nD τ).loc main_arg5)))
      (rG (m ((c : Thread nD τ).loc main_arg6))) (rM (m ((c : Thread nD τ).loc main_arg7))) d :=
  yOf_read _ _ _ _ _ _ _ _ (fun b => sX (m ((c : Thread nD τ).loc main_arg0)) b) (fun b => sT (m ((c : Thread nD τ).loc main_arg1)) b) _ _ _ _ _ _
    (fun b d => congrFun (V_main_arg0 m c) _)
    (state_read m c)
    (fun d => (congrFun (V_main_v1 m c) _).trans (Cert.PoolAlg.row_read _ _ d))
    (fun d e => congrFun (V_main_v2 m c) _)
    (fun k j => (congrFun (V_main_v4 m c) _).trans (Cert.PoolAlg.grouped_read _ _ k j))
    (fun k => (congrFun (V_main_v5 m c) _).trans (Cert.PoolAlg.row_read _ _ k))
    (fun k d => congrFun (V_main_v6 m c) _)
    (fun d => (congrFun (V_main_v7 m c) _).trans (Cert.PoolAlg.row_read _ _ d))
    (real_of_pre m hp c) b u d

/-- The new state at an index is the layer's. -/
theorem sAll_read (c : Dev nD) (n : Fin 15) (b : Fin 128) (k : Fin 2048) :
    sAll m c (ix3 n b k) = tstate (sX (m ((c : Thread nD τ).loc main_arg0)) b) (sT (m ((c : Thread nD τ).loc main_arg1)) b) (rV (m ((c : Thread nD τ).loc main_arg2)))
      (rM (m ((c : Thread nD τ).loc main_arg5))) n k :=
  sOf_read _ _ _ _ (fun b => sX (m ((c : Thread nD τ).loc main_arg0)) b) (fun b => sT (m ((c : Thread nD τ).loc main_arg1)) b) _ _
    (fun b d => congrFun (V_main_arg0 m c) _)
    (state_read m c)
    (fun d => (congrFun (V_main_v1 m c) _).trans (Cert.PoolAlg.row_read _ _ d))
    (fun d e => congrFun (V_main_v2 m c) _) n b k
end

/-- The call's frame. -/
theorem frame_plain : Cert.quiescent_Kernel3Ideal (hKernel3Ideal := Cert.Kernel3Ideal.Gen.facts) :=
  fun m g _ => Cert.Kernel3Ideal.Gen.frame m g

/-- The call's frame under the precondition. -/
theorem frame_pre [Cert.Pre_finite_pool_step.Facts] : Cert.quiescent_Kernel3Ideal_pre_finite_pool_step (hKernel3Ideal := Cert.Kernel3Ideal.Gen.facts) :=
  fun m g _ => Cert.Kernel3Ideal.Gen.frame m g

/-- The reference's frame. -/
theorem frame_ref : Cert.quiescent_Reference3Ideal (hReference3Ideal := Cert.Reference3Ideal.Gen.facts) := by
  intro m ρ _
  exact (θ_run Cert.Reference3Ideal.defs _ _).mono (fun r h => ⟨fun c => (h c).2.2, sem_eq_zero_of_no_sems (by decide) r.2⟩)
    (Cert.Reference3Ideal.Value.run (F := Ideal) m ρ)

/-- The reference's frame under the precondition. -/
theorem frame_ref_pre [Cert.Pre_finite_pool_step.Facts] : Cert.quiescent_Reference3Ideal_pre_finite_pool_step (hReference3Ideal := Cert.Reference3Ideal.Gen.facts) :=
  fun m g _ => frame_ref m g trivial

/-- The one-token pooling call's two arrays are the reference's. -/
theorem algebraic [Cert.Pre_finite_pool_step.Facts] :
    Cert.algebraic_Kernel3Ideal_Reference3Ideal_pre_finite_pool_step (hKernel3Ideal := Cert.Kernel3Ideal.Gen.facts) (hReference3Ideal := Cert.Reference3Ideal.Gen.facts) := by
  intro m g m' g' hp hag
  refine ⟨fun c => yAll m c, fun c => sAll m c, ?_, ?_⟩
  · refine (θ_run Cert.Kernel3Ideal.defs _ _).mono (fun r h c => ?_) (Cert.Kernel3Ideal.Value.run_blocks m g)
    exact ⟨(h c).1.trans (arr8 m c), (h c).2.1.trans (arr9 m c), (h c).2.2⟩
  · refine (θ_run Cert.Reference3Ideal.defs _ _).mono (fun r h c => ?_) (Cert.Reference3Ideal.Value.run (F := Ideal) m' g')
    obtain ⟨a0, a1, a2, a3, a4, a5, a6, a7⟩ := hag c
    refine ⟨(h c).1.trans ?_, (h c).2.1.trans ?_, (h c).2.2⟩
    · rw [Cert.Reference3Ideal.Read.val_main_v61_eq, a0, a1, a2, a3, a4, a5, a6, a7]
      funext i
      obtain ⟨b, t, d, rfl⟩ : ∃ (b : Fin 128) (t : Fin 1) (d : Fin 1024), i = ix3 b t d :=
        ⟨i 0, i 1, i 2, Cert.ReferenceIdeal.Pool.eq_ix3 _ _ _ _ rfl rfl rfl⟩
      exact (Cert.Reference3Ideal.Step.v61_read _ _ _ _ _ _ _ _ b t d).trans (yAll_read m hp c b t d).symm
    · refine (Cert.Reference3Ideal.Read.val_main_v62_eq _ _ _ _).trans ?_
      rw [a0, a1, a2, a5]
      funext i
      obtain ⟨n, b, k, rfl⟩ : ∃ (n : Fin 15) (b : Fin 128) (k : Fin 2048), i = ix3 n b k :=
        ⟨i 0, i 1, i 2, Cert.ReferenceIdeal.Pool.eq_ix3 _ _ _ _ rfl rfl rfl⟩
      exact (Cert.Reference3Ideal.Step.v62_read _ _ _ _ n b k).trans (sAll_read m c n b k).symm

end Cert.StepAlg

end
-- ==== Proof.SguStepBits.lean ====
module

public import proofs.«01_k».proof.Defs
public import proofs.«01_k».proof.Proof.Gen.Kernel4
public import proofs.«01_k».proof.Proof.Gen.Kernel4Ideal.Frame

/-!
The spatial-gating layer's one-token kernel at bit patterns: its text is the idealized one's, so its frame is the one run read there.
-/

@[expose] public section

set_option maxRecDepth 16384
set_option maxHeartbeats 4000000

noncomputable section

namespace Cert.Kernel4.Step

open Idealize.ShloMosaic Idealize.ShloMosaic.TcCoe Idealize.SL.Sem

/-- The two programs' body tables are one. -/
theorem bodies_eq : Cert.Kernel4.defs₀ (F := Bits) = Cert.Kernel4Ideal.defs₀ (F := Bits) := by
  unfold Cert.Kernel4.defs₀ Cert.Kernel4Ideal.defs₀
  refine congrArg _ (funext fun l => ?_)
  fin_cases l
  funext x
  obtain ⟨t, s⟩ := x
  show Cert.Kernel4.cc0_sgu_sample _ _ _ _ _ _ _ _ _ _ _ _ _ _ _ _ _ _ _ _
    = Cert.Kernel4Ideal.cc0_sgu_sample _ _ _ _ _ _ _ _ _ _ _ _ _ _ _ _ _ _ _ _
  rfl

/-- So are the tables with the pipeline in them. -/
theorem defs_eq : Cert.Kernel4.defs (F := Bits) = Cert.Kernel4Ideal.defs (F := Bits) :=
  congrArg (Pipeline.defs (Cert.Kernel4.pcfgs (F := Bits))) bodies_eq

/-- THE FRAME of the kernel at bit patterns. -/
theorem frame : Cert.quiescent_Kernel4 (hKernel4 := Cert.Kernel4.Gen.facts) := by
  intro m ρ _
  rw [defs_eq]
  exact Cert.Kernel4Ideal.Gen.frame (F := Bits) m ρ

end Cert.Kernel4.Step

end
-- ==== Proof.SguStepSpec.lean ====
module

public import proofs.«01_k».proof.Proof.SguSpec

/-! The arithmetic of the spatial-gating layer on one new token that opens a chunk. -/

@[expose] public section

set_option maxRecDepth 16384

noncomputable section

namespace Cert.Spec

open Idealize.ShloMosaic

/-- The group of a column. -/
def grp (k : Fin 2048) : Fin 4 := ⟨k.val / 512, by omega⟩

section SguStep
variable (G : Fin 1024 → EReal) (lg lb : Fin 2048 → EReal) (Ws : Fin 4 → Fin 128 → Fin 128 → EReal) (Bs : Fin 4 → Fin 128 → EReal)
  (W : Fin 1024 → Fin 6144 → EReal) (Wo : Fin 2048 → Fin 1024 → EReal)

/-- The token's normalised gating row. -/
def gateRow (x : Fin 1024 → EReal) (k : Fin 2048) : EReal := lnorm (rowV G W x) lg lb k

/-- The first row of a chunk mixes with itself alone: one weight and one bias for each group. -/
def firstMix (v : Fin 2048 → EReal) (k : Fin 2048) : EReal :=
  v k * Ws (grp k) 0 0 + Bs (grp k) 0

/-- The layer's output for the token. -/
def sguFirst (x : Fin 1024 → EReal) (d : Fin 1024) : EReal :=
  (∑ k, rowU G W x k * firstMix Ws Bs (gateRow G lg lb W x) k * silu (rowZ G W x k) * Wo k d) + x d

/-- Mixing a chunk's rows at its first position: the matrix's first row is zero after its diagonal, whatever the later rows hold. -/
theorem smix_first (v : Fin 128 → Fin 2048 → EReal) (k : Fin 2048) : smix Ws Bs v 0 k = firstMix Ws Bs (v 0) k := by
  unfold smix firstMix grp
  refine congrArg (· + _) ?_
  rw [Finset.sum_eq_single 0]
  · unfold lower
    rw [if_pos le_rfl, mul_comm]
  · intro j _ hj
    unfold lower
    rw [if_neg, zero_mul]
    intro h
    exact hj (Fin.ext (Nat.le_zero.mp h))
  · intro h
    exact absurd (Finset.mem_univ _) h

end SguStep

end Cert.Spec
-- ==== Proof.SguStepVal.lean ====
module

public import proofs.«01_k».proof.Proof.Gen.Kernel4Ideal.Frame
public import proofs.«01_k».proof.Proof.Gen.Kernel4Ideal.Skeleton
public import Idealize.ShloMosaic.Lib.KernelVsHost
public import Idealize.ShloMosaic.Lib.Pointwise
public import proofs.«01_k».proof.Proof.SguStepSpec

/-! What the spatial-gating layer's one-token call leaves in its two arrays, entry by entry. -/

@[expose] public section

set_option maxRecDepth 16384

noncomputable section

namespace Cert.Kernel4Ideal.Step

open Idealize.ShloMosaic Idealize.ShloMosaic.TcCoe Idealize.ShloMosaic.Tactic
open Cert.Kernel4Ideal.Gen Cert.Spec

/-! ## The arrays as terms over the whole arguments -/

section
variable {F : FTy → Type} [FloatOps F]
variable (x0 : Vec F S128x1024 .f32) (x1 : Vec F S1x1024 .f32) (x2 : Vec F S1024x6144 .bf16) (x3 x4 x5 x6 : Vec F S1x2048 .f32) (x7 : Vec F S2048x1024 .bf16)

/-- The call's activations. -/
def yOf : FVec F S128x1024 .f32 := k0_pay7 x0 (k0_pay3 x0 x1 x2) (k0_pay4 x0 x1 x2) (k0_pay5 x0 x1 x2) x3 x4 x5 x6 x7

/-- The call's rows of v. -/
def vOf : FVec F S128x1x2048 .f32 := k0_pay1 (k0_pay6 (k0_pay4 x0 x1 x2) x3 x4)

theorem zero2 : (![0, 0] : Fin 2 → ℕ) = fun _ => 0 := by funext a; fin_cases a <;> rfl
theorem zero3 : (![0, 0, 0] : Fin 3 → ℕ) = fun _ => 0 := by funext a; fin_cases a <;> rfl

theorem ld0 : (View.ld x0 r0_0 : Vec F S128x1024 _) = x0 := View.ld_unit_zero (S := S128x1024) zero2 _ x0
theorem ld1 : (View.ld x1 r0_1 : Vec F S1x1024 _) = x1 := View.ld_unit_zero (S := S1x1024) zero2 _ x1
theorem ld2 : (View.ld x2 r0_2 : Vec F S1024x6144 _) = x2 := View.ld_unit_zero (S := S1024x6144) zero2 _ x2
theorem ld3 : (View.ld x3 r0_3 : Vec F S1x2048 _) = x3 := View.ld_unit_zero (S := S1x2048) zero2 _ x3
theorem ld7 : (View.ld x7 r0_4 : Vec F S2048x1024 _) = x7 := View.ld_unit_zero (S := S2048x1024) zero2 _ x7

/-- The activations the body leaves. -/
theorem out8_eq : out0_8 x0 x1 x2 x3 x4 x5 x6 x7 = yOf x0 x1 x2 x3 x4 x5 x6 x7 := by
  unfold out0_8 k0_pay8 yOf
  refine (View.canon_unit_zero (S := S128x1024) zero2 _ _).trans ?_
  rw [ld0, ld1, ld2, ld3, ld3, ld3, ld3, ld7]

/-- The rows of v the body leaves. -/
theorem out9_eq : out0_9 x0 x1 x2 x3 x4 x5 x6 x7 = vOf x0 x1 x2 x3 x4 := by
  unfold out0_9 k0_pay8 vOf
  refine (View.canon_unit_zero (S := S128x1x2048) zero3 _ _).trans ?_
  rw [ld0, ld1, ld2, ld3, ld3]
end

/-! ## The payloads, entry by entry -/

/-- The input projection. -/
theorem pay2_read (xb : Vec Ideal S128x1024 .f32) (gain : Vec Ideal S1x1024 .f32) (w : Vec Ideal S1024x6144 .bf16) (b : Fin 128) (e : Fin 6144) :
    k0_pay2 xb gain w (ix2 b e) = sprj (fun d => gain (ix2 0 d)) (fun d e => w (ix2 d e)) (fun d => xb (ix2 b d)) e := by
  pointwise [k0_pay2]
  rfl

/-- The first third of the projection, through the gelu. -/
theorem pay3_read (xb : Vec Ideal S128x1024 .f32) (gain : Vec Ideal S1x1024 .f32) (w : Vec Ideal S1024x6144 .bf16) (b : Fin 128) (k : Fin 2048) :
    k0_pay3 xb gain w (ix2 b k) = rowU (fun d => gain (ix2 0 d)) (fun d e => w (ix2 d e)) (fun d => xb (ix2 b d)) k := by
  unfold rowU gelu
  rw [← pay2_read, ← Ideal.ofBits_one_f32]
  unfold k0_pay3
  generalize k0_pay2 xb gain w = A
  pointwise
  rfl

/-- The second third of the projection, through the gelu. -/
theorem pay4_read (xb : Vec Ideal S128x1024 .f32) (gain : Vec Ideal S1x1024 .f32) (w : Vec Ideal S1024x6144 .bf16) (b : Fin 128) (k : Fin 2048) :
    k0_pay4 xb gain w (ix2 b k) = rowV (fun d => gain (ix2 0 d)) (fun d e => w (ix2 d e)) (fun d => xb (ix2 b d)) k := by
  unfold rowV gelu
  rw [← pay2_read, ← Ideal.ofBits_one_f32]
  unfold k0_pay4
  generalize k0_pay2 xb gain w = A
  pointwise
  rfl

/-- The last third of the projection, through the half-angle form of its gate. -/
theorem pay5_read (xb : Vec Ideal S128x1024 .f32) (gain : Vec Ideal S1x1024 .f32) (w : Vec Ideal S1024x6144 .bf16) (b : Fin 128) (k : Fin 2048)
    (hR : IsR (rowZ (fun d => gain (ix2 0 d)) (fun d e => w (ix2 d e)) (fun d => xb (ix2 b d)) k)) :
    k0_pay5 xb gain w (ix2 b k) = silu (rowZ (fun d => gain (ix2 0 d)) (fun d e => w (ix2 d e)) (fun d => xb (ix2 b d)) k) := by
  unfold silu
  rw [← silu_eq hR]
  unfold rowZ
  rw [← pay2_read]
  unfold k0_pay5
  generalize k0_pay2 xb gain w = A
  pointwise

/-- The layer norm of the gating rows. -/
theorem pay6_read (v : FVec Ideal S128x2048 .f32) (lg lb : Vec Ideal S1x2048 .f32) (b : Fin 128) (k : Fin 2048) :
    k0_pay6 v lg lb (ix2 b k) = lnorm (fun k => v (ix2 b k)) (fun k => lg (ix2 0 k)) (fun k => lb (ix2 0 k)) k := by
  pointwise [k0_pay6]
  rfl

/-- The gated product with the output weight, and the token itself. -/
theorem pay7_read (x : Vec Ideal S128x1024 .f32) (u v z : FVec Ideal S128x2048 .f32) (lg lb w0 b0 : Vec Ideal S1x2048 .f32)
    (wo : Vec Ideal S2048x1024 .bf16) (b : Fin 128) (d : Fin 1024) :
    k0_pay7 x u v z lg lb w0 b0 wo (ix2 b d)
      = (∑ k : Fin 2048, (u (ix2 b k) : EReal) * ((k0_pay6 v lg lb (ix2 b k) : EReal) * w0 (ix2 0 k) + b0 (ix2 0 k)) * z (ix2 b k) * wo (ix2 k d)) + x (ix2 b d) := by
  unfold k0_pay7
  generalize k0_pay6 v lg lb = n
  pointwise

/-- The rows of v, laid out with a middle axis of one. -/
theorem pay1_read (A : FVec Ideal S128x2048 .f32) (b : Fin 128) (u : Fin 1) (k : Fin 2048) :
    k0_pay1 A (ix3 b u k) = A (ix2 b k) := by
  unfold k0_pay1
  exact shapeCast_apply A _ _ _ (by
    have hu := u.isLt
    rewrite [Shape.rowMajor_val_three, Shape.rowMajor_val_two]
    show b.val * 2048 + k.val = (b.val * 1 + u.val) * 2048 + k.val
    omega)

/-! ## The two arrays in the layer's terms -/

section
variable (x0 : Vec Ideal S128x1024 .f32) (x1 : Vec Ideal S1x1024 .f32) (x2 : Vec Ideal S1024x6144 .bf16) (x3 x4 x5 x6 : Vec Ideal S1x2048 .f32)
  (x7 : Vec Ideal S2048x1024 .bf16)
  (X : Fin 128 → Fin 1024 → EReal) (G : Fin 1024 → EReal) (lg lb : Fin 2048 → EReal) (Ws : Fin 4 → Fin 128 → Fin 128 → EReal) (Bs : Fin 4 → Fin 128 → EReal)
  (W : Fin 1024 → Fin 6144 → EReal) (Wo : Fin 2048 → Fin 1024 → EReal)
  (h0 : ∀ b d, x0 (ix2 b d) = X b d) (h1 : ∀ d, x1 (ix2 0 d) = G d) (h2 : ∀ d e, x2 (ix2 d e) = W d e)
  (h3 : ∀ k, x3 (ix2 0 k) = lg k) (h4 : ∀ k, x4 (ix2 0 k) = lb k)
  (h5 : ∀ k : Fin 2048, x5 (ix2 0 k) = Ws (grp k) 0 0) (h6 : ∀ k : Fin 2048, x6 (ix2 0 k) = Bs (grp k) 0)
  (h7 : ∀ k d, x7 (ix2 k d) = Wo k d)

include h0 h1 h2 h3 h4

/-- The normalised gating row. -/
theorem gate_read (b : Fin 128) (k : Fin 2048) : k0_pay6 (k0_pay4 x0 x1 x2) x3 x4 (ix2 b k) = gateRow G lg lb W (X b) k := by
  have e0 : (fun d => x0 (ix2 b d)) = X b := funext (h0 b)
  have e1 : (fun d => x1 (ix2 0 d)) = G := funext h1
  have e2 : (fun d e => x2 (ix2 d e)) = W := funext fun d => funext (h2 d)
  have e3 : (fun k => x3 (ix2 0 k)) = lg := funext h3
  have e4 : (fun k => x4 (ix2 0 k)) = lb := funext h4
  have ev : (fun k => k0_pay4 x0 x1 x2 (ix2 b k)) = rowV G W (X b) := funext fun k => by rw [pay4_read, e0, e1, e2]
  rw [pay6_read, ev, e3, e4]
  rfl

/-- The rows of v at an index. -/
theorem vOf_read (b : Fin 128) (u : Fin 1) (k : Fin 2048) : vOf x0 x1 x2 x3 x4 (ix3 b u k) = gateRow G lg lb W (X b) k := by
  unfold vOf
  rw [pay1_read]
  exact gate_read x0 x1 x2 x3 x4 X G lg lb W h0 h1 h2 h3 h4 b k

include h5 h6 h7

/-- The activations at an index. -/
theorem yOf_read (hR : ∀ b k, IsR (rowZ G W (X b) k)) (b : Fin 128) (d : Fin 1024) :
    yOf x0 x1 x2 x3 x4 x5 x6 x7 (ix2 b d) = sguFirst G lg lb Ws Bs W Wo (X b) d := by
  have e0 : (fun d => x0 (ix2 b d)) = X b := funext (h0 b)
  have e1 : (fun d => x1 (ix2 0 d)) = G := funext h1
  have e2 : (fun d e => x2 (ix2 d e)) = W := funext fun d => funext (h2 d)
  unfold yOf sguFirst firstMix
  rw [pay7_read, h0]
  refine congrArg (· + _) (Finset.sum_congr rfl fun k _ => ?_)
  have hz := pay5_read x0 x1 x2 b k (by rw [e0, e1, e2]; exact hR b k)
  rw [pay3_read, hz, gate_read x0 x1 x2 x3 x4 X G lg lb W h0 h1 h2 h3 h4 b k, e0, e1, e2, h5, h6, h7]

end

end Cert.Kernel4Ideal.Step

end
-- ==== Proof.SguStepRef.lean ====
module

public import proofs.«01_k».proof.Proof.Gen.Reference4Ideal.Read
public import Idealize.ShloMosaic.Lib.KernelVsHost
public import Idealize.ShloMosaic.Lib.Pointwise
public import Idealize.ShloMosaic.Lib.WordArith
public import proofs.«01_k».proof.Proof.SguStepSpec
public import proofs.«01_k».proof.Proof.SguRef

/-! The spatial-gating layer's one-token reference, read as the arithmetic of `SguStepSpec`. -/

@[expose] public section

set_option maxRecDepth 16384

noncomputable section

namespace Cert.Reference4Ideal.Step

open Idealize.ShloMosaic Cert.Reference4Ideal Cert.Reference4Ideal.Gen Cert.Reference4Ideal.Read Cert.Spec
open Cert.ReferenceIdeal.Pool (eq_ix1 eq_ix2 eq_ix3 rV rM)
open Cert.Reference2Ideal.Sgu (gelu_eq rT)

section
variable (x0 : (⟨S128x1024, .f32⟩ : BufTy).Contents (Elt Ideal)) (x1 : (⟨S1024, .f32⟩ : BufTy).Contents (Elt Ideal))
  (x2 x3 : (⟨S2048, .f32⟩ : BufTy).Contents (Elt Ideal)) (x4 : (⟨S4x128x128, .f32⟩ : BufTy).Contents (Elt Ideal))
  (x5 : (⟨S4x128, .f32⟩ : BufTy).Contents (Elt Ideal)) (x6 : (⟨S1024x6144, .f32⟩ : BufTy).Contents (Elt Ideal))
  (x7 : (⟨S2048x1024, .f32⟩ : BufTy).Contents (Elt Ideal))

/-- The input projection. -/
theorem v13_read (b : Fin 128) (e : Fin 6144) :
    val_main_v13 (F := Ideal) x0 x1 x6 (ix2 b e) = sprj (rV x1) (rM x6) (rM x0 b) e := by
  rw [val_main_v13_apply]
  unfold sprj proj
  refine Finset.sum_congr rfl fun k _ => ?_
  refine congr (congrArg _ ?_) (congrArg x6 (funext fun a => Fin.ext (by match a with | ⟨0, _⟩ => rfl | ⟨1, _⟩ => rfl)))
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, Ideal.mulf_def, Ideal.addf_def, Ideal.hostDivf_def, Ideal.hostUnary_rsqrt_def, Ideal.ofBits_def,
    Ideal.ofBits_zero_f32, zero_add]
  have e1 : lidx_main_v13 (ix2 b e) k = ix2 b k := eq_ix2 _ _ _ rfl rfl
  have e2 : ∀ j, idx_main_v1 (idx_main_v2 (idx_main_v8 (ix2 b k))) j = ix2 b j := fun j => eq_ix2 _ _ _ rfl rfl
  have e3 : idx_main_v10 (idx_main_v11 (ix2 b k)) = ix1 k := eq_ix1 _ _ rfl
  simp only [e1, e2, e3]
  rfl

/-- The first third of the projection. -/
theorem v14_read (b : Fin 128) (k : Fin 2048) :
    val_main_v14 (F := Ideal) x0 x1 x6 (ix2 b k) = sprj (rV x1) (rM x6) (rM x0 b) ⟨k.val, by omega⟩ := by
  rw [val_main_v14_apply, ← v13_read]
  exact congrArg _ (funext fun a => Fin.ext (by match a with | ⟨0, _⟩ => rfl | ⟨1, _⟩ => rfl))

/-- The second third of the projection. -/
theorem v15_read (b : Fin 128) (k : Fin 2048) :
    val_main_v15 (F := Ideal) x0 x1 x6 (ix2 b k) = sprj (rV x1) (rM x6) (rM x0 b) ⟨2048 + k.val, by omega⟩ := by
  rw [val_main_v15_apply, ← v13_read]
  exact congrArg _ (funext fun a => Fin.ext (by match a with | ⟨0, _⟩ => rfl | ⟨1, _⟩ => first | rfl | exact Nat.add_comm _ _))

/-- The last third of the projection. -/
theorem v16_read (b : Fin 128) (k : Fin 2048) :
    val_main_v16 (F := Ideal) x0 x1 x6 (ix2 b k) = rowZ (rV x1) (rM x6) (rM x0 b) k := by
  unfold rowZ
  rw [val_main_v16_apply, ← v13_read]
  exact congrArg _ (funext fun a => Fin.ext (by match a with | ⟨0, _⟩ => rfl | ⟨1, _⟩ => first | rfl | exact Nat.add_comm _ _))

/-- The streams that are gated. -/
theorem v23_read (b : Fin 128) (k : Fin 2048) :
    val_main_v23 (F := Ideal) x0 x1 x6 (ix2 b k) = rowU (rV x1) (rM x6) (rM x0 b) k := by
  unfold rowU
  rw [← v14_read, ← gelu_eq]
  simp only [val_main_v23_apply, val_main_v22_apply, val_main_v21_apply, val_main_v20_apply, val_main_v19_apply, val_main_v18_apply, val_main_v17_apply,
    val_main_cst_2_apply, val_main_cst_3_apply, Ideal.mulf_def, Ideal.hostUnary_erfc_def, Ideal.hostNegf_def, Ideal.negf_def, Ideal.ofBits_def]

/-- The streams that gate, before their norm. -/
theorem v30_read (b : Fin 128) (k : Fin 2048) :
    val_main_v30 (F := Ideal) x0 x1 x6 (ix2 b k) = rowV (rV x1) (rM x6) (rM x0 b) k := by
  unfold rowV
  rw [← v15_read, ← gelu_eq]
  simp only [val_main_v30_apply, val_main_v29_apply, val_main_v28_apply, val_main_v27_apply, val_main_v26_apply, val_main_v25_apply, val_main_v24_apply,
    val_main_cst_4_apply, val_main_cst_5_apply, Ideal.mulf_def, Ideal.hostUnary_erfc_def, Ideal.hostNegf_def, Ideal.negf_def, Ideal.ofBits_def]

/-- The mean of the gating streams. -/
theorem v34_read (b : Fin 128) :
    val_main_v34 (F := Ideal) x0 x1 x6 (ix2 b (0 : Fin 1)) = mean (rowV (rV x1) (rM x6) (rM x0 b)) := by
  unfold mean
  simp only [val_main_v34_apply, val_main_v33_apply, val_main_v32_apply, val_main_v31_apply, val_main_cst_6_apply, val_main_cst_7_apply,
    Ideal.hostDivf_def, Ideal.ofBits_def, Ideal.ofBits_zero_f32, zero_add]
  have e1 : ∀ k, idx_main_v31 (idx_main_v32 (ix2 b (0 : Fin 1))) k = ix2 b k := fun k => eq_ix2 _ _ _ rfl rfl
  simp only [e1, v30_read]

/-- Their variance. -/
theorem v41_read (b : Fin 128) :
    val_main_v41 (F := Ideal) x0 x1 x6 (ix2 b (0 : Fin 1))
      = mean (fun j => (rowV (rV x1) (rM x6) (rM x0 b) j - mean (rowV (rV x1) (rM x6) (rM x0 b))) * (rowV (rV x1) (rM x6) (rM x0 b) j - mean (rowV (rV x1) (rM x6) (rM x0 b)))) := by
  have e2 : ∀ k : Fin 2048, idx_main_v35 (ix2 b k) = ix2 b (0 : Fin 1) := fun k => eq_ix2 _ _ _ rfl rfl
  have e1 : ∀ k, idx_main_v38 (idx_main_v39 (ix2 b (0 : Fin 1))) k = ix2 b k := fun k => eq_ix2 _ _ _ rfl rfl
  rw [show ∀ f : Fin 2048 → EReal, mean f = Ideal.div (∑ k, f k) (Ideal.ofBits .f32 0x45000000#32) from fun _ => rfl]
  simp only [val_main_v41_apply, val_main_v40_apply, val_main_v39_apply, val_main_v38_apply, val_main_cst_8_apply, val_main_cst_9_apply,
    Ideal.hostDivf_def, Ideal.ofBits_def, Ideal.ofBits_zero_f32, zero_add]
  simp only [e1, val_main_v37_apply, val_main_v36_apply, val_main_v35_apply, Ideal.mulf_def, Ideal.subf_def, e2, v34_read, v30_read]

/-- The normalised gating streams. -/
theorem v54_read (b : Fin 128) (k : Fin 2048) :
    val_main_v54 (F := Ideal) x0 x1 x2 x3 x6 (ix2 b k) = lnorm (rowV (rV x1) (rM x6) (rM x0 b)) (rV x2) (rV x3) k := by
  unfold lnorm
  have e1 : idx_main_v42 (ix2 b k) = ix2 b (0 : Fin 1) := eq_ix2 _ _ _ rfl rfl
  have e2 : idx_main_v47 (ix2 b k) = ix2 b (0 : Fin 1) := eq_ix2 _ _ _ rfl rfl
  have e3 : idx_main_v49 (idx_main_v50 (ix2 b k)) = ix1 k := eq_ix1 _ _ rfl
  have e4 : idx_main_v52 (idx_main_v53 (ix2 b k)) = ix1 k := eq_ix1 _ _ rfl
  simp only [val_main_v54_apply, val_main_v53_apply, val_main_v52_apply, val_main_v51_apply, val_main_v50_apply, val_main_v49_apply, val_main_v48_apply,
    val_main_v47_apply, val_main_v46_apply, val_main_v45_apply, val_main_v44_apply, val_main_v43_apply, val_main_v42_apply, val_main_cst_10_apply,
    Ideal.mulf_def, Ideal.addf_def, Ideal.subf_def, Ideal.hostUnary_rsqrt_def, Ideal.ofBits_def, e1, e2, e3, e4, v30_read, v34_read, v41_read]

/-- The token's row of v. -/
theorem v54_gate (b : Fin 128) (k : Fin 2048) :
    val_main_v54 (F := Ideal) x0 x1 x2 x3 x6 (ix2 b k) = gateRow (rV x1) (rV x2) (rV x3) (rM x6) (rM x0 b) k := by
  rw [v54_read]
  rfl

/-- The rows of v, laid out with a middle axis of one. -/
theorem v75_read (b : Fin 128) (u : Fin 1) (k : Fin 2048) :
    val_main_v75 (F := Ideal) x0 x1 x2 x3 x6 (ix3 b u k) = gateRow (rV x1) (rV x2) (rV x3) (rM x6) (rM x0 b) k := by
  rw [val_main_v75_apply, ← v54_gate]
  exact congrArg _ (eq_ix2 _ _ _ rfl rfl)

/-- The mixing matrices below their diagonals. -/
theorem v60_read (g : Fin 4) (i j : Fin 128) : val_main_v60 (F := Ideal) x4 (ix3 g i j) = lower (rT x4 g) i j := by
  unfold lower
  have h0 : Ideal.ofBits .f32 0x00000000#32 = 0 := Ideal.ofBits_zero_f32
  have hadd : ∀ v : BitVec 32, IntOp.addi v 0#32 = v := fun v => by simp [IntOp.addi]
  simp only [val_main_v60_apply, val_main_call2_v1_apply, val_main_call2_v2_apply, val_main_call2_v0_apply, val_main_cst_12_apply, val_main_v59_apply,
    val_main_v58_apply, val_main_c_11_apply, val_main_call1_v5_apply, val_main_call1_c_0_apply, val_main_call1_v4_apply, val_main_call1_v3_apply,
    val_main_call1_v2_apply, val_main_call1_v1_apply, val_main_call1_v0_apply, val_main_call1_c_apply, Ideal.ofBits_def, h0, hadd]
  refine Eq.trans (congrArg (fun c => Scalar.select c _ _) (sge_select i.val j.val i.isLt j.isLt (1#1) (0#1))) ?_
  by_cases h : j.val ≤ i.val
  · rw [if_pos h, if_pos h]
    rfl
  · rw [if_neg h, if_neg h]
    rfl

/-- The chunk the token opens: its first row is the token's. -/
theorem v56_read (b : Fin 128) (k : Fin 2048) :
    val_main_v56 (F := Ideal) x0 x1 x2 x3 x6 (ix3 b (0 : Fin 128) k) = gateRow (rV x1) (rV x2) (rV x3) (rM x6) (rM x0 b) k := by
  rw [← v54_gate]
  unfold val_main_v56
  rw [pad_apply_of_inside _ _ _ _ _ _ _ _ (ix3 b (0 : Fin 1) k : S128x1x2048.Idx), val_main_v55_apply]
  · exact congrArg _ (eq_ix2 _ _ _ rfl rfl)
  · intro a
    match a with
    | ⟨0, _⟩ => show b.val = 0 + b.val * (0 + 1); omega
    | ⟨1, _⟩ => rfl
    | ⟨2, _⟩ => show k.val = 0 + k.val * (0 + 1); omega

/-- The chunk's first mixed row. -/
theorem v69_read (b : Fin 128) (k : Fin 2048) :
    val_main_v69 (F := Ideal) x0 x1 x2 x3 x4 x5 x6 (ix2 b k)
      = firstMix (rT x4) (rM x5) (gateRow (rV x1) (rV x2) (rV x3) (rM x6) (rM x0 b)) k := by
  have hb := b.isLt
  have hk := k.isLt
  have e0 : idx_main_v68 (idx_main_v69 (ix2 b k)) = ix3 b (0 : Fin 128) k := by
    refine eq_ix3 _ _ _ _ ?_ ?_ ?_
    · show (b.val * 2048 + k.val) / 2048 = b.val; omega
    · rfl
    · show (b.val * 2048 + k.val) % 2048 = k.val; omega
  have f0 : ((b.val * 128 + 0) * 2048 + k.val) / 262144 = b.val := by omega
  have f1 : ((b.val * 128 + 0) * 2048 + k.val) / 2048 % 128 = 0 := by omega
  have f2 : ((b.val * 128 + 0) * 2048 + k.val) / 512 % 4 = k.val / 512 := by omega
  have f3 : ((b.val * 128 + 0) * 2048 + k.val) % 512 = k.val % 512 := by omega
  rw [val_main_v69_apply, val_main_v68_apply, e0, val_main_v67_apply, val_main_v66_apply, Ideal.addf_def, val_main_v62_apply, val_main_v61_apply,
    val_main_v65_apply, val_main_v64_apply, val_main_v63_apply]
  have hv : gateRow (rV x1) (rV x2) (rV x3) (rM x6) (rM x0 b) = (fun j : Fin 128 => fun k => val_main_v56 (F := Ideal) x0 x1 x2 x3 x6 (ix3 b j k)) 0 :=
    funext fun k => (v56_read x0 x1 x2 x3 x6 b k).symm
  rw [hv, ← smix_first (rT x4) (rM x5) (fun j : Fin 128 => fun k => val_main_v56 (F := Ideal) x0 x1 x2 x3 x6 (ix3 b j k))]
  unfold smix
  refine congr (congrArg HAdd.hAdd (Finset.sum_congr rfl fun j _ => ?_)) ?_
  · have hj := j.isLt
    rw [mul_comm, val_main_v57_apply]
    refine congr (congrArg HMul.hMul ?_) ?_
    · rw [← v60_read]
      refine congrArg _ (eq_ix3 _ _ _ _ ?_ ?_ ?_)
      · exact f2
      · exact f1
      · rfl
    · refine congrArg _ (eq_ix3 _ _ _ _ ?_ ?_ ?_)
      · show ((((((b.val * 128 + 0) * 2048 + k.val) / 262144) * 128 + j.val) * 4 + ((b.val * 128 + 0) * 2048 + k.val) / 512 % 4) * 512 + ((b.val * 128 + 0) * 2048 + k.val) % 512) / 262144 = b.val
        rw [f0, f2, f3]; omega
      · show ((((((b.val * 128 + 0) * 2048 + k.val) / 262144) * 128 + j.val) * 4 + ((b.val * 128 + 0) * 2048 + k.val) / 512 % 4) * 512 + ((b.val * 128 + 0) * 2048 + k.val) % 512) / 2048 % 128 = j.val
        rw [f0, f2, f3]; omega
      · show ((((((b.val * 128 + 0) * 2048 + k.val) / 262144) * 128 + j.val) * 4 + ((b.val * 128 + 0) * 2048 + k.val) / 512 % 4) * 512 + ((b.val * 128 + 0) * 2048 + k.val) % 512) % 2048 = k.val
        rw [f0, f2, f3]; omega
  · refine congrArg x5 (eq_ix2 _ _ _ ?_ ?_)
    · exact f2
    · exact f1

/-- The last third of the projection, through its gate. -/
theorem v71_read (b : Fin 128) (k : Fin 2048) :
    val_main_v71 (F := Ideal) x0 x1 x6 (ix2 b k) = silu (rowZ (rV x1) (rM x6) (rM x0 b) k) := by
  unfold silu
  simp only [val_main_v71_apply, val_main_call3_v5_apply, val_main_call3_v4_apply, val_main_call3_v3_apply, val_main_call3_v2_apply, val_main_call3_v1_apply,
    val_main_call3_v0_apply, val_main_call3_cst_apply, val_main_call3_cst_0_apply, v16_read, Ideal.mulf_def, Ideal.addf_def, Ideal.hostDivf_def,
    Ideal.hostUnary_exp_def, Ideal.hostNegf_def, Ideal.negf_def, Ideal.ofBits_def, Ideal.ofBits_one_f32]

/-- The reference's activations. -/
theorem v74_read (b : Fin 128) (d : Fin 1024) :
    val_main_v74 (F := Ideal) x0 x1 x2 x3 x4 x5 x6 x7 (ix2 b d)
      = sguFirst (rV x1) (rV x2) (rV x3) (rT x4) (rM x5) (rM x6) (rM x7) (rM x0 b) d := by
  rw [val_main_v74_apply, Ideal.addf_def, add_comm, val_main_v73_apply]
  unfold sguFirst
  refine congrArg (· + _) (Finset.sum_congr rfl fun k _ => ?_)
  have e1 : lidx_main_v73 (ix2 b d) k = ix2 b k := eq_ix2 _ _ _ rfl rfl
  have e2 : ridx_main_v73 (ix2 b d) k = ix2 k d := eq_ix2 _ _ _ rfl rfl
  rw [e1, e2, val_main_v72_apply, val_main_v70_apply, Ideal.mulf_def, Ideal.mulf_def, v23_read, v69_read, v71_read]
end

end Cert.Reference4Ideal.Step

end
-- ==== Proof.SguStepAlg.lean ====
module

public import proofs.«01_k».proof.Defs
public import proofs.«01_k».proof.Proof.SguStepVal
public import proofs.«01_k».proof.Proof.SguStepRef
public import proofs.«01_k».proof.Proof.PoolAlg
public import proofs.«01_k».proof.Proof.Gen.Kernel4Ideal.Value
public import proofs.«01_k».proof.Proof.Gen.Reference4Ideal.Run
public import proofs.«01_k».proof.Proof.Finite
public import Idealize.ShloMosaic.Lib.Quiescent

/-! The spatial-gating layer's one-token call: its two arrays and the reference's are equal. -/

@[expose] public section

set_option maxRecDepth 16384

noncomputable section

namespace Cert.SguStepAlg

open Idealize.ShloMosaic Idealize.ShloMosaic.TcCoe Idealize.ShloMosaic.Tactic Idealize.SL.Sem Cert.Spec
open Cert.ReferenceIdeal.Pool (rV rM)
open Cert.Reference2Ideal.Sgu (rT)
open Idealize.ShloMosaic.Pipeline (Dat Window)

section
open Cert.Kernel4Ideal Cert.Kernel4Ideal.Gen Cert.Kernel4Ideal.Step

variable (m : (ℓ : Loc nD τ sig) → Buf (Elt Ideal) ℓ)

/-! ## The arguments the host lays out before the call -/

/-- One number for each group, spread over the group's 512 columns. -/
def spread (y : S4.Idx → EReal) : S1x2048.Idx → EReal :=
  broadcastInDim S1x2048 ![1] bcast_S2048_S1x2048_1 (shapeCast S2048 (broadcastInDim S4x512 ![0] bcast_S4_S4x512_0 y) shapeCasts_S4x512_S2048)

/-- Such a row at a column. -/
theorem spread_read (y : S4.Idx → EReal) (k : Fin 2048) : spread y (ix2 0 k) = y (ix1 ⟨k.val / 512, by omega⟩) := by
  have hk := k.isLt
  unfold spread
  refine (broadcastInDim_apply _ bcast_S2048_S1x2048_1 _ _ (ix1 k) (fun a => match a with
    | ⟨0, _⟩ => by show k.val = if (2048 : Nat) = 1 then 0 else k.val; rw [if_neg (by decide)])).trans ?_
  refine (shapeCast_apply _ shapeCasts_S4x512_S2048 _ (ix2 (⟨k.val / 512, by omega⟩ : Fin 4) (⟨k.val % 512, by omega⟩ : Fin 512)) (by
    rewrite [Shape.rowMajor_val_two, Shape.rowMajor_val_one]
    show k.val / 512 * 512 + k.val % 512 = k.val
    omega)).trans ?_
  exact broadcastInDim_apply _ bcast_S4_S4x512_0 y _ (ix1 ⟨k.val / 512, by omega⟩) (fun a => match a with
    | ⟨0, _⟩ => by show k.val / 512 = if (4 : Nat) = 1 then 0 else k.val / 512; rw [if_neg (by decide)])

/-- The mixing weights of the first row with itself, as the call finds them. -/
theorem V_main_v4 (c : Dev nD) : V m c main_v4
    = spread (shapeCast S4 (extractStridedSlice S4x1x1 ![0, 0, 0] (m ((c : Thread nD τ).loc main_arg4)) slices_S4x128x128_S4x1x1_0_0_0) shapeCasts_S4x1x1_S4) := by
  show StableHlo.after hostOps0 _ (Proc.devRef .tc main_v4) = _
  after_results
  rfl
/-- The first row's biases as the call finds them. -/
theorem V_main_v9 (c : Dev nD) : V m c main_v9
    = spread (shapeCast S4 (extractStridedSlice S4x1 ![0, 0] (m ((c : Thread nD τ).loc main_arg5)) slices_S4x128_S4x1_0_0) shapeCasts_S4x1_S4) := by
  show StableHlo.after hostOps0 _ (Proc.devRef .tc main_v9) = _
  after_results
  rfl
/-- The input gain as the call finds it. -/
theorem V_main_v10 (c : Dev nD) : V m c main_v10 = shapeCast S1x1024 (m ((c : Thread nD τ).loc main_arg1)) shapeCasts_S1024_S1x1024 := by
  show StableHlo.after hostOps0 _ (Proc.devRef .tc main_v10) = _
  after_results
  rfl
/-- The input weight as the call finds it: the rounding to bf16 does nothing here. -/
theorem V_main_v11 (c : Dev nD) : (V m c main_v11 : S1024x6144.Idx → EReal) = m ((c : Thread nD τ).loc main_arg6) := by
  show StableHlo.after hostOps0 _ (Proc.devRef .tc main_v11) = _
  after_results
  rfl
/-- The layer norm's gain as the call finds it. -/
theorem V_main_v12 (c : Dev nD) : V m c main_v12 = shapeCast S1x2048 (m ((c : Thread nD τ).loc main_arg2)) shapeCasts_S2048_S1x2048 := by
  show StableHlo.after hostOps0 _ (Proc.devRef .tc main_v12) = _
  after_results
  rfl
/-- The layer norm's offset as the call finds it. -/
theorem V_main_v13 (c : Dev nD) : V m c main_v13 = shapeCast S1x2048 (m ((c : Thread nD τ).loc main_arg3)) shapeCasts_S2048_S1x2048 := by
  show StableHlo.after hostOps0 _ (Proc.devRef .tc main_v13) = _
  after_results
  rfl
/-- The output weight as the call finds it: the rounding to bf16 does nothing here. -/
theorem V_main_v14 (c : Dev nD) : (V m c main_v14 : S2048x1024.Idx → EReal) = m ((c : Thread nD τ).loc main_arg7) := by
  show StableHlo.after hostOps0 _ (Proc.devRef .tc main_v14) = _
  after_results
  rfl

/-- A group's weight at its column. -/
theorem weight_read (c : Dev nD) (k : Fin 2048) :
    V m c main_v4 (ix2 0 k) = rT (m ((c : Thread nD τ).loc main_arg4)) (grp k) 0 0 := by
  rw [V_main_v4, spread_read]
  refine (shapeCast_apply _ shapeCasts_S4x1x1_S4 _ (ix3 (⟨k.val / 512, by omega⟩ : Fin 4) (0 : Fin 1) (0 : Fin 1)) (by
    rewrite [Shape.rowMajor_val_three, Shape.rowMajor_val_one]
    show (k.val / 512 * 1 + 0) * 1 + 0 = k.val / 512
    omega)).trans ?_
  exact extractStridedSlice_apply ![0, 0, 0] _ slices_S4x128x128_S4x1x1_0_0_0 _ (ix3 (⟨k.val / 512, by omega⟩ : Fin 4) (0 : Fin 128) (0 : Fin 128)) (fun a => match a with
    | ⟨0, _⟩ => by show k.val / 512 = 0 + k.val / 512; omega
    | ⟨1, _⟩ => rfl
    | ⟨2, _⟩ => rfl)

/-- A group's bias at its column. -/
theorem bias_read (c : Dev nD) (k : Fin 2048) :
    V m c main_v9 (ix2 0 k) = rM (m ((c : Thread nD τ).loc main_arg5)) (grp k) 0 := by
  rw [V_main_v9, spread_read]
  refine (shapeCast_apply _ shapeCasts_S4x1_S4 _ (ix2 (⟨k.val / 512, by omega⟩ : Fin 4) (0 : Fin 1)) (by
    rewrite [Shape.rowMajor_val_two, Shape.rowMajor_val_one]
    show k.val / 512 * 1 + 0 = k.val / 512
    omega)).trans ?_
  exact extractStridedSlice_apply ![0, 0] _ slices_S4x128_S4x1_0_0 _ (ix2 (⟨k.val / 512, by omega⟩ : Fin 4) (0 : Fin 128)) (fun a => match a with
    | ⟨0, _⟩ => by show k.val / 512 = 0 + k.val / 512; omega
    | ⟨1, _⟩ => rfl)

/-! ## What the call leaves: its one point holds the whole arrays -/

/-- The output array over the arguments as the call finds them. -/
def yAll (c : Dev nD) : Vec Ideal S128x1024 .f32 :=
  yOf (V m c main_arg0) (V m c main_v10) (V m c main_v11) (V m c main_v12) (V m c main_v13) (V m c main_v4) (V m c main_v9) (V m c main_v14)
/-- The rows of v. -/
def vAll (c : Dev nD) : Vec Ideal S128x1x2048 .f32 :=
  vOf (V m c main_arg0) (V m c main_v10) (V m c main_v11) (V m c main_v12) (V m c main_v13)

/-- The point's block of window 0 is the whole array. -/
theorem blk0 (c : Dev nD) (t : Fin cfg0.N) : iblk m c 0 t = V m c main_arg0 := by
  funext y
  unfold iblk
  exact congrArg (V m c main_arg0) (funext fun a => Fin.ext (Window.rect_emb_val_of_index_zero win0_0 t a rfl y))
/-- The point's block of window 1 is the whole array. -/
theorem blk1 (c : Dev nD) (t : Fin cfg0.N) : iblk m c 1 t = V m c main_v10 := by
  funext y
  unfold iblk
  exact congrArg (V m c main_v10) (funext fun a => Fin.ext (Window.rect_emb_val_of_index_zero win0_1 t a rfl y))
/-- The point's block of window 2 is the whole array. -/
theorem blk2 (c : Dev nD) (t : Fin cfg0.N) : iblk m c 2 t = V m c main_v11 := by
  funext y
  unfold iblk
  exact congrArg (V m c main_v11) (funext fun a => Fin.ext (Window.rect_emb_val_of_index_zero win0_2 t a rfl y))
/-- The point's block of window 3 is the whole array. -/
theorem blk3 (c : Dev nD) (t : Fin cfg0.N) : iblk m c 3 t = V m c main_v12 := by
  funext y
  unfold iblk
  exact congrArg (V m c main_v12) (funext fun a => Fin.ext (Window.rect_emb_val_of_index_zero win0_3 t a rfl y))
/-- The point's block of window 4 is the whole array. -/
theorem blk4 (c : Dev nD) (t : Fin cfg0.N) : iblk m c 4 t = V m c main_v13 := by
  funext y
  unfold iblk
  exact congrArg (V m c main_v13) (funext fun a => Fin.ext (Window.rect_emb_val_of_index_zero win0_4 t a rfl y))
/-- The point's block of window 5 is the whole array. -/
theorem blk5 (c : Dev nD) (t : Fin cfg0.N) : iblk m c 5 t = V m c main_v4 := by
  funext y
  unfold iblk
  exact congrArg (V m c main_v4) (funext fun a => Fin.ext (Window.rect_emb_val_of_index_zero win0_5 t a rfl y))
/-- The point's block of window 6 is the whole array. -/
theorem blk6 (c : Dev nD) (t : Fin cfg0.N) : iblk m c 6 t = V m c main_v9 := by
  funext y
  unfold iblk
  exact congrArg (V m c main_v9) (funext fun a => Fin.ext (Window.rect_emb_val_of_index_zero win0_6 t a rfl y))
/-- The point's block of window 7 is the whole array. -/
theorem blk7 (c : Dev nD) (t : Fin cfg0.N) : iblk m c 7 t = V m c main_v14 := by
  funext y
  unfold iblk
  exact congrArg (V m c main_v14) (funext fun a => Fin.ext (Window.rect_emb_val_of_index_zero win0_7 t a rfl y))

/-- The body leaves the output in window 8. -/
theorem after8 (c : Dev nD) (t : Fin cfg0.N) : (Cert.Kernel4Ideal.Gen.dats m 0 c).after 8 t = yAll m c := by
  rw [after0_8]
  rw [out8_eq, blk0, blk1, blk2, blk3, blk4, blk5, blk6, blk7]
  rfl

/-- The body leaves the rows of v in window 9. -/
theorem after9 (c : Dev nD) (t : Fin cfg0.N) : (Cert.Kernel4Ideal.Gen.dats m 0 c).after 9 t = vAll m c := by
  rw [after0_9]
  rw [out9_eq, blk0, blk1, blk2, blk3, blk4]
  rfl

/-- The output array after the run. -/
theorem arr8 (c : Dev nD) : (Cert.Kernel4Ideal.Gen.dats m 0 c).arrAt 8 cfg0.N = yAll m c := by
  refine (Cert.Kernel4Ideal.Gen.dats m 0 c).arrAt_eq_of_covers 8 _ (by decide +kernel) fun t hf y => ?_
  rw [after8]
  exact congrArg (yAll m c) (funext fun a => Fin.ext (Window.rect_emb_val_of_index_zero win0_8 t a rfl y).symm)

/-- The rows of v after the run. -/
theorem arr9 (c : Dev nD) : (Cert.Kernel4Ideal.Gen.dats m 0 c).arrAt 9 cfg0.N = vAll m c := by
  refine (Cert.Kernel4Ideal.Gen.dats m 0 c).arrAt_eq_of_covers 9 _ (by decide +kernel) fun t hf y => ?_
  rw [after9]
  exact congrArg (vAll m c) (funext fun a => Fin.ext (Window.rect_emb_val_of_index_zero win0_9 t a rfl y).symm)

/-! ## The arrays in the layer's terms -/

/-- What the precondition says: the token, the input gain and the input weight are real numbers. -/
theorem real_of_pre [Cert.Pre_finite_sgu_step.Facts] (hp : Cert.Pre_Kernel4Ideal_finite_sgu_step m) (c : Dev nD) (b : Fin 128) (k : Fin 2048) :
    IsR (rowZ (rV (m ((c : Thread nD τ).loc main_arg1))) (rM (m ((c : Thread nD τ).loc main_arg6))) (rM (m ((c : Thread nD τ).loc main_arg0)) b) k) := by
  have h := congrFun (hp c) (Shape.Idx.first Cert.Pre_finite_sgu_step.Facts.h_S_)
  dsimp only [Cert.Pre_finite_sgu_step.fn] at h
  obtain ⟨h1, h3⟩ := IntOp.andi_eq_one.1 h
  obtain ⟨h1, h2⟩ := IntOp.andi_eq_one.1 h1
  unfold rowZ sprj
  exact IsR.proj (fun d => real_of_all _ _ _ _ _ h1 _) (fun d => real_of_all _ _ _ _ _ h2 _) (fun d => real_of_all _ _ _ _ _ h3 _)

/-- The output at an index is the layer's. -/
theorem yAll_read [Cert.Pre_finite_sgu_step.Facts] (hp : Cert.Pre_Kernel4Ideal_finite_sgu_step m) (c : Dev nD) (b : Fin 128) (d : Fin 1024) :
    yAll m c (ix2 b d) = sguFirst (rV (m ((c : Thread nD τ).loc main_arg1))) (rV (m ((c : Thread nD τ).loc main_arg2))) (rV (m ((c : Thread nD τ).loc main_arg3)))
      (rT (m ((c : Thread nD τ).loc main_arg4))) (rM (m ((c : Thread nD τ).loc main_arg5))) (rM (m ((c : Thread nD τ).loc main_arg6)))
      (rM (m ((c : Thread nD τ).loc main_arg7))) (rM (m ((c : Thread nD τ).loc main_arg0)) b) d :=
  yOf_read _ _ _ _ _ _ _ _ (fun b => rM (m ((c : Thread nD τ).loc main_arg0)) b) _ _ _ _ _ _ _
    (fun b d => congrFun (V_main_arg0 m c) _)
    (fun d => (congrFun (V_main_v10 m c) _).trans (Cert.PoolAlg.row_read _ _ d))
    (fun d e => congrFun (V_main_v11 m c) _)
    (fun k => (congrFun (V_main_v12 m c) _).trans (Cert.PoolAlg.row_read _ _ k))
    (fun k => (congrFun (V_main_v13 m c) _).trans (Cert.PoolAlg.row_read _ _ k))
    (weight_read m c) (bias_read m c)
    (fun k d => congrFun (V_main_v14 m c) _)
    (real_of_pre m hp c) b d

/-- The rows of v at an index are the layer's. -/
theorem vAll_read (c : Dev nD) (b : Fin 128) (u : Fin 1) (k : Fin 2048) :
    vAll m c (ix3 b u k) = gateRow (rV (m ((c : Thread nD τ).loc main_arg1))) (rV (m ((c : Thread nD τ).loc main_arg2))) (rV (m ((c : Thread nD τ).loc main_arg3)))
      (rM (m ((c : Thread nD τ).loc main_arg6))) (rM (m ((c : Thread nD τ).loc main_arg0)) b) k :=
  vOf_read _ _ _ _ _ (fun b => rM (m ((c : Thread nD τ).loc main_arg0)) b) _ _ _ _
    (fun b d => congrFun (V_main_arg0 m c) _)
    (fun d => (congrFun (V_main_v10 m c) _).trans (Cert.PoolAlg.row_read _ _ d))
    (fun d e => congrFun (V_main_v11 m c) _)
    (fun k => (congrFun (V_main_v12 m c) _).trans (Cert.PoolAlg.row_read _ _ k))
    (fun k => (congrFun (V_main_v13 m c) _).trans (Cert.PoolAlg.row_read _ _ k)) b u k
end

/-- The call's frame. -/
theorem frame_plain : Cert.quiescent_Kernel4Ideal (hKernel4Ideal := Cert.Kernel4Ideal.Gen.facts) :=
  fun m g _ => Cert.Kernel4Ideal.Gen.frame m g

/-- The call's frame under the precondition. -/
theorem frame_pre [Cert.Pre_finite_sgu_step.Facts] : Cert.quiescent_Kernel4Ideal_pre_finite_sgu_step (hKernel4Ideal := Cert.Kernel4Ideal.Gen.facts) :=
  fun m g _ => Cert.Kernel4Ideal.Gen.frame m g

/-- The reference's frame. -/
theorem frame_ref : Cert.quiescent_Reference4Ideal (hReference4Ideal := Cert.Reference4Ideal.Gen.facts) := by
  intro m ρ _
  exact (θ_run Cert.Reference4Ideal.defs _ _).mono (fun r h => ⟨fun c => (h c).2.2, sem_eq_zero_of_no_sems (by decide) r.2⟩)
    (Cert.Reference4Ideal.Value.run (F := Ideal) m ρ)

/-- The reference's frame under the precondition. -/
theorem frame_ref_pre [Cert.Pre_finite_sgu_step.Facts] : Cert.quiescent_Reference4Ideal_pre_finite_sgu_step (hReference4Ideal := Cert.Reference4Ideal.Gen.facts) :=
  fun m g _ => frame_ref m g trivial

/-- The one-token spatial-gating call's two arrays are the reference's. -/
theorem algebraic [Cert.Pre_finite_sgu_step.Facts] :
    Cert.algebraic_Kernel4Ideal_Reference4Ideal_pre_finite_sgu_step (hKernel4Ideal := Cert.Kernel4Ideal.Gen.facts) (hReference4Ideal := Cert.Reference4Ideal.Gen.facts) := by
  intro m g m' g' hp hag
  refine ⟨fun c => yAll m c, fun c => vAll m c, ?_, ?_⟩
  · refine (θ_run Cert.Kernel4Ideal.defs _ _).mono (fun r h c => ?_) (Cert.Kernel4Ideal.Value.run_blocks m g)
    exact ⟨(h c).1.trans (arr8 m c), (h c).2.1.trans (arr9 m c), (h c).2.2⟩
  · refine (θ_run Cert.Reference4Ideal.defs _ _).mono (fun r h c => ?_) (Cert.Reference4Ideal.Value.run (F := Ideal) m' g')
    obtain ⟨a0, a1, a2, a3, a4, a5, a6, a7⟩ := hag c
    refine ⟨(h c).1.trans ?_, (h c).2.1.trans ?_, (h c).2.2⟩
    · rw [Cert.Reference4Ideal.Read.val_main_v74_eq, a0, a1, a2, a3, a4, a5, a6, a7]
      funext i
      obtain ⟨b, d, rfl⟩ : ∃ (b : Fin 128) (d : Fin 1024), i = ix2 b d := ⟨i 0, i 1, Cert.ReferenceIdeal.Pool.eq_ix2 _ _ _ rfl rfl⟩
      exact (Cert.Reference4Ideal.Step.v74_read _ _ _ _ _ _ _ _ b d).trans (yAll_read m hp c b d).symm
    · rw [Cert.Reference4Ideal.Read.val_main_v75_eq, a0, a1, a2, a3, a6]
      funext i
      obtain ⟨b, u, k, rfl⟩ : ∃ (b : Fin 128) (u : Fin 1) (k : Fin 2048), i = ix3 b u k :=
        ⟨i 0, i 1, i 2, Cert.ReferenceIdeal.Pool.eq_ix3 _ _ _ _ rfl rfl rfl⟩
      exact (Cert.Reference4Ideal.Step.v75_read _ _ _ _ _ b u k).trans (vAll_read m c b u k).symm

end Cert.SguStepAlg

end
-- ==== Proof.lean ====
module

public import proofs.«01_k».proof.Defs
public import proofs.«01_k».proof.Proof.Gen.Pre_finite_pool
public import proofs.«01_k».proof.Proof.PoolBits
public import proofs.«01_k».proof.Proof.PoolAlg
public import proofs.«01_k».proof.Proof.SguBits
public import proofs.«01_k».proof.Proof.SguAlg
public import proofs.«01_k».proof.Proof.Gen.Kernel2
public import proofs.«01_k».proof.Proof.Gen.Kernel2Ideal.Frame
public import proofs.«01_k».proof.Proof.Gen.Kernel2Ideal.Skeleton
public import proofs.«01_k».proof.Proof.Gen.Reference2Ideal.Run
public import proofs.«01_k».proof.Proof.Gen.Reference2Ideal.Read
public import proofs.«01_k».proof.Proof.Gen.Pre_finite_sgu
public import proofs.«01_k».proof.Proof.Gen.Pre_finite_pool_step
public import proofs.«01_k».proof.Proof.Gen.Pre_finite_sgu_step
public import proofs.«01_k».proof.Proof.StepBits
public import proofs.«01_k».proof.Proof.StepAlg
public import proofs.«01_k».proof.Proof.Gen.Kernel3
public import proofs.«01_k».proof.Proof.Gen.Kernel3Ideal.Frame
public import proofs.«01_k».proof.Proof.Gen.Kernel3Ideal.Skeleton
public import proofs.«01_k».proof.Proof.Gen.Kernel3Ideal.Value
public import proofs.«01_k».proof.Proof.Gen.Reference3Ideal.Run
public import proofs.«01_k».proof.Proof.Gen.Reference3Ideal.Read
public import proofs.«01_k».proof.Proof.SguStepBits
public import proofs.«01_k».proof.Proof.SguStepAlg
public import proofs.«01_k».proof.Proof.Gen.Kernel4
public import proofs.«01_k».proof.Proof.Gen.Kernel4Ideal.Frame
public import proofs.«01_k».proof.Proof.Gen.Kernel4Ideal.Skeleton
public import proofs.«01_k».proof.Proof.Gen.Kernel4Ideal.Value
public import proofs.«01_k».proof.Proof.Gen.Reference4Ideal.Run
public import proofs.«01_k».proof.Proof.Gen.Reference4Ideal.Read

@[expose] public section

noncomputable section

namespace Cert.Proof

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_pool.Gen.facts, Cert.Pre_finite_sgu.Gen.facts, Cert.Pre_finite_pool_step.Gen.facts, Cert.Pre_finite_sgu_step.Gen.facts,
    Cert.Kernel.Pool.frame, Cert.PoolAlg.frame_plain, Cert.PoolAlg.frame_pre, Cert.PoolAlg.frame_ref, Cert.PoolAlg.frame_ref_pre,
    Cert.Kernel2.Sgu.frame, Cert.SguAlg.frame_plain, Cert.SguAlg.frame_pre, Cert.SguAlg.frame_ref, Cert.SguAlg.frame_ref_pre,
    Cert.Kernel3.Step.frame, Cert.StepAlg.frame_plain, Cert.StepAlg.frame_pre, Cert.StepAlg.frame_ref, Cert.StepAlg.frame_ref_pre,
    Cert.Kernel4.Step.frame, Cert.SguStepAlg.frame_plain, Cert.SguStepAlg.frame_pre, Cert.SguStepAlg.frame_ref, Cert.SguStepAlg.frame_ref_pre,
    trivial, Cert.PoolAlg.algebraic, trivial, Cert.SguAlg.algebraic, trivial, Cert.StepAlg.algebraic, trivial, Cert.SguStepAlg.algebraic⟩

end Cert.Proof
